-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨5, ![8, 4, 64, 8, 128]⟩ ⟨5, ![8, 4, 64, 32, 128]⟩ 3 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨5, ![8, 4, 64, 8, 128]⟩ ⟨5, ![8, 4, 64, 32, 128]⟩ 3 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x4096 : Shape := ⟨2, ![1024, 4096]⟩
abbrev S8x4x64x8x128 : Shape := ⟨5, ![8, 4, 64, 8, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S8x4x64x8x128 : S_.BroadcastsInDim S8x4x64x8x128 (![] : Fin 0 → Fin S8x4x64x8x128.rank)
  reducesTo_S8x4x64x8x128_S_d0_1_2_3_4 : S8x4x64x8x128.ReducesTo [0, 1, 2, 3, 4] S_

variable [Facts]

def fn {F : FTy → Type} [FloatOps F] (main_arg0 : FVec F S1x2048x1024 .f32) (main_arg1 : FVec F S1024x4096 .f32) (main_arg2 : FVec F S8x4x64x8x128 .f32) (main_arg3 : FVec F S8x4x64x8x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S8x4x64x8x128 .f32 := Host.absf main_arg2
  let main_cst_2 : FVec F S_ .f32 := constant S_ .f32 0x7F800000#32
  let main_v10 : FVec F S8x4x64x8x128 .f32 := broadcastInDim S8x4x64x8x128 ![] bcast_S_S8x4x64x8x128 main_cst_2
  let main_v11 : IVec S8x4x64x8x128 1 := cmpf .olt main_v9 main_v10
  let main_c_3 : IVec S_ 1 := constantI S_ 1 1#1
  let main_v12 : IVec S_ 1 := (fun x v => Host.reduce IntOp.andi x v reducesTo_S8x4x64x8x128_S_d0_1_2_3_4 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x4096 : Shape := ⟨2, ![1024, 4096]⟩
abbrev S8x4x64x32x128 : Shape := ⟨5, ![8, 4, 64, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S8x4x64x32x128 : S_.BroadcastsInDim S8x4x64x32x128 (![] : Fin 0 → Fin S8x4x64x32x128.rank)
  reducesTo_S8x4x64x32x128_S_d0_1_2_3_4 : S8x4x64x32x128.ReducesTo [0, 1, 2, 3, 4] S_

variable [Facts]

def fn {F : FTy → Type} [FloatOps F] (main_arg0 : FVec F S1x2048x1024 .f32) (main_arg1 : FVec F S1024x4096 .f32) (main_arg2 : FVec F S8x4x64x32x128 .f32) (main_arg3 : FVec F S8x4x64x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S8x4x64x32x128 .f32 := Host.absf main_arg2
  let main_cst_2 : FVec F S_ .f32 := constant S_ .f32 0x7F800000#32
  let main_v10 : FVec F S8x4x64x32x128 .f32 := broadcastInDim S8x4x64x32x128 ![] bcast_S_S8x4x64x32x128 main_cst_2
  let main_v11 : IVec S8x4x64x32x128 1 := cmpf .olt main_v9 main_v10
  let main_c_3 : IVec S_ 1 := constantI S_ 1 1#1
  let main_v12 : IVec S_ 1 := (fun x v => Host.reduce IntOp.andi x v reducesTo_S8x4x64x32x128_S_d0_1_2_3_4 h_S_) main_v11 main_c_3
  let main_v13 : IVec S_ 1 := andi main_v8 main_v12
  main_v13
-- ==== Kernel.lean ====
abbrev S1x2048x1024 : Shape := ⟨3, ![1, 2048, 1024]⟩
abbrev S1024x4096 : Shape := ⟨2, ![1024, 4096]⟩
abbrev S8x4x64x8x128 : Shape := ⟨5, ![8, 4, 64, 8, 128]⟩
abbrev S4096x1024 : Shape := ⟨2, ![4096, 1024]⟩
abbrev S1024x1024 : Shape := ⟨2, ![1024, 1024]⟩
abbrev S4x8x8x64x128 : Shape := ⟨5, ![4, 8, 8, 64, 128]⟩
abbrev S6x256x1024 : Shape := ⟨3, ![6, 256, 1024]⟩
abbrev S4x256x1024 : Shape := ⟨3, ![4, 256, 1024]⟩
abbrev S6 : Shape := ⟨1, ![6]⟩
abbrev S12 : Shape := ⟨1, ![12]⟩
abbrev S1 : Shape := ⟨1, ![1]⟩
abbrev S_ : Shape := ⟨0, ![]⟩
abbrev S1x1x8x64x128 : Shape := ⟨5, ![1, 1, 8, 64, 128]⟩
abbrev S8x64x128 : Shape := ⟨3, ![8, 64, 128]⟩
abbrev S8x1x64x1x128 : Shape := ⟨5, ![8, 1, 64, 1, 128]⟩
abbrev S1x256x1024 : Shape := ⟨3, ![1, 256, 1024]⟩
abbrev S256x1024 : Shape := ⟨2, ![256, 1024]⟩
abbrev S4x64x8x128 : Shape := ⟨4, ![4, 64, 8, 128]⟩
abbrev S1x64x8x128 : Shape := ⟨4, ![1, 64, 8, 128]⟩
abbrev S64x8x128 : Shape := ⟨3, ![64, 8, 128]⟩
abbrev S1x8x8x64x128 : Shape := ⟨5, ![1, 8, 8, 64, 128]⟩
abbrev S8x8x64x128 : Shape := ⟨4, ![8, 8, 64, 128]⟩
abbrev S8x512x128 : Shape := ⟨3, ![8, 512, 128]⟩
abbrev S8x64x512 : Shape := ⟨3, ![8, 64, 512]⟩
abbrev S8x64 : Shape := ⟨2, ![8, 64]⟩
abbrev S8x64x1 : Shape := ⟨3, ![8, 64, 1]⟩
abbrev S64x1024 : Shape := ⟨2, ![64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S8x4x64x8x128, .f32⟩
  | .hbm, ⟨3, _⟩ => ⟨S8x4x64x8x128, .f32⟩
  | .hbm, ⟨4, _⟩ => ⟨S4096x1024, .f32⟩
  | .hbm, ⟨5, _⟩ => ⟨S1x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .f32⟩
  | .local _ .vmem, ⟨3, _⟩ => ⟨S1024x1024, .f32⟩
  | .local _ .vmem, ⟨4, _⟩ => ⟨S4x8x8x64x128, .f32⟩
  | .local _ .vmem, ⟨5, _⟩ => ⟨S4x8x8x64x128, .f32⟩
  | .local _ .vmem, ⟨6, _⟩ => ⟨S6x256x1024, .bf16⟩
  | .local _ .vmem, ⟨7, _⟩ => ⟨S4x256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  ![0, v8.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_5 : BitVec 32 := 1024#32
  let v9 : BitVec 32 := Scalar.muli v2 c1024_i32_5
  let c0_i32_8 : BitVec 32 := 0#32
  ![v9.toNat, 0]
def k0_dev1 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_709 : BitVec 32 := 1#32
  let v401 : BitVec 32 := Scalar.muli v5 c1_i32_709
  let v402 : BitVec 32 := Scalar.addi c0_i32_710 v401
  v402.toNat
def k0_dev2 (d0 : Dev nD) : Nat :=
  let c0_i32_713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_712 : BitVec 32 := 1#32
  let v403 : BitVec 32 := Scalar.muli v7 c1_i32_712
  let v404 : BitVec 32 := Scalar.addi c0_i32_713 v403
  v404.toNat
def k0_off3 (d0 : Dev nD) (c16_i32 : BitVec 32) (c0_i32_717 : BitVec 32) (c0_i32_719 : BitVec 32) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c16_i32
  let v409 : BitVec 32 := Scalar.subi v408 c0_i32_717
  let c4_i32_718 : BitVec 32 := 4#32
  let v410 : BitVec 32 := Scalar.remsi v409 c4_i32_718
  let c512_i32 : BitVec 32 := 512#32
  let v411 : BitVec 32 := Scalar.muli v410 c512_i32
  let v412 : BitVec 32 := Scalar.addi v411 c0_i32_719
  let v413 : Index := Scalar.indexCast v412
  let c0_720 : Index := 0#32
  ![0, v413.toNat, 0]
def k0_off3_at (r : Fin 6) : BitVec 32 × BitVec 32 × BitVec 32 :=
  if r.val < 3 then
    if r.val < 1 then
      (16#32, 0#32, 0#32)
    else
      if r.val < 2 then
        (16#32, 1#32, 0#32)
      else
        (16#32, 2#32, 0#32)
  else
    if r.val < 4 then
      (16#32, 3#32, 0#32)
    else
      if r.val < 5 then
        (1#32, 1#32, 256#32)
      else
        (2#32, 1#32, 256#32)
def k0_off4 (d0 : Dev nD) (c0_i32_1492 : BitVec 32) : Fin 3 → Nat :=
  let c0_1495 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_1491 : BitVec 32 := 16#32
  let v909 : BitVec 32 := Scalar.addi v2 c16_i32_1491
  let v910 : BitVec 32 := Scalar.subi v909 c0_i32_1492
  let c4_i32_1493 : BitVec 32 := 4#32
  let v911 : BitVec 32 := Scalar.remsi v910 c4_i32_1493
  let c512_i32_1494 : BitVec 32 := 512#32
  let v912 : BitVec 32 := Scalar.muli v911 c512_i32_1494
  let v913 : Index := Scalar.indexCast v912
  let c0_1496 : Index := 0#32
  ![0, v913.toNat, 0]
def k0_dev3 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1504 : BitVec 32 := 1#32
  let v920 : BitVec 32 := Scalar.muli v7 c1_i32_1504
  let v921 : BitVec 32 := Scalar.addi c0_i32_1505 v920
  v921.toNat
def k0_off5 (d0 : Dev nD) (c0_i32_1510 : BitVec 32) : Fin 3 → Nat :=
  let c0_1513 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v930 : BitVec 32 := Scalar.addi v2 c0_i32_1510
  let c4_i32_1511 : BitVec 32 := 4#32
  let v931 : BitVec 32 := Scalar.remsi v930 c4_i32_1511
  let c512_i32_1512 : BitVec 32 := 512#32
  let v932 : BitVec 32 := Scalar.muli v931 c512_i32_1512
  let c256_i32 : BitVec 32 := 256#32
  let v933 : BitVec 32 := Scalar.addi v932 c256_i32
  let v934 : Index := Scalar.indexCast v933
  let c0_1514 : Index := 0#32
  ![0, v934.toNat, 0]
def k0_dev4 (d0 : Dev nD) : Nat :=
  let c0_i32_1597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1596 : BitVec 32 := 1#32
  let v1054 : BitVec 32 := Scalar.muli v5 c1_i32_1596
  let v1055 : BitVec 32 := Scalar.addi c0_i32_1597 v1054
  v1055.toNat
def k0_dev5 (d0 : Dev nD) : Nat :=
  let c0_i32_1818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1817 : BitVec 32 := 1#32
  let v1349 : BitVec 32 := Scalar.muli v7 c1_i32_1817
  let v1350 : BitVec 32 := Scalar.addi c0_i32_1818 v1349
  v1350.toNat
def k0_dev6 (d0 : Dev nD) : Nat :=
  let c0_i32_1828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1827 : BitVec 32 := 1#32
  let v1359 : BitVec 32 := Scalar.muli v5 c1_i32_1827
  let v1360 : BitVec 32 := Scalar.addi c0_i32_1828 v1359
  v1360.toNat
def k0_dev7 (d0 : Dev nD) : Nat :=
  let c0_i32_2060 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2059 : BitVec 32 := 1#32
  let v1670 : BitVec 32 := Scalar.muli v7 c1_i32_2059
  let v1671 : BitVec 32 := Scalar.addi c0_i32_2060 v1670
  v1671.toNat
def k0_dev8 (d0 : Dev nD) : Nat :=
  let c0_i32_2070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2069 : BitVec 32 := 1#32
  let v1680 : BitVec 32 := Scalar.muli v5 c1_i32_2069
  let v1681 : BitVec 32 := Scalar.addi c0_i32_2070 v1680
  v1681.toNat
def k0_dev9 (d0 : Dev nD) : Nat :=
  let c0_i32_2314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2313 : BitVec 32 := 1#32
  let v2007 : BitVec 32 := Scalar.muli v7 c1_i32_2313
  let v2008 : BitVec 32 := Scalar.addi c0_i32_2314 v2007
  v2008.toNat
def k0_dev10 (d0 : Dev nD) : Nat :=
  let c0_i32_2323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2322 : BitVec 32 := 1#32
  let v2017 : BitVec 32 := Scalar.muli v5 c1_i32_2322
  let v2018 : BitVec 32 := Scalar.addi c0_i32_2323 v2017
  v2018.toNat
def k0_dev11 (d0 : Dev nD) : Nat :=
  let c0_i32_2371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2370 : BitVec 32 := 1#32
  let v2055 : BitVec 32 := Scalar.muli v7 c1_i32_2370
  let v2056 : BitVec 32 := Scalar.addi c0_i32_2371 v2055
  v2056.toNat
def k0_dev12 (d0 : Dev nD) : Nat :=
  let c0_i32_2380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2379 : BitVec 32 := 1#32
  let v2065 : BitVec 32 := Scalar.muli v5 c1_i32_2379
  let v2066 : BitVec 32 := Scalar.addi c0_i32_2380 v2065
  v2066.toNat
def k0_dev13 (d0 : Dev nD) : Nat :=
  let c0_i32_2446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2445 : BitVec 32 := 1#32
  let v2126 : BitVec 32 := Scalar.muli v7 c1_i32_2445
  let v2127 : BitVec 32 := Scalar.addi c0_i32_2446 v2126
  v2127.toNat
def k0_dev14 (d0 : Dev nD) : Nat :=
  let c0_i32_2455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2454 : BitVec 32 := 1#32
  let v2136 : BitVec 32 := Scalar.muli v5 c1_i32_2454
  let v2137 : BitVec 32 := Scalar.addi c0_i32_2455 v2136
  v2137.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S8x4x64x32x128 : Shape := ⟨5, ![8, 4, 64, 32, 128]⟩
abbrev S4096x1024 : Shape := ⟨2, ![4096, 1024]⟩
abbrev S1x2048x32x128 : Shape := ⟨4, ![1, 2048, 32, 128]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 139
  | .vmem => 0
  | .smem => 0
  | _ => 0

abbrev hbmTy0_0 (i : Nat) : BufTy := match i % 128 with
  | 0 => ⟨S1x2048x1024, .f32⟩
  | 1 => ⟨S1024x4096, .f32⟩
  | 2 => ⟨S8x4x64x32x128, .f32⟩
  | 3 => ⟨S8x4x64x32x128, .f32⟩
  | 4 => ⟨S4096x1024, .f32⟩
  | 5 => ⟨S1x2048x32x128, .f32⟩
  | 6 => ⟨S1x2048x32x128, .f32⟩
  | 7 => ⟨S1x2048x4096, .f32⟩
  | 8 => ⟨S1x2048x32x128, .f32⟩
  | 9 => ⟨S2048, .i32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S2048, .i32⟩
  | 30 => ⟨S_, .i32⟩
  | 31 => ⟨S_, .i32⟩
  | 32 => ⟨S2048, .i32⟩
  | 33 => ⟨S2048, .i32⟩
  | 34 => ⟨S2048, .i32⟩
  | 35 => ⟨S_, .i32⟩
  | 36 => ⟨S2048, .i32⟩
  | 37 => ⟨S2048, .i1⟩
  | 38 => ⟨S2048, .i32⟩
  | 39 => ⟨S2048, .i32⟩
  | 40 => ⟨S_, .i32⟩
  | 41 => ⟨S2048, .i32⟩
  | 42 => ⟨S2048, .i1⟩
  | 43 => ⟨S2048, .i1⟩
  | 44 => ⟨S_, .i32⟩
  | 45 => ⟨S2048, .i32⟩
  | 46 => ⟨S2048, .i32⟩
  | 47 => ⟨S2048, .i32⟩
  | 48 => ⟨S1x2048, .i32⟩
  | 49 => ⟨S2048x2048, .i32⟩
  | 50 => ⟨S2048x2048, .i32⟩
  | 51 => ⟨S2048x2048, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x2048, .i32⟩
  | 59 => ⟨S1x2048, .i32⟩
  | 60 => ⟨S_, .i32⟩
  | 61 => ⟨S1x2048, .i32⟩
  | 62 => ⟨S1x2048, .i1⟩
  | 63 => ⟨S_, .i32⟩
  | 64 => ⟨S1x2048, .i32⟩
  | 65 => ⟨S1x2048, .i1⟩
  | 66 => ⟨S_, .i32⟩
  | 67 => ⟨S_, .i1⟩
  | 68 => ⟨S1x2048, .i1⟩
  | 69 => ⟨S1x2048, .i1⟩
  | 70 => ⟨S1x2048, .i1⟩
  | 71 => ⟨S1x2048, .i32⟩
  | 72 => ⟨S1x2048, .i32⟩
  | 73 => ⟨S1x2048, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S2048x1, .i32⟩
  | 81 => ⟨S2048x1, .i32⟩
  | 82 => ⟨S_, .i32⟩
  | 83 => ⟨S2048x1, .i32⟩
  | 84 => ⟨S2048x1, .i1⟩
  | 85 => ⟨S_, .i32⟩
  | 86 => ⟨S2048x1, .i32⟩
  | 87 => ⟨S2048x1, .i1⟩
  | 88 => ⟨S_, .i32⟩
  | 89 => ⟨S_, .i1⟩
  | 90 => ⟨S2048x1, .i1⟩
  | 91 => ⟨S2048x1, .i1⟩
  | 92 => ⟨S2048x1, .i1⟩
  | 93 => ⟨S2048x1, .i32⟩
  | 94 => ⟨S2048x1, .i32⟩
  | 95 => ⟨S2048x1, .i32⟩
  | 96 => ⟨S2048x2048, .i32⟩
  | 97 => ⟨S2048x2048, .i32⟩
  | 98 => ⟨S2048x2048, .i1⟩
  | 99 => ⟨S2048x2048, .i1⟩
  | 100 => ⟨S1x32x2048x2048, .f32⟩
  | 101 => ⟨S_, .f32⟩
  | 102 => ⟨S1x32x2048x2048, .f32⟩
  | 103 => ⟨S1x32x2048x2048, .f32⟩
  | 104 => ⟨S1x1x2048x2048, .i1⟩
  | 105 => ⟨S_, .f32⟩
  | 106 => ⟨S_, .f32⟩
  | 107 => ⟨S1x32x2048x2048, .i1⟩
  | 108 => ⟨S1x32x2048x2048, .f32⟩
  | 109 => ⟨S1x32x2048x2048, .f32⟩
  | 110 => ⟨S_, .f32⟩
  | 111 => ⟨S1x32x2048, .f32⟩
  | 112 => ⟨S1x32x2048x1, .f32⟩
  | 113 => ⟨S1x32x2048x2048, .f32⟩
  | 114 => ⟨S1x32x2048x2048, .f32⟩
  | 115 => ⟨S1x32x2048x2048, .f32⟩
  | 116 => ⟨S_, .i1⟩
  | 117 => ⟨S2048, .i1⟩
  | 118 => ⟨S1x1x2048x1, .i1⟩
  | 119 => ⟨S_, .f32⟩
  | 120 => ⟨S1x32x2048, .f32⟩
  | 121 => ⟨S1x32x2048x1, .f32⟩
  | 122 => ⟨S_, .f32⟩
  | 123 => ⟨S_, .f32⟩
  | 124 => ⟨S1x32x2048x1, .i1⟩
  | 125 => ⟨S1x32x2048x1, .f32⟩
  | 126 => ⟨S1x32x2048x1, .f32⟩
  | 127 => ⟨S1x32x2048x2048, .f32⟩
  | _ => ⟨S1x2048x1024, .f32⟩

abbrev hbmTy0_1 (i : Nat) : BufTy := match i % 128 with
  | 0 => ⟨S1x32x2048x2048, .f32⟩
  | 1 => ⟨S1x1x2048x1, .i1⟩
  | 2 => ⟨S_, .f32⟩
  | 3 => ⟨S_, .f32⟩
  | 4 => ⟨S1x32x2048x2048, .i1⟩
  | 5 => ⟨S1x32x2048x2048, .f32⟩
  | 6 => ⟨S1x32x2048x2048, .f32⟩
  | 7 => ⟨S1x32x128x2048, .f32⟩
  | 8 => ⟨S1x2048x32x128, .f32⟩
  | 9 => ⟨S1x2048x4096, .f32⟩
  | 10 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Geo.lean ====
/-
# The kernel's windows, and what its buffers hold

Names for the windows the kernel copies, sends and reads (the halves of a chunk of rows, the slots of the two
communication buffers, the tiles of the key and value caches, the slices of the two weight matrices), the CONTENTS each
buffer holds as a function of what a launch's memory holds, and the lemmas that read and write those contents window by
window. No separation logic here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Run

open Cert.KernelIdeal Cert.KernelIdeal.Gen
open Idealize.ShloMosaic Idealize.ShloMosaic.ValueIdx Idealize.ShloMosaic.TcCoe Idealize.SL.Sem

variable {F : FTy → Type} [FloatOps F]

/-! ## The messages

Message `j` of the twelve (numbered as the kernel numbers its send and receive semaphores): `j / 6` is the half of the
run (reduce-scatter, all-gather), `(j / 3) % 2` the direction (0 clockwise, 1 counter-clockwise), `j % 3` the step,
`j % 6` the communication slot it lands in. -/

set_option backward.proofsInPublic true in
/-- The direction of message `j`. -/
def dir (j : Fin 12) : Fin 2 := ⟨(j.val / 3) % 2, Nat.mod_lt _ (by decide)⟩
set_option backward.proofsInPublic true in
/-- The slot message `j` lands in. -/
def slot (j : Fin 12) : Fin 6 := ⟨j.val % 6, Nat.mod_lt _ (by decide)⟩
set_option backward.proofsInPublic true in
/-- The device a direction's messages go to: the next one clockwise, the one before counter-clockwise; -/
def toD (d : Fin 2) (c : Dev nD) : Dev nD := ⟨(c.val + if d = 0 then 1 else 3) % 4, Nat.mod_lt _ (by decide)⟩
set_option backward.proofsInPublic true in
/-- and the one they come from. -/
def fromD (d : Fin 2) (c : Dev nD) : Dev nD := ⟨(c.val + if d = 0 then 3 else 1) % 4, Nat.mod_lt _ (by decide)⟩

theorem fromD_toD (d : Fin 2) (c : Dev nD) : fromD d (toD d c) = c := by revert d c; decide
theorem toD_fromD (d : Fin 2) (c : Dev nD) : toD d (fromD d c) = c := by revert d c; decide

/-- The slot of the SENDER's own, already read, that message `j` hands back to its receiver (the receiver writes it in the
    all-gather): the clockwise messages of steps 2, 3, 4 the slots 3, 4, 5, the counter-clockwise ones 0, 1, 2. -/
def back (j : Fin 12) : Option (Fin 6) :=
  match j with
  | 2 => some 3 | 6 => some 4 | 7 => some 5
  | 5 => some 0 | 9 => some 1 | 10 => some 2
  | _ => none

/-! ## The windows -/

theorem inb_comm (k : Fin 6) : ∀ a, (![k.val, 0, 0] : Fin 3 → Nat) a + S1x256x1024.size a ≤ S6x256x1024.size a := by revert k; decide
theorem inb_stage (k : Fin 4) : ∀ a, (![k.val, 0, 0] : Fin 3 → Nat) a + S1x256x1024.size a ≤ S4x256x1024.size a := by revert k; decide

abbrev xM : Memref sig .tc .vmem S1x2048x1024 .f32 := Memref.whole cc0_stg0_0
abbrev oM : Memref sig .tc .vmem S1x2048x1024 .f32 := Memref.whole cc0_stg1_0
abbrev wqM : Memref sig .tc .vmem S1024x1024 .f32 := Memref.whole cc0_scratch0
abbrev woM : Memref sig .tc .vmem S1024x1024 .f32 := Memref.whole cc0_scratch1
/-- The two caches' staging buffers: keys `0`, values `1`; -/
abbrev kvM (b : Fin 2) : Memref sig .tc .vmem S4x8x8x64x128 .f32 := if b = 0 then Memref.whole cc0_scratch2 else Memref.whole cc0_scratch3
abbrev cM : Memref sig .tc .vmem S6x256x1024 .bf16 := Memref.whole cc0_scratch4
abbrev sM : Memref sig .tc .vmem S4x256x1024 .bf16 := Memref.whole cc0_scratch5

/-- Slot `k` of the landing buffer as a rectangle, and as the memref the transfers name; -/
abbrev rC (k : Fin 6) : Rect S6x256x1024 := Rect.unit (s := S6x256x1024) ![k.val, 0, 0] S1x256x1024.size (inb_comm k)
abbrev commV (k : Fin 6) : Memref sig .tc .vmem S256x1024 .bf16 := (cM.slice (rC k) (fun _ => rfl)).squeeze S256x1024 squeezes_S1x256x1024_S256x1024
/-- slot `k` of the staging buffer of outgoing messages. -/
abbrev rS (k : Fin 4) : Rect S4x256x1024 := Rect.unit (s := S4x256x1024) ![k.val, 0, 0] S1x256x1024.size (inb_stage k)
abbrev stageV (k : Fin 4) : Memref sig .tc .vmem S256x1024 .bf16 := (sM.slice (rS k) (fun _ => rfl)).squeeze S256x1024 squeezes_S1x256x1024_S256x1024

theorem inb_kv (r : Fin 4) (h : Fin 8) : ∀ a, (![r.val, h.val, 0, 0, 0] : Fin 5 → Nat) a + S1x1x8x64x128.size a ≤ S4x8x8x64x128.size a := by
  revert r h; decide
theorem inb_arr (r : Fin 4) (h : Fin 8) : ∀ a, (![0, r.val, 0, h.val, 0] : Fin 5 → Nat) a + S8x1x64x1x128.size a ≤ S8x4x64x8x128.size a := by
  revert r h; decide
theorem inb_grp (r : Fin 4) : ∀ a, (![r.val, 0, 0, 0, 0] : Fin 5 → Nat) a + S1x8x8x64x128.size a ≤ S4x8x8x64x128.size a := by
  revert r; decide

/-- The tile of residue group `r`, head `h` of a cache's staging buffer, -/
abbrev kvV (M : Memref sig .tc .vmem S4x8x8x64x128 .f32) (r : Fin 4) (h : Fin 8) : Memref sig .tc .vmem S8x64x128 .f32 :=
  (M.slice (Rect.unit (s := S4x8x8x64x128) ![r.val, h.val, 0, 0, 0] S1x1x8x64x128.size (inb_kv r h)) (fun _ => rfl)).squeeze S8x64x128 squeezes_S1x1x8x64x128_S8x64x128
/-- and the window of the cache in HBM it is copied from. -/
abbrev arrV (M : Memref sig .tc .hbm S8x4x64x8x128 .f32) (r : Fin 4) (h : Fin 8) : Memref sig .tc .hbm S8x64x128 .f32 :=
  (M.slice (Rect.unit (s := S8x4x64x8x128) ![0, r.val, 0, h.val, 0] S8x1x64x1x128.size (inb_arr r h)) (fun _ => rfl)).squeeze S8x64x128 squeezes_S8x1x64x1x128_S8x64x128
/-- The eight heads of group `r`. -/
abbrev rG (r : Fin 4) : Rect S4x8x8x64x128 := Rect.unit (s := S4x8x8x64x128) ![r.val, 0, 0, 0, 0] S1x8x8x64x128.size (inb_grp r)

/-- Device `c`'s slices of the two weight matrices. -/
abbrev wqV (c : Dev nD) : Memref sig .tc .hbm S1024x1024 .f32 :=
  (Memref.whole main_arg1).slice (Rect.unit (s := S1024x4096) (k0_off1 c) S1024x1024.size (k0_off1_inb c)) (fun _ => rfl)
abbrev woV (c : Dev nD) : Memref sig .tc .hbm S1024x1024 .f32 :=
  (Memref.whole main_arg4).slice (Rect.unit (s := S4096x1024) (k0_off2 c) S1024x1024.size (k0_off2_inb c)) (fun _ => rfl)

/-! ## Rows

Step `k`'s half chunk of direction `d` on device `c`: clockwise the first half of chunk `c - k`, counter-clockwise the
second half of chunk `c + k` (chunks mod 4). -/

/-- The first row of the half chunk. -/
def row (c : Dev nD) (d : Fin 2) (k : Fin 4) : ℕ := if d = 0 then 512 * ((c.val + 16 - k.val) % 4) else 512 * ((c.val + k.val) % 4) + 256

theorem row_inb (c : Dev nD) (d : Fin 2) (k : Fin 4) : ∀ a, (![0, row c d k, 0] : Fin 3 → Nat) a + S1x256x1024.size a ≤ S1x2048x1024.size a := by
  revert c d k; decide
abbrev rR (c : Dev nD) (d : Fin 2) (k : Fin 4) : Rect S1x2048x1024 := Rect.unit (s := S1x2048x1024) ![0, row c d k, 0] S1x256x1024.size (row_inb c d k)

theorem off3_cw (c : Dev nD) (k : Fin 4) : k0_off3 c 16#32 (BitVec.ofNat 32 k.val) 0#32 = ![0, row c 0 k, 0] := by revert c k; decide +kernel
theorem off4_cw (c : Dev nD) (k : Fin 4) : k0_off4 c (BitVec.ofNat 32 k.val) = ![0, row c 0 k, 0] := by revert c k; decide +kernel
theorem off5_ccw (c : Dev nD) (k : Fin 4) : k0_off5 c (BitVec.ofNat 32 k.val) = ![0, row c 1 k, 0] := by revert c k; decide +kernel
theorem off3_ccw0 (c : Dev nD) : k0_off3 c 1#32 1#32 256#32 = ![0, row c 1 0, 0] := by revert c; decide +kernel
theorem off3_ccw1 (c : Dev nD) : k0_off3 c 2#32 1#32 256#32 = ![0, row c 1 1, 0] := by revert c; decide +kernel

/-- The half chunk (direction, step) a row lies in, on device `c`. -/
def dirOf (i : ℕ) : Fin 2 := ⟨(i / 256) % 2, Nat.mod_lt _ (by decide)⟩
def stepOf (c : Dev nD) (i : ℕ) : Fin 4 :=
  ⟨(if (i / 256) % 2 = 0 then c.val + 16 - i / 512 else i / 512 + 16 - c.val) % 4, Nat.mod_lt _ (by decide)⟩

theorem dirOf_congr {i j : ℕ} (h : i / 256 = j / 256) : dirOf i = dirOf j := Fin.ext (by show (i / 256) % 2 = (j / 256) % 2; rw [h])
theorem stepOf_congr (c : Dev nD) {i j : ℕ} (h : i / 256 = j / 256) : stepOf c i = stepOf c j := Fin.ext (by
  show (if (i / 256) % 2 = 0 then c.val + 16 - i / 512 else i / 512 + 16 - c.val) % 4 = (if (j / 256) % 2 = 0 then c.val + 16 - j / 512 else j / 512 + 16 - c.val) % 4
  rw [h, show i / 512 = j / 512 by omega])

/-- A row's half chunk begins at the row rounded down to 256. -/
theorem row_of (c : Dev nD) (i : ℕ) (hi : i < 2048) : row c (dirOf i) (stepOf c i) = 256 * (i / 256) := by
  have h : ∀ (c : Dev nD) (b : Fin 8), row c (dirOf (256 * b.val)) (stepOf c (256 * b.val)) = 256 * b.val := by decide
  have hb := h c ⟨i / 256, by omega⟩
  rw [dirOf_congr (j := i) (by show 256 * (i / 256) / 256 = i / 256; omega),
    stepOf_congr c (j := i) (by show 256 * (i / 256) / 256 = i / 256; omega)] at hb
  exact hb

theorem half_of_row (c : Dev nD) (d : Fin 2) (k : Fin 4) (x : ℕ) (hx : x < 256) :
    dirOf (row c d k + x) = d ∧ stepOf c (row c d k + x) = k ∧ (row c d k + x) % 256 = x := by
  have h : ∀ (c : Dev nD) (d : Fin 2) (k : Fin 4), row c d k % 256 = 0 ∧ dirOf (row c d k) = d ∧ stepOf c (row c d k) = k := by decide
  obtain ⟨h0, h1, h2⟩ := h c d k
  have e1 : (row c d k + x) / 256 = row c d k / 256 := by omega
  exact ⟨(dirOf_congr e1).trans h1, (stepOf_congr c e1).trans h2, by omega⟩

/-! ## Contents held window by window -/

abbrev Half (F : FTy → Type) : Type := Vec F S1x256x1024 .f32
abbrev Msg (F : FTy → Type) : Type := Vec F S1x256x1024 .bf16

/-- The result's staging buffer, its eight half chunks holding `v`. -/
def asm (c : Dev nD) (v : Fin 2 → Fin 4 → Half F) : (cc0_stg1_0 : Ref sig .tc).ty.Contents (Elt F) :=
  fun i => v (dirOf (i 1).val) (stepOf c (i 1).val) (ix3 (0 : Fin 1) (⟨(i 1).val % 256, Nat.mod_lt _ (by decide)⟩ : Fin 256) (i 2))

/-- The family with half chunk `(d, k)` replaced. -/
def upd (v : Fin 2 → Fin 4 → Half F) (d : Fin 2) (k : Fin 4) (w : Half F) : Fin 2 → Fin 4 → Half F :=
  fun d' k' => if d' = d ∧ k' = k then w else v d' k'

omit [FloatOps F] in
/-- Every contents of the staging buffer is its eight half chunks put together. -/
theorem asm_read (c : Dev nD) (f : (cc0_stg1_0 : Ref sig .tc).ty.Contents (Elt F)) :
    asm c (fun d k => oM.view.readAt (Elt F) (rR c d k).toLoadRect f) = f := by
  funext i
  unfold asm
  show f _ = f i
  congr 1
  have hi : (i 1).val < 2048 := (i 1).isLt
  have hb := row_of c (i 1).val hi
  funext a
  apply Fin.ext
  fin_cases a
  · have h0 : (i 0).val < 1 := (i 0).isLt
    show 0 + 1 * 0 = (i 0).val
    omega
  · show row c (dirOf (i 1).val) (stepOf c (i 1).val) + 1 * ((i 1).val % 256) = (i 1).val
    rw [hb]; omega
  · show 0 + 1 * (i 2).val = (i 2).val
    omega

omit [FloatOps F] in
/-- A load of a half chunk reads that half chunk. -/
theorem read_asm (c : Dev nD) (v : Fin 2 → Fin 4 → Half F) (d : Fin 2) (k : Fin 4) :
    oM.view.readAt (Elt F) (rR c d k).toLoadRect (asm c v) = v d k := by
  funext x
  show asm c v _ = v d k x
  unfold asm
  have hx : (x 1).val < 256 := (x 1).isLt
  have h0 : (x 0).val < 1 := (x 0).isLt
  obtain ⟨h1, h2, h3⟩ := half_of_row c d k (1 * (x 1).val) (by omega)
  show v (dirOf (row c d k + 1 * (x 1).val)) (stepOf c (row c d k + 1 * (x 1).val)) _ = _
  rw [h1, h2]
  congr 1
  funext a
  apply Fin.ext
  fin_cases a
  · show 0 = (x 0).val
    omega
  · show (row c d k + 1 * (x 1).val) % 256 = (x 1).val
    rw [h3]; omega
  · show 0 + 1 * (x 2).val = (x 2).val
    omega

omit [FloatOps F] in
/-- A store of a half chunk replaces that half chunk. -/
theorem write_asm (c : Dev nD) (v : Fin 2 → Fin 4 → Half F) (d : Fin 2) (k : Fin 4) (w : Half F) :
    (oM.access (rR c d k) : View sig .tc _ _ _).write (Elt F) (asm c v) w Finset.univ = asm c (upd v d k w) := by
  funext i
  by_cases hi : i ∈ (oM.access (rR c d k) : View sig .tc _ _ _).set
  · obtain ⟨x, -, rfl⟩ := Finset.mem_map.mp hi
    rw [View.write_emb_of_mem _ _ (Finset.mem_univ x)]
    have hx : (x 1).val < 256 := (x 1).isLt
    have h0 : (x 0).val < 1 := (x 0).isLt
    obtain ⟨h1, h2, h3⟩ := half_of_row c d k (1 * (x 1).val) (by omega)
    show w x = upd v d k w (dirOf (row c d k + 1 * (x 1).val)) (stepOf c (row c d k + 1 * (x 1).val)) _
    rw [h1, h2, upd, if_pos ⟨rfl, rfl⟩]
    congr 1
    funext a
    apply Fin.ext
    fin_cases a
    · show (x 0).val = 0
      omega
    · show (x 1).val = (row c d k + 1 * (x 1).val) % 256
      rw [h3]; omega
    · show (x 2).val = 0 + 1 * (x 2).val
      omega
  · rw [View.write_of_not_mem _ _ _ (by rw [View.setOn_univ]; exact hi)]
    unfold asm upd
    rw [if_neg]
    rintro ⟨h1, h2⟩
    apply hi
    refine Finset.mem_map.mpr ⟨ix3 (0 : Fin 1) (⟨(i 1).val % 256, Nat.mod_lt _ (by decide)⟩ : Fin 256) (i 2), Finset.mem_univ _, ?_⟩
    have hb := row_of c (i 1).val (i 1).isLt
    rw [h1, h2] at hb
    funext a
    apply Fin.ext
    fin_cases a
    · have h0 : (i 0).val < 1 := (i 0).isLt
      show 0 + 1 * 0 = (i 0).val
      omega
    · show row c d k + 1 * ((i 1).val % 256) = (i 1).val
      rw [hb]; omega
    · show 0 + 1 * (i 2).val = (i 2).val
      omega

/-- A communication buffer every slot of which holds the message `w` (stated of one slot's elements at a time). -/
def commB (w : Msg F) : (cc0_scratch4 : Ref sig .tc).ty.Contents (Elt F) := fun i => w (ix3 (0 : Fin 1) (i 1) (i 2))
/-- The same of the staging buffer. -/
def stageB (w : Msg F) : (cc0_scratch5 : Ref sig .tc).ty.Contents (Elt F) := fun i => w (ix3 (0 : Fin 1) (i 1) (i 2))

omit [FloatOps F] in
theorem read_commB (k : Fin 6) (w : Msg F) : cM.view.readAt (Elt F) (rC k).toLoadRect (commB w) = w := by
  funext x
  show w _ = w x
  have h0 : (x 0).val < 1 := (x 0).isLt
  congr 1; funext a; apply Fin.ext
  fin_cases a
  · show 0 = (x 0).val
    omega
  · show 0 + 1 * (x 1).val = (x 1).val
    omega
  · show 0 + 1 * (x 2).val = (x 2).val
    omega

omit [FloatOps F] in
theorem write_stage (k : Fin 4) (w : Msg F) (f : (cc0_scratch5 : Ref sig .tc).ty.Contents (Elt F)) :
    ∀ i ∈ (sM.access (rS k) : View sig .tc _ _ _).set, (sM.access (rS k) : View sig .tc _ _ _).write (Elt F) f w Finset.univ i = stageB w i := by
  intro i hi
  obtain ⟨x, -, rfl⟩ := Finset.mem_map.mp hi
  rw [View.write_emb_of_mem _ _ (Finset.mem_univ x)]
  show w x = w _
  have h0 : (x 0).val < 1 := (x 0).isLt
  congr 1; funext a; apply Fin.ext
  fin_cases a
  · show (x 0).val = 0
    omega
  · show (x 1).val = 0 + 1 * (x 1).val
    omega
  · show (x 2).val = 0 + 1 * (x 2).val
    omega

omit [FloatOps F] in
/-- A message sent from a staging slot lands as it was staged; -/
theorem land_stage (s : Fin 4) (k : Fin 6) (w : Msg F) (f : (cc0_scratch4 : Ref sig .tc).ty.Contents (Elt F)) :
    ∀ i ∈ (commV k).view.set, (commV k).view.write (Elt F) f ((stageV s).view.read (Elt F) (stageB w)) Finset.univ i = commB w i := by
  intro i hi
  obtain ⟨x, -, rfl⟩ := Finset.mem_map.mp hi
  rw [View.write_emb_of_mem _ _ (Finset.mem_univ x)]
  rfl

omit [FloatOps F] in
/-- one forwarded from a landing slot as it landed. -/
theorem land_comm (s : Fin 6) (k : Fin 6) (w : Msg F) (f : (cc0_scratch4 : Ref sig .tc).ty.Contents (Elt F)) :
    ∀ i ∈ (commV k).view.set, (commV k).view.write (Elt F) f ((commV s).view.read (Elt F) (commB w)) Finset.univ i = commB w i := by
  intro i hi
  obtain ⟨x, -, rfl⟩ := Finset.mem_map.mp hi
  rw [View.write_emb_of_mem _ _ (Finset.mem_univ x)]
  rfl

/-! ## The caches' staging buffers -/

/-- A cache `f` of the HBM array's shape `[8, 4, 64, 8, 128]` gathered by residue group and head: `[4, 8, 8, 64, 128]`. -/
def gath (f : Vec F S8x4x64x8x128 .f32) : Vec F S4x8x8x64x128 .f32 := fun i => f (ix5 (i 2) (i 0) (i 3) (i 1) (i 4))

theorem squeeze_kv (h : S8x64x128.numel = S1x1x8x64x128.numel) (x : S8x64x128.Idx) :
    Shape.reshapeEquiv h x = ix5 (0 : Fin 1) (0 : Fin 1) (x 0) (x 1) (x 2) := by
  conv_lhs => rw [eq_ix3 x]
  exact reshapeEquiv_ix3_11abc h (x 0) (x 1) (x 2)
theorem squeeze_mid {a b c : ℕ} (h : (⟨3, ![a, b, c]⟩ : Shape).numel = (⟨5, ![a, 1, b, 1, c]⟩ : Shape).numel) (x : Fin a) (y : Fin b) (z : Fin c) :
    Shape.reshapeEquiv h (ix3 x y z) = ix5 x (0 : Fin 1) y (0 : Fin 1) z :=
  Shape.reshapeEquiv_eq_of_rowMajor h (by
    rw [Shape.rowMajor_val_five, Shape.rowMajor_val_three]
    show (((x.val * 1 + 0) * b + y.val) * 1 + 0) * c + z.val = (x.val * b + y.val) * c + z.val
    simp only [Nat.mul_one, Nat.add_zero])
theorem squeeze_arr (h : S8x64x128.numel = S8x1x64x1x128.numel) (x : S8x64x128.Idx) :
    Shape.reshapeEquiv h x = ix5 (x 0) (0 : Fin 1) (x 1) (0 : Fin 1) (x 2) := by
  conv_lhs => rw [eq_ix3 x]
  exact squeeze_mid h (x 0) (x 1) (x 2)

abbrev kM : Memref sig .tc .vmem S4x8x8x64x128 .f32 := Memref.whole cc0_scratch2
abbrev vM : Memref sig .tc .vmem S4x8x8x64x128 .f32 := Memref.whole cc0_scratch3
abbrev kA : Memref sig .tc .hbm S8x4x64x8x128 .f32 := Memref.whole main_arg2
abbrev vA : Memref sig .tc .hbm S8x4x64x8x128 .f32 := Memref.whole main_arg3

omit [FloatOps F] in
theorem gath_tile (r : Fin 4) (h : Fin 8) (f : Vec F S8x4x64x8x128 .f32) (x : S8x64x128.Idx) (y : S1x1x8x64x128.Idx) (z : S8x1x64x1x128.Idx)
    (hy : y = ix5 (0 : Fin 1) (0 : Fin 1) (x 0) (x 1) (x 2)) (hz : z = ix5 (x 0) (0 : Fin 1) (x 1) (0 : Fin 1) (x 2)) :
    f ((Rect.unit (s := S8x4x64x8x128) ![0, r.val, 0, h.val, 0] S8x1x64x1x128.size (inb_arr r h)).emb z)
      = gath f ((Rect.unit (s := S4x8x8x64x128) ![r.val, h.val, 0, 0, 0] S1x1x8x64x128.size (inb_kv r h)).emb y) := by
  subst hy; subst hz
  unfold gath
  congr 1
  funext a
  apply Fin.ext
  fin_cases a <;> rfl

omit [FloatOps F] in
/-- A tile of the key cache lands as the gathered cache has it; -/
theorem land_k (r : Fin 4) (h : Fin 8) (f : (main_arg2 : Ref sig .tc).ty.Contents (Elt F)) (g : (cc0_scratch2 : Ref sig .tc).ty.Contents (Elt F)) :
    ∀ i ∈ (kvV kM r h).view.set, (kvV kM r h).view.write (Elt F) g ((arrV kA r h).view.read (Elt F) f) Finset.univ i = gath (F := F) f i := by
  intro i hi
  obtain ⟨x, -, rfl⟩ := Finset.mem_map.mp hi
  rw [View.write_emb_of_mem _ _ (Finset.mem_univ x)]
  exact gath_tile r h f x _ _ (squeeze_kv squeezes_S1x1x8x64x128_S8x64x128.numel_eq x) (squeeze_arr squeezes_S8x1x64x1x128_S8x64x128.numel_eq x)
omit [FloatOps F] in
/-- and one of the value cache. -/
theorem land_v (r : Fin 4) (h : Fin 8) (f : (main_arg3 : Ref sig .tc).ty.Contents (Elt F)) (g : (cc0_scratch3 : Ref sig .tc).ty.Contents (Elt F)) :
    ∀ i ∈ (kvV vM r h).view.set, (kvV vM r h).view.write (Elt F) g ((arrV vA r h).view.read (Elt F) f) Finset.univ i = gath (F := F) f i := by
  intro i hi
  obtain ⟨x, -, rfl⟩ := Finset.mem_map.mp hi
  rw [View.write_emb_of_mem _ _ (Finset.mem_univ x)]
  exact gath_tile r h f x _ _ (squeeze_kv squeezes_S1x1x8x64x128_S8x64x128.numel_eq x) (squeeze_arr squeezes_S8x1x64x1x128_S8x64x128.numel_eq x)

/-- Group `r` of a cache, as one load of its staging buffer reads it. -/
def grp (f : Vec F S8x4x64x8x128 .f32) (r : Fin 4) : Vec F S1x8x8x64x128 .f32 := fun i => f (ix5 (i 2) r (i 3) (i 1) (i 4))

omit [FloatOps F] in
theorem gath_grp (r : Fin 4) (f : Vec F S8x4x64x8x128 .f32) (x : S1x8x8x64x128.Idx) : gath f ((rG r).emb x) = grp f r x := by
  have h0 : (x 0).val < 1 := (x 0).isLt
  unfold gath grp
  congr 1
  funext a
  apply Fin.ext
  fin_cases a
  · show 0 + 1 * (x 2).val = (x 2).val
    omega
  · show r.val + 1 * (x 0).val = r.val
    omega
  · show 0 + 1 * (x 3).val = (x 3).val
    omega
  · show 0 + 1 * (x 1).val = (x 1).val
    omega
  · show 0 + 1 * (x 4).val = (x 4).val
    omega

omit [FloatOps F] in
theorem read_k (r : Fin 4) (f : Vec F S8x4x64x8x128 .f32) : kM.view.readAt (Elt F) (rG r).toLoadRect (gath f) = grp f r := funext (gath_grp r f)
omit [FloatOps F] in
theorem read_v (r : Fin 4) (f : Vec F S8x4x64x8x128 .f32) : vM.view.readAt (Elt F) (rG r).toLoadRect (gath f) = grp f r := funext (gath_grp r f)

/-! ## Which elements a window has -/

theorem set_squeezed {κ : Kind} {sp : Space} {s s' : Shape} {e : EltTy} (m : Memref sig κ sp s e) (hq : s.Squeezes s') :
    (m.squeeze s' hq).view.set = m.view.set := View.set_reshape _ _
theorem mem_tile (b : Ref sig .tc) (off : Fin b.ty.shape.rank → ℕ) (size) (inb) (i : b.ty.shape.Idx) :
    i ∈ ((View.whole b).slice (Rect.unit (s := b.ty.shape) off size inb)).set ↔ ∀ a, off a ≤ i a ∧ (i a : ℕ) < off a + size a := by
  rw [View.set_slice_whole, Rect.mem_set_unit]

theorem mem_commV (k : Fin 6) (i : S6x256x1024.Idx) : i ∈ (commV k).view.set ↔ (i 0).val = k.val := by
  rw [set_squeezed]
  refine (mem_tile cc0_scratch4 _ _ _ i).trans ⟨fun h => ?_, fun h a => ?_⟩
  · have := h 0
    change k.val ≤ (i 0).val ∧ (i 0).val < k.val + 1 at this
    omega
  · have h1 : (i 1).val < 256 := (i 1).isLt
    have h2 : (i 2).val < 1024 := (i 2).isLt
    fin_cases a
    · show k.val ≤ (i 0).val ∧ (i 0).val < k.val + 1
      omega
    · show 0 ≤ (i 1).val ∧ (i 1).val < 0 + 256
      omega
    · show 0 ≤ (i 2).val ∧ (i 2).val < 0 + 1024
      omega
theorem mem_stageV (k : Fin 4) (i : S4x256x1024.Idx) : i ∈ (stageV k).view.set ↔ (i 0).val = k.val := by
  rw [set_squeezed]
  refine (mem_tile cc0_scratch5 _ _ _ i).trans ⟨fun h => ?_, fun h a => ?_⟩
  · have := h 0
    change k.val ≤ (i 0).val ∧ (i 0).val < k.val + 1 at this
    omega
  · have h1 : (i 1).val < 256 := (i 1).isLt
    have h2 : (i 2).val < 1024 := (i 2).isLt
    fin_cases a
    · show k.val ≤ (i 0).val ∧ (i 0).val < k.val + 1
      omega
    · show 0 ≤ (i 1).val ∧ (i 1).val < 0 + 256
      omega
    · show 0 ≤ (i 2).val ∧ (i 2).val < 0 + 1024
      omega

theorem mem_kv_of (r : Fin 4) (h : Fin 8) (i : S4x8x8x64x128.Idx) :
    (∀ a, (![r.val, h.val, 0, 0, 0] : Fin 5 → ℕ) a ≤ (i a).val ∧ (i a).val < (![r.val, h.val, 0, 0, 0] : Fin 5 → ℕ) a + S1x1x8x64x128.size a)
      ↔ (i 0).val = r.val ∧ (i 1).val = h.val := by
  refine ⟨fun H => ?_, fun H a => ?_⟩
  · have h0 := H 0
    have h1 := H 1
    change r.val ≤ (i 0).val ∧ (i 0).val < r.val + 1 at h0
    change h.val ≤ (i 1).val ∧ (i 1).val < h.val + 1 at h1
    omega
  · have h2 : (i 2).val < 8 := (i 2).isLt
    have h3 : (i 3).val < 64 := (i 3).isLt
    have h4 : (i 4).val < 128 := (i 4).isLt
    obtain ⟨e0, e1⟩ := H
    fin_cases a
    · show r.val ≤ (i 0).val ∧ (i 0).val < r.val + 1
      omega
    · show h.val ≤ (i 1).val ∧ (i 1).val < h.val + 1
      omega
    · show 0 ≤ (i 2).val ∧ (i 2).val < 0 + 8
      omega
    · show 0 ≤ (i 3).val ∧ (i 3).val < 0 + 64
      omega
    · show 0 ≤ (i 4).val ∧ (i 4).val < 0 + 128
      omega
theorem mem_arr_of (r : Fin 4) (h : Fin 8) (i : S8x4x64x8x128.Idx) :
    (∀ a, (![0, r.val, 0, h.val, 0] : Fin 5 → ℕ) a ≤ (i a).val ∧ (i a).val < (![0, r.val, 0, h.val, 0] : Fin 5 → ℕ) a + S8x1x64x1x128.size a)
      ↔ (i 1).val = r.val ∧ (i 3).val = h.val := by
  refine ⟨fun H => ?_, fun H a => ?_⟩
  · have h0 := H 1
    have h1 := H 3
    change r.val ≤ (i 1).val ∧ (i 1).val < r.val + 1 at h0
    change h.val ≤ (i 3).val ∧ (i 3).val < h.val + 1 at h1
    omega
  · have h2 : (i 0).val < 8 := (i 0).isLt
    have h3 : (i 2).val < 64 := (i 2).isLt
    have h4 : (i 4).val < 128 := (i 4).isLt
    obtain ⟨e0, e1⟩ := H
    fin_cases a
    · show 0 ≤ (i 0).val ∧ (i 0).val < 0 + 8
      omega
    · show r.val ≤ (i 1).val ∧ (i 1).val < r.val + 1
      omega
    · show 0 ≤ (i 2).val ∧ (i 2).val < 0 + 64
      omega
    · show h.val ≤ (i 3).val ∧ (i 3).val < h.val + 1
      omega
    · show 0 ≤ (i 4).val ∧ (i 4).val < 0 + 128
      omega

theorem mem_kV (r : Fin 4) (h : Fin 8) (i : S4x8x8x64x128.Idx) : i ∈ (kvV kM r h).view.set ↔ (i 0).val = r.val ∧ (i 1).val = h.val := by
  rw [set_squeezed]; exact (mem_tile cc0_scratch2 _ _ _ i).trans (mem_kv_of r h i)
theorem mem_vV (r : Fin 4) (h : Fin 8) (i : S4x8x8x64x128.Idx) : i ∈ (kvV vM r h).view.set ↔ (i 0).val = r.val ∧ (i 1).val = h.val := by
  rw [set_squeezed]; exact (mem_tile cc0_scratch3 _ _ _ i).trans (mem_kv_of r h i)
theorem mem_kA (r : Fin 4) (h : Fin 8) (i : S8x4x64x8x128.Idx) : i ∈ (arrV kA r h).view.set ↔ (i 1).val = r.val ∧ (i 3).val = h.val := by
  rw [set_squeezed]; exact (mem_tile main_arg2 _ _ _ i).trans (mem_arr_of r h i)
theorem mem_vA (r : Fin 4) (h : Fin 8) (i : S8x4x64x8x128.Idx) : i ∈ (arrV vA r h).view.set ↔ (i 1).val = r.val ∧ (i 3).val = h.val := by
  rw [set_squeezed]; exact (mem_tile main_arg3 _ _ _ i).trans (mem_arr_of r h i)

theorem sub_grp (r : Fin 4) (i : S4x8x8x64x128.Idx) (hi : i ∈ (rG r).toLoadRect.set) : (i 0).val = r.val := by
  have := (Rect.mem_set_unit.mp hi) 0
  change r.val ≤ (i 0).val ∧ (i 0).val < r.val + 1 at this
  omega

end Cert.Run
-- ==== Proof.Vals.lean ====
/-
# What the run computes

The half chunk a device computes for itself (`half`), the partial sum that goes round the ring (`msg`), what each of the
twelve messages carries (`carry`) and what the result holds at the end (`outV`) — each a function of what the launch's
memory holds. The kernel's text prints the computation of a half chunk eight times, cut at different places; `half_*` say
that they are the same.
-/
module

public import proofs.«01_k».proof.Proof.Geo

@[expose] public section

noncomputable section

namespace Cert.Run

open Cert.KernelIdeal Cert.KernelIdeal.Gen
open Idealize.ShloMosaic Idealize.ShloMosaic.ValueIdx Idealize.ShloMosaic.TcCoe Idealize.SL.Sem

variable {F : FTy → Type} [FloatOps F]

/-- The partial result of one half chunk: the queries `x · wq` of 256 rows, the attention of each of their four residue
    groups over that group's keys and values, and the rows' product with `wo`. -/
def halfOf (x : Half F) (wq wo : Vec F S1024x1024 .f32) (k v : Fin 4 → Vec F S1x8x8x64x128 .f32) : Half F :=
  k0_pay12 (k0_pay4 (k0_pay3 x wq) (k 0) (v 0)) (k0_pay8 (k0_pay5 (k0_pay3 x wq)) (k0_pay6 (k 1)) (k0_pay7 (v 1)))
    (k0_pay9 (k0_pay3 x wq) (k 2) (v 2)) (k0_pay10 (v 3)) (k0_pay11 (k0_pay3 x wq) (k 3)) wo

section Same
variable (x : Half F) (wq wo : Vec F S1024x1024 .f32) (k v : Fin 4 → Vec F S1x8x8x64x128 .f32)

theorem half_24 : k0_pay24 (k0_pay17 (k0_pay15 (v 0)) (k0_pay16 x wq (k 0))) (k0_pay18 (k0_pay14 x wq) (k 1) (v 1))
    (k0_pay20 (k0_pay19 (k0_pay14 x wq)) (k 2) (v 2)) (k0_pay21 (v 3)) (k0_pay22 (k0_pay14 x wq) (k 3)) (k0_pay23 (k0_pay14 x wq) (k 3)) wo
    = halfOf x wq wo k v := rfl
theorem half_37 : k0_pay37 (k0_pay30 (k0_pay27 (v 0)) (k0_pay28 x wq (k 0)) (k0_pay29 x wq (k 0))) (k0_pay31 (k0_pay26 x wq) (k 1) (v 1))
    (k0_pay34 (k0_pay32 (k0_pay26 x wq)) (k0_pay33 (k 2)) (v 2)) (k0_pay35 (v 3)) (k0_pay36 (k0_pay26 x wq) (k 3)) (constant S8x64x128 .f32 0x00000000#32) wo
    = halfOf x wq wo k v := rfl
theorem half_48 : k0_pay48 (k0_pay41 (k0_pay39 (v 0)) (k0_pay40 x wq (k 0))) (k0_pay42 (k0_pay38 x wq) (k 1) (v 1))
    (k0_pay44 (k0_pay43 (k0_pay38 x wq)) (k 2) (v 2)) (k0_pay45 (v 3)) (k0_pay46 (k0_pay38 x wq) (k 3)) (k0_pay47 (k0_pay38 x wq) (k 3)) wo
    = halfOf x wq wo k v := rfl
theorem half_63 : k0_pay63 (k0_pay56 (k0_pay55 x) wq) (k0_pay57 (k0_pay55 x) wq (k 0) (v 0))
    (k0_pay61 (k0_pay58 (k0_pay55 x) wq) (k0_pay59 (k 1)) (k0_pay60 (v 1))) (k0_pay62 (k0_pay56 (k0_pay55 x) wq) (k 2) (v 2)) (k 3) (v 3) wo
    = halfOf x wq wo k v := rfl
theorem half_71 : k0_pay71 (k0_pay64 x wq) (k0_pay65 x wq (k 0) (v 0)) (k0_pay68 (k0_pay66 x wq) (k0_pay67 (k 1)) (v 1))
    (k0_pay69 (v 2)) (k0_pay70 (k0_pay64 x wq) (k 2)) (k 3) (v 3) wo
    = halfOf x wq wo k v := rfl
theorem half_88 : k0_pay88 (k0_pay82 (k0_pay80 (v 0)) (k0_pay81 x wq (k 0))) (k0_pay83 (k0_pay79 x wq) (k 1) (v 1))
    (k0_pay85 (k0_pay84 (k0_pay79 x wq)) (k 2) (v 2)) (k0_pay86 (v 3)) (k0_pay87 (k0_pay79 x wq) (k 3)) wo
    = halfOf x wq wo k v := rfl
theorem half_100 : k0_pay100 (k0_pay92 (k0_pay90 x wq) (k0_pay91 (k 0)) (v 0))
    (k0_pay96 (k0_pay93 (v 1)) (k0_pay94 (k0_pay89 x wq) (k 1)) (k0_pay95 (k0_pay89 x wq) (k 1)))
    (k0_pay97 (k0_pay89 x wq) (k 2) (v 2)) (k0_pay98 (k0_pay89 x wq)) (k0_pay99 (k 3)) (v 3) wo
    = halfOf x wq wo k v := rfl
end Same

/-! ## The launch's contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- `x` as the pipeline stages it on device `c`; -/
def xB (c : Dev nD) : (cc0_stg0_0 : Ref sig .tc).ty.Contents (Elt F) := (win0_0.blk (0 : Fin 1)).view.read (Elt F) (m ((c : Thread nD τ).loc main_arg0))
/-- the rows of a half chunk of it; -/
def xR (c : Dev nD) (d : Fin 2) (k : Fin 4) : Half F := xM.view.readAt (Elt F) (rR c d k).toLoadRect (xB m c)
/-- the device's slices of the weights; -/
def wqB (c : Dev nD) : Vec F S1024x1024 .f32 := (wqV c).view.read (Elt F) (m ((c : Thread nD τ).loc main_arg1))
def woB (c : Dev nD) : Vec F S1024x1024 .f32 := (woV c).view.read (Elt F) (m ((c : Thread nD τ).loc main_arg4))
/-- its blocks of the key and value caches. -/
def kB (c : Dev nD) : Vec F S8x4x64x8x128 .f32 := m ((c : Thread nD τ).loc main_arg2)
def vB (c : Dev nD) : Vec F S8x4x64x8x128 .f32 := m ((c : Thread nD τ).loc main_arg3)

/-- Device `c`'s own partial result for the half chunk of direction `d`, step `k`. -/
def half (c : Dev nD) (d : Fin 2) (k : Fin 4) : Half F := halfOf (xR m c d k) (wqB m c) (woB m c) (grp (kB m c)) (grp (vB m c))

/-- The partial sum device `c` has for direction `d` once step `s` of the reduce-scatter is added: its own half at step 0,
    then what came from the ring plus its own. -/
def msg (d : Fin 2) : Dev nD → ℕ → Msg F
  | c, 0 => k0_pay13 (half m c d 0)
  | c, s + 1 => k0_pay51 (k0_pay49 (half m c d (Fin.ofNat 4 (s + 1))) (msg d (fromD d c) s))

/-- What device `c` sends as message `j`: in the reduce-scatter its partial sum of that step, in the all-gather the finished
    sum of the device `j % 3` places before it. -/
def carry (j : Fin 12) (c : Dev nD) : Msg F :=
  if j.val < 6 then msg m (dir j) c (j.val % 3) else msg m (dir j) ((fromD (dir j))^[j.val % 3] c) 3

/-- What the result holds at the end: the chunk the device finished itself, unrounded, and those that came round. -/
def outV (c : Dev nD) (d : Fin 2) (k : Fin 4) : Half F :=
  if k = 3 then k0_pay53 (k0_pay49 (half m c d 3) (msg m d (fromD d c) 2)) else k0_pay108 (msg m d ((fromD d)^[k.val + 1] c) 3)

end Cert.Run
-- ==== Proof.Proto.lean ====
/-
# The protocol

Each device has, besides the cells of its local copies, a barrier cell and for each of the twelve messages a send cell and a
receive cell, and each cell is used once.

* The barrier cell of `c` gets one unit from each neighbour. The unit from the next device hands `c` the right to write that
  device's landing slots 0, 1, 2; the unit from the one before hands it that device's slots 3, 4, 5. `c` waits for both.
* The receive cell `j` of `c` is credited by the arrival of message `j`, which hands `c` its landing slot holding what
  the sender carried, and (for the messages `back` names) the sender's own slot that `c` writes in the all-gather.
* The send cell `j` of `c` is credited when `c`'s own message `j` has been read, and hands `c` back the message's source.

Order: the barrier below the receive cells, a message's receive cell at 2 plus its step, everything else at the bottom.
-/
module

public import proofs.«01_k».proof.Proof.Vals
public import Idealize.ShloMosaic.Lib.Rounds
public import Idealize.ShloMosaic.Lib.Batch
public import Idealize.ShloMosaic.Lib.Transfers

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, the messages' rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-! ## The cells -/

/-- The runtime's barrier semaphore of collective id 0. -/
abbrev barS : Sem sig := (SemArray.scalar (sig.barrier 0 rfl) : Sems sig S_).sem
/-- Message `j`'s send and receive semaphores. -/
abbrev sendS (j : Fin 12) : DmaSem sig := ⟨8 + j.val, by have := j.isLt; show 8 + j.val < 32; omega⟩
abbrev recvS (j : Fin 12) : DmaSem sig := ⟨20 + j.val, by have := j.isLt; show 20 + j.val < 32; omega⟩
/-- The local copies' semaphores: the query weights, the output weights, the four groups of the caches. -/
abbrev copyS (i : Fin 6) : DmaSem sig := ⟨2 + i.val, by have := i.isLt; show 2 + i.val < 32; omega⟩

/-- The cells of the protocol: the barrier (`none`), the send cells (`some (false, j)`), the receive cells. -/
abbrev CK : Type := Option (Bool × Fin 12)
def csem : CK → SemLoc sig
  | none => .reg barS
  | some (false, j) => .dma (sendS j)
  | some (true, j) => .dma (recvS j)
def kcell (ck : Dev nD × CK) : GSem nD τ sig := ((ck.1 : Thread nD τ), csem ck.2)

/-- Which of them a semaphore is. -/
def kindOf : SemLoc sig → Option CK
  | .reg s => if s = barS then some none else none
  | .dma q => if h : 8 ≤ q.val ∧ q.val < 20 then some (some (false, ⟨q.val - 8, by omega⟩))
      else if h : 20 ≤ q.val then some (some (true, ⟨q.val - 20, by have : q.val < 32 := q.isLt; omega⟩)) else none

theorem kindOf_csem (k : CK) : kindOf (csem k) = some k := by
  rcases k with _ | ⟨_ | _, j⟩
  · rfl
  · have := j.isLt
    show (if h : 8 ≤ 8 + j.val ∧ 8 + j.val < 20 then some (some (false, (⟨8 + j.val - 8, _⟩ : Fin 12))) else _) = _
    rw [dif_pos ⟨by omega, by omega⟩]
    simp
  · have := j.isLt
    show (if h : 8 ≤ 20 + j.val ∧ 20 + j.val < 20 then _ else if h : 20 ≤ 20 + j.val then some (some (true, (⟨20 + j.val - 20, _⟩ : Fin 12))) else _) = _
    rw [dif_neg (by omega), dif_pos (by omega)]
    simp
theorem csem_inj : Function.Injective csem := fun a b h => Option.some.inj (by rw [← kindOf_csem a, h, kindOf_csem b])

/-- A message's credit. -/
abbrev N : ℕ := (commV 0).view.dmaCredit
theorem N_pos : 0 < N := View.dmaCredit_pos _ (by decide)
theorem N_eq (k : Fin 6) : (commV k).view.dmaCredit = N := rfl

/-! ## What is handed over -/

/-- Landing slot `k` of device `c`, holding anything; -/
def slotAny (c : Dev nD) (k : Fin 6) : sProp 𝕄 := iprop(∃ f, (commV k).view.loc (c : Thread nD τ) ↦[(commV k).view.set]{fullShare} f)
/-- holding the message `w`, at a share. -/
def slotHas (c : Dev nD) (k : Fin 6) (q : PosShare TreeShare) (w : Msg F) : sProp 𝕄 :=
  (commV k).view.loc (c : Thread nD τ) ↦[(commV k).view.set]{q} (commB w)
/-- Staging slot `k` of device `c`. -/
def stgAny (c : Dev nD) (k : Fin 4) : sProp 𝕄 := iprop(∃ f, (stageV k).view.loc (c : Thread nD τ) ↦[(stageV k).view.set]{fullShare} f)
def stgHas (c : Dev nD) (k : Fin 4) (w : Msg F) : sProp 𝕄 := (stageV k).view.loc (c : Thread nD τ) ↦[(stageV k).view.set]{fullShare} (stageB w)

/-- The source of message `j`: the staging slot it is sent from, or the landing slot it is forwarded from. -/
def source (j : Fin 12) : Fin 4 ⊕ Fin 6 :=
  match j with
  | 0 | 1 | 2 => .inl 0 | 3 | 4 | 5 => .inl 1 | 6 => .inl 2 | 9 => .inl 3
  | 7 => .inr 0 | 8 => .inr 1 | 10 => .inr 3 | 11 => .inr 4

/-- One unit of the barrier: the next device's slots 0, 1, 2 (`false`), the slots 3, 4, 5 of the one before (`true`). -/
def barPay (c : Dev nD) (d : Bool) : sProp 𝕄 :=
  if d then iprop(slotAny (toD 1 c) 3 ∗ slotAny (toD 1 c) 4 ∗ slotAny (toD 1 c) 5)
  else iprop(slotAny (toD 0 c) 0 ∗ slotAny (toD 0 c) 1 ∗ slotAny (toD 0 c) 2)
/-- The slot that message `j` hands back, of the device `s` that sends it. -/
def backPay (s : Dev nD) (j : Fin 12) : sProp 𝕄 := match back j with | none => iprop(emp) | some k => slotAny s k
def recvPay (c : Dev nD) (j : Fin 12) : sProp 𝕄 :=
  iprop(slotHas c (slot j) fullShare (carry m j (fromD (dir j) c)) ∗ backPay (fromD (dir j) c) j)
def srcPts (c : Dev nD) (j : Fin 12) : sProp 𝕄 :=
  match source j with
  | .inl s => stgHas c s (carry m j c)
  | .inr k => slotHas c k fullShare.left (carry m j c)

omit [FloatOps F] in
instance slotAny_storable (c : Dev nD) (k) : BI.Storable (upEmb : UEmb _ 𝕄) (slotAny (F := F) c k) := by unfold slotAny; infer_instance
omit [FloatOps F] in
instance slotHas_storable (c : Dev nD) (k q w) : BI.Storable (upEmb : UEmb _ 𝕄) (slotHas (F := F) c k q w) := by unfold slotHas; infer_instance
omit [FloatOps F] in
instance stgHas_storable (c : Dev nD) (k w) : BI.Storable (upEmb : UEmb _ 𝕄) (stgHas (F := F) c k w) := by unfold stgHas; infer_instance
omit [FloatOps F] in
instance barPay_storable (c : Dev nD) (d) : BI.Storable (upEmb : UEmb _ 𝕄) (barPay (F := F) c d) := by unfold barPay; split <;> infer_instance
omit [FloatOps F] in
instance backPay_storable (c : Dev nD) (j) : BI.Storable (upEmb : UEmb _ 𝕄) (backPay (F := F) c j) := by unfold backPay; split <;> infer_instance
instance recvPay_storable (c : Dev nD) (j) : BI.Storable (upEmb : UEmb _ 𝕄) (recvPay m c j) := by unfold recvPay; infer_instance
instance srcPts_storable (c : Dev nD) (j) : BI.Storable (upEmb : UEmb _ 𝕄) (srcPts m c j) := by unfold srcPts; split <;> infer_instance

/-! ## The schedule -/

/-- What duty `d` of a cell of device `c` hands over. -/
def payOf (c : Dev nD) (k : Option CK) (d : Bool) : sProp 𝕄 :=
  match k with
  | some none => barPay c d
  | some (some (false, j)) => srcPts m c j
  | some (some (true, j)) => recvPay m c j
  | none => iprop(emp)
instance payOf_storable (c : Dev nD) (k d) : BI.Storable (upEmb : UEmb _ 𝕄) (payOf m c k d) := by unfold payOf; split <;> infer_instance
def dutiesOf (k : Option CK) : Finset Bool :=
  match k with
  | some none => Finset.univ
  | some (some _) => {false}
  | none => ∅
def amountOfK (k : Option CK) : ℕ := if k = some none then 1 else N

/-- One round, round 0: a barrier cell has two duties of one unit, a send or receive cell one duty of a message's credit. -/
def Rd : Rounds.Schedule (GSem nD τ sig) Bool 𝕄 where
  duties g r := if r = 0 ∧ g.1.2 = .tc then dutiesOf (kindOf g.2) else ∅
  unitless _ := False
  amount g _ _ := amountOfK (kindOf g.2)
  payload g _ d := payOf m g.1.1 (kindOf g.2) d
  amount_pos g _ _ _ := by
    unfold amountOfK; split
    · exact Nat.one_pos
    · exact N_pos

instance Rd_storable (g : GSem nD τ sig) (r : ℕ) (d : Bool) : BI.Storable (upEmb : UEmb _ 𝕄) ((Rd m).payload g r d) := payOf_storable m _ _ _

section Sched
variable (c : Dev nD) (k : CK) (j : Fin 12)

abbrev cellB (c : Dev nD) : GSem nD τ sig := kcell (c, none)
abbrev cellS (c : Dev nD) (j : Fin 12) : GSem nD τ sig := kcell (c, some (false, j))
abbrev cellR (c : Dev nD) (j : Fin 12) : GSem nD τ sig := kcell (c, some (true, j))

theorem duties_at : (Rd m).duties (kcell (c, k)) 0 = dutiesOf (some k) := by
  show (if 0 = 0 ∧ (c : Thread nD τ).2 = .tc then dutiesOf (kindOf (csem k)) else ∅) = _
  rw [if_pos ⟨rfl, rfl⟩, kindOf_csem]
theorem amount_at (d : Bool) : (Rd m).amount (kcell (c, k)) 0 d = amountOfK (some k) := by
  show amountOfK (kindOf (csem k)) = _
  rw [kindOf_csem]
theorem payload_at (d : Bool) : (Rd m).payload (kcell (c, k)) 0 d = payOf m c (some k) d := by
  show payOf m c (kindOf (csem k)) d = _
  rw [kindOf_csem]
theorem duties_later (g : GSem nD τ sig) : ∀ r, 1 ≤ r → (Rd m).duties g r = ∅ := fun r hr => if_neg fun h => by omega

theorem expect_bar : (Rd m).expect (cellB c) 0 = 2 := by
  unfold Schedule.expect Schedule.amountOf
  rw [duties_at, Finset.sum_congr rfl fun d _ => amount_at m c none d]
  rfl
theorem expect_x (b : Bool) : (Rd m).expect (kcell (c, some (b, j))) 0 = N := by
  unfold Schedule.expect Schedule.amountOf
  rw [duties_at, Finset.sum_congr rfl fun d _ => amount_at m c (some (b, j)) d]
  exact Finset.sum_singleton _ _
theorem rest_bar : bigSep ((Rd m).duties (cellB c) 0 \ ∅) (fun d => (Rd m).payload (cellB c) 0 d) = iprop(barPay c false ∗ barPay c true) := by
  rw [Finset.sdiff_empty, duties_at, bigSep_congr (fun d _ => payload_at m c none d)]
  show bigSep (Finset.univ : Finset Bool) (fun d => barPay (F := F) c d) = _
  rw [bigSep_univ_eq_bigSepL [false, true] (by decide) (by decide), bigSepL_cons_cons, bigSepL_singleton]
  rfl
theorem rest_x (b : Bool) : bigSep ((Rd m).duties (kcell (c, some (b, j))) 0 \ ∅) (fun d => (Rd m).payload (kcell (c, some (b, j))) 0 d) = payOf m c (some (some (b, j))) false := by
  rw [Finset.sdiff_empty, duties_at, bigSep_congr (fun d _ => payload_at m c _ d)]
  exact bigSep_singleton
end Sched

/-! ## What is owed; the order of the cells -/

/-- The step of message `j`, counted through both halves of the run. -/
def ph (j : Fin 12) : ℕ := j.val / 6 * 3 + j.val % 3

/-- What `c` owes while the messages of the list are still to be sent (the next one first). -/
def owe (c : Dev nD) : List (Fin 12) → CellTallies nD τ sig Unit
  | [] => 0
  | j :: l => owe c l + tallyAt (cellR (toD (dir j) c) j) () N
/-- The messages in the order the kernel sends them. -/
def order : List (Fin 12) := [0, 3, 1, 4, 2, 5, 6, 9, 7, 10, 8, 11]
/-- With the barrier's signals still to be sent: the first goes to the device before, the second to the next one. -/
def owed (c : Dev nD) (nb : ℕ) (l : List (Fin 12)) : CellTallies nD τ sig Unit :=
  match nb with
  | 0 => owe c l
  | 1 => owe c l + tallyAt (cellB (toD 0 c)) () 1
  | _ => owe c l + tallyAt (cellB (toD 0 c)) () 1 + tallyAt (cellB (toD 1 c)) () 1

def L (g : GSem nD τ sig) : Finset Unit := if g.1.2 = .tc then {()} else ∅
def lvK : Option CK → ℕ
  | some none => 1
  | some (some (true, j)) => 2 + ph j
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) : lv (kcell (c, k)) () = lvK (some k) := by show lvK (kindOf (csem k)) = _; rw [kindOf_csem]

theorem owe_pos {c : Dev nD} {l : List (Fin 12)} {g : GSem nD τ sig} {u : Unit} (h : 0 < owe c l g u) : ∃ j ∈ l, g = cellR (toD (dir j) c) j := by
  induction l with
  | nil => exact absurd h (Nat.lt_irrefl 0)
  | cons j l ih =>
    unfold owe at h
    rw [Pi.add_apply, Finsupp.add_apply, tallyAt_apply] at h
    by_cases hg : g = cellR (toD (dir j) c) j ∧ u = ()
    · exact ⟨j, List.mem_cons_self, hg.1⟩
    · rw [if_neg hg] at h
      obtain ⟨i, hi, e⟩ := ih h
      exact ⟨i, List.mem_cons_of_mem _ hi, e⟩

/-- A wait on a cell below every receive cell still owed is allowed. -/
theorem mayWait (c : Dev nD) (sm : SemLoc sig) (l : List (Fin 12)) (h : ∀ j ∈ l, lvK (kindOf sm) < 2 + ph j) :
    (levAts L lv : sProp 𝕄) ⊢ MayWait (c : Thread nD τ) sm () (owe c l) :=
  MayOwe.of_cut (L := L) (lev := lv) (lvK (kindOf sm)) (fun p hp => by rw [Finset.mem_singleton.mp hp, L_tc]; exact Finset.mem_singleton_self _)
    (fun g u hg => by obtain ⟨j, -, rfl⟩ := owe_pos hg; exact Finset.mem_singleton_self _)
    (fun p hp => by rw [Finset.mem_singleton.mp hp]; exact Nat.le_refl _)
    (fun g u hg => by obtain ⟨j, hj, rfl⟩ := owe_pos hg; rw [lv_at]; exact h j hj)

end Cert.Run
-- ==== Proof.State.lean ====
/-
# What a device holds between two operations

The body of the kernel runs two hundred and some operations, in one order. What a device holds before each is one of a small family
of states, `St`: how far the copies of the caches are (`KV`), the two weight copies (`LC`), the result's eight half chunks, the signals
and messages still to be sent, how far each message is (a number 0..3), what each of its staging and landing slots holds (`Slot`), and
which of its peers' slots it may write. Each is a list, so that one operation changes one entry.
-/
module

public import proofs.«01_k».proof.Proof.Proto

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ) (c : Dev nD)

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The copies of the caches -/

/-- The copies of a residue group are issued in order, the keys and the values of one head after the other. -/
def headOf (t : Fin 16) : Fin 8 := ⟨t.val / 2, by have := t.isLt; omega⟩
/-- The credit of one of them. -/
abbrev Nkv : ℕ := (kvV kM 0 0).view.dmaCredit
theorem Nkv_pos : 0 < Nkv := View.dmaCredit_pos _ (by decide)

def kTile (r : Fin 4) (h : Fin 8) (f : (cc0_scratch2 : Ref sig .tc).ty.Contents (Elt F)) : sProp 𝕄 := (kvV kM r h).view.loc (c : Thread nD τ) ↦[(kvV kM r h).view.set]{fullShare} f
def vTile (r : Fin 4) (h : Fin 8) (f : (cc0_scratch3 : Ref sig .tc).ty.Contents (Elt F)) : sProp 𝕄 := (kvV vM r h).view.loc (c : Thread nD τ) ↦[(kvV vM r h).view.set]{fullShare} f
def kSrc (r : Fin 4) (h : Fin 8) : sProp 𝕄 := (arrV kA r h).view.loc (c : Thread nD τ) ↦[(arrV kA r h).view.set]{fullShare} (kB m c)
def vSrc (r : Fin 4) (h : Fin 8) : sProp 𝕄 := (arrV vA r h).view.loc (c : Thread nD τ) ↦[(arrV vA r h).view.set]{fullShare} (vB m c)

/-- What copy `t` of group `r` needs, -/
def kvPre (r : Fin 4) (t : Fin 16) : sProp 𝕄 :=
  if t.val % 2 = 0 then iprop(kSrc m c r (headOf t) ∗ ∃ f, kTile c r (headOf t) f) else iprop(vSrc m c r (headOf t) ∗ ∃ f, vTile c r (headOf t) f)
/-- and what it leaves. -/
def kvPost (r : Fin 4) (t : Fin 16) : sProp 𝕄 :=
  if t.val % 2 = 0 then iprop(kSrc m c r (headOf t) ∗ kTile c r (headOf t) (gath (F := F) (kB m c)))
  else iprop(vSrc m c r (headOf t) ∗ vTile c r (headOf t) (gath (F := F) (vB m c)))

instance kvPost_storable (r t) : BI.Storable (upEmb : UEmb _ 𝕄) (kvPost m c r t) := by
  unfold kvPost kSrc vSrc kTile vTile; split <;> infer_instance

abbrev copyG (r : Fin 4) : DmaSem sig := copyS ⟨2 + r.val, by have := r.isLt; omega⟩
/-- Group `r` of a staging buffer. -/
def kG (r : Fin 4) : Finset S4x8x8x64x128.Idx := Finset.univ.biUnion fun h : Fin 8 => (kvV kM r h).view.set
def vG (r : Fin 4) : Finset S4x8x8x64x128.Idx := Finset.univ.biUnion fun h : Fin 8 => (kvV vM r h).view.set
def kGrp (r : Fin 4) : sProp 𝕄 := (c : Thread nD τ).loc cc0_scratch2 ↦[kG r]{fullShare} (gath (F := F) (kB m c) : (cc0_scratch2 : Ref sig .tc).ty.Contents (Elt F))
def vGrp (r : Fin 4) : sProp 𝕄 := (c : Thread nD τ).loc cc0_scratch3 ↦[vG r]{fullShare} (gath (F := F) (vB m c) : (cc0_scratch3 : Ref sig .tc).ty.Contents (Elt F))

/-- A group's copies: `t` issued and `u` waited for, or all landed. -/
inductive KV where
  | run (t u : ℕ)
  | got
def KVs (r : Fin 4) : KV → sProp 𝕄
  | .run t u => iprop(Batch EC (c : Thread nD τ) (.dma (copyG r)) () Nkv (kvPost m c r) t (u * Nkv) ∗ bigSep (pending t) (kvPre m c r))
  | .got => iprop(kGrp m c r ∗ vGrp m c r ∗ bigSep Finset.univ (fun h => kSrc m c r h) ∗ bigSep Finset.univ (fun h => vSrc m c r h)
      ∗ semVal ((c : Thread nD τ), .dma (copyG r)) 0)

/-! ## The copies of the weights -/

inductive LC where
  | idle | fly | done
abbrev Nw : ℕ := (wqM).view.dmaCredit
theorem Nw_pos : 0 < Nw := View.dmaCredit_pos _ (by decide)
def wqSrc : sProp 𝕄 := (wqV c).view.loc (c : Thread nD τ) ↦[(wqV c).view.set]{fullShare} (m ((c : Thread nD τ).loc main_arg1))
def woSrc : sProp 𝕄 := (woV c).view.loc (c : Thread nD τ) ↦[(woV c).view.set]{fullShare} (m ((c : Thread nD τ).loc main_arg4))
def wqDst (f : (cc0_scratch0 : Ref sig .tc).ty.Contents (Elt F)) : sProp 𝕄 := (c : Thread nD τ).loc cc0_scratch0 ↦{fullShare} f
def woDst (f : (cc0_scratch1 : Ref sig .tc).ty.Contents (Elt F)) : sProp 𝕄 := (c : Thread nD τ).loc cc0_scratch1 ↦{fullShare} f
def LCq : LC → sProp 𝕄
  | .idle => iprop(wqSrc m c ∗ (∃ f, wqDst c f) ∗ semVal ((c : Thread nD τ), .dma (copyS 0)) 0)
  | .fly => Flight EC (c : Thread nD τ) (.dma (copyS 0)) () Nw iprop(wqDst c (wqB m c) ∗ wqSrc m c)
  | .done => iprop(wqSrc m c ∗ wqDst c (wqB m c) ∗ semVal ((c : Thread nD τ), .dma (copyS 0)) 0)
def LCo : LC → sProp 𝕄
  | .idle => iprop(woSrc m c ∗ (∃ f, woDst c f) ∗ semVal ((c : Thread nD τ), .dma (copyS 1)) 0)
  | .fly => Flight EC (c : Thread nD τ) (.dma (copyS 1)) () Nw iprop(woDst c (woB m c) ∗ woSrc m c)
  | .done => iprop(woSrc m c ∗ woDst c (woB m c) ∗ semVal ((c : Thread nD τ), .dma (copyS 1)) 0)

/-! ## Slots, messages, the barrier -/

inductive Slot (F : FTy → Type) where
  | gone | any | full (w : Msg F) | half (w : Msg F)
/-- A staging slot; -/
def Sig (k : Fin 4) : Slot F → sProp 𝕄
  | .gone => iprop(emp) | .any => stgAny c k | .full w => stgHas c k w | .half _ => iprop(emp)
/-- a landing slot; -/
def Kap (k : Fin 6) : Slot F → sProp 𝕄
  | .gone => iprop(emp) | .any => slotAny c k | .full w => slotHas c k fullShare w | .half w => slotHas c k fullShare.right w
/-- the peer whose slot `k` the device writes. -/
def peer (k : Fin 6) (c : Dev nD) : Dev nD := toD (if k.val < 3 then 0 else 1) c
def Rho (k : Fin 6) : Bool → sProp 𝕄
  | true => slotAny (peer k c) k
  | false => iprop(emp)

/-- Message `j`: to be sent (0), sent (1), read (2), and the one the device receives landed (3). -/
def Lane (j : Fin 12) : ℕ → sProp 𝕄
  | 0 => iprop(dutyTok ER (cellS c j) 0 false ∗ dutyTok ER (cellR (toD (dir j) c) j) 0 false ∗ atPos ER (cellS c j) 0 ∅ 0 ∗ atPos ER (cellR c j) 0 ∅ 0
      ∗ cred (tallyAt (cellR c j) () N))
  | 1 => iprop(atPos ER (cellS c j) 0 ∅ 0 ∗ atPos ER (cellR c j) 0 ∅ 0 ∗ cred (tallyAt (cellR c j) () N) ∗ cred (tallyAt (cellS c j) () N))
  | 2 => iprop(semVal (cellS c j) 0 ∗ atPos ER (cellR c j) 0 ∅ 0 ∗ cred (tallyAt (cellR c j) () N))
  | _ => iprop(semVal (cellS c j) 0 ∗ semVal (cellR c j) 0)

/-- The barrier: signals still to be sent, plus one until it is waited for. -/
def Bar : ℕ → sProp 𝕄
  | 0 => iprop(semVal (cellB c) 0)
  | 1 => iprop(atPos ER (cellB c) 0 ∅ 0 ∗ cred (tallyAt (cellB c) () 2))
  | 2 => iprop(dutyTok ER (cellB (toD 0 c)) 0 true ∗ atPos ER (cellB c) 0 ∅ 0 ∗ cred (tallyAt (cellB c) () 2))
  | _ => iprop(dutyTok ER (cellB (toD 1 c)) 0 false ∗ dutyTok ER (cellB (toD 0 c)) 0 true ∗ atPos ER (cellB c) 0 ∅ 0 ∗ cred (tallyAt (cellB c) () 2))

/-! ## The whole state -/

/-- The cells' invariants and that they are at round 0, and the levels. -/
def Pers : sProp 𝕄 :=
  iprop(bigSep (Finset.univ : Finset (Dev nD × CK)) (fun ck => iprop(cellInv ER (Rd m) (K ck) (kcell ck) ∗ reached ER (kcell ck) 0)) ∗ levAts L lv)
instance Pers_persistent : BI.Persistent (Pers m K) := by unfold Pers; infer_instance

def z₀ : Half F := constant S1x256x1024 .f32 0x00000000#32
/-- The eight half chunks of a list: clockwise steps 0..3, then counter-clockwise. -/
def ofL (v : List (Half F)) (d : Fin 2) (k : Fin 4) : Half F := v.getD (4 * d.val + k.val) z₀
def xPts : sProp 𝕄 := (c : Thread nD τ).loc cc0_stg0_0 ↦{fullShare} (xB m c)
def oPts (v : List (Half F)) : sProp 𝕄 := (c : Thread nD τ).loc cc0_stg1_0 ↦{fullShare} (asm c (ofL v))
def Ow (nb : ℕ) (l : List (Fin 12)) : sProp 𝕄 := iprop(∃ W, owes (c : Thread nD τ) (owed c (nb - 1) l) W)

def fam {n : ℕ} {β : Type} (P : Fin n → β → sProp 𝕄) (l : List β) (d : β) : sProp 𝕄 := bigSep Finset.univ fun j => P j (l.getD j.val d)

def St (q : List KV) (b : List LC) (v : List (Half F)) (nb : ℕ) (l : List (Fin 12)) (st : List ℕ) (σ κ : List (Slot F)) (ρ : List Bool) : sProp 𝕄 :=
  iprop(Pers m K ∗ fam (KVs m c) q .got ∗ LCq m c (b.getD 0 .idle) ∗ LCo m c (b.getD 1 .idle) ∗ xPts m c ∗ oPts c v ∗ Ow c nb l ∗ Bar c nb
    ∗ fam (Lane c) st 9 ∗ fam (Sig c) σ .gone ∗ fam (Kap c) κ .gone ∗ fam (Rho c) ρ false)

omit [FloatOps F] in
/-- One entry of a family, taken out to be put back at another value. -/
theorem fam_acc {n : ℕ} {β : Type} (P : Fin n → β → sProp 𝕄) (l : List β) (d : β) (i : Fin n) (a : β) (hi : i.val < l.length) :
    fam P l d ⊢ iprop(P i (l.getD i.val d) ∗ (P i a -∗ fam P (l.set i.val a) d)) := by
  unfold fam
  have h1 := BI.bigSep_erase (M := 𝕄) (Φ := fun j : Fin n => P j (l.getD j.val d)) (Finset.mem_univ i)
  have h2 := BI.bigSep_erase (M := 𝕄) (Φ := fun j : Fin n => P j ((l.set i.val a).getD j.val d)) (Finset.mem_univ i)
  have h3 : bigSep (Finset.univ.erase i) (fun j : Fin n => P j ((l.set i.val a).getD j.val d)) = bigSep (Finset.univ.erase i) (fun j : Fin n => P j (l.getD j.val d)) :=
    bigSep_congr fun j hj => by
      rw [List.getD_eq_getElem?_getD, List.getD_eq_getElem?_getD, List.getElem?_set_ne (fun e => (Finset.mem_erase.mp hj).1 (Fin.ext e.symm))]
  have h4 : (l.set i.val a).getD i.val d = a := by
    rw [List.getD_eq_getElem?_getD, List.getElem?_set_self hi]; rfl
  rw [h1, h2, h3, h4]
  show iprop(P i (l.getD i.val d) ∗ bigSep (Finset.univ.erase i) (fun j : Fin n => P j (l.getD j.val d)))
    ⊢ iprop(P i (l.getD i.val d) ∗ (P i a -∗ iprop(P i a ∗ bigSep (Finset.univ.erase i) (fun j : Fin n => P j (l.getD j.val d)))))
  iintro ⟨H, Hr⟩
  isplitl [H]; · iexact H
  iintro H
  isplitl [H]; · iexact H
  iexact Hr

theorem pers_cell (ck : Dev nD × CK) : Pers m K ⊢ iprop(cellInv ER (Rd m) (K ck) (kcell ck) ∗ reached ER (kcell ck) 0) := by
  unfold Pers
  iintro ⟨H, -⟩
  ihave H' := (show bigSep (Finset.univ : Finset (Dev nD × CK)) (fun ck => iprop(cellInv ER (Rd m) (K ck) (kcell ck) ∗ reached ER (kcell ck) 0)) ⊢ iprop(cellInv ER (Rd m) (K ck) (kcell ck) ∗ reached ER (kcell ck) 0)
    from BI.bigSep_elim (Finset.mem_univ ck)) $$ H
  iexact H'
theorem pers_lev : Pers m K ⊢ (levAts L lv : sProp 𝕄) := by
  unfold Pers
  iintro ⟨-, H⟩
  iexact H

end Cert.Run
-- ==== Proof.Steps.lean ====
/-
# One operation at a time

For each kind of operation the kernel runs, the step from the state before it to the state after it (`st_*`), stated backwards: what
the rest of the program does from the state after, the operation and the rest do from the state before.
-/
module

public import proofs.«01_k».proof.Proof.State

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-! ## Loads and stores -/

theorem st_x (d : Fin 2) (k : Fin 4) {off : Fin 3 → ℕ} {inb : ∀ a, off a + S1x256x1024.size a ≤ S1x2048x1024.size a} (hoff : off = ![0, row c d k, 0])
    {hl} {kk : Half F → Prog (TpuEff nD τ sig (Elt F) Λ₀ .tc) α} (hk : St m K c q b v nb l st σ κ ρ ⊢ WP c (kk (xR m c d k)) Q) :
    St m K c q b v nb l st σ κ ρ ⊢ WP c (.op (.load xM (Rect.unit (s := S1x2048x1024) off S1x256x1024.size inb).toLoadRect hl) kk) Q := by
  subst hoff
  unfold St xPts at *
  iintro ⟨#HP, Hq, Hb0, Hb1, Hx, Hr⟩
  iapply (wp_load 𝒱₀ (c : Thread nD τ) none Set.univ (m := xM) (Finset.subset_univ _)) $$ Hx; iintro Hx
  iapply hk
  iframe # ∗

/-- A load of a half chunk of the result. -/
theorem st_o (d : Fin 2) (k : Fin 4) {off : Fin 3 → ℕ} {inb : ∀ a, off a + S1x256x1024.size a ≤ S1x2048x1024.size a} (hoff : off = ![0, row c d k, 0])
    {hl} {kk : Half F → Prog (TpuEff nD τ sig (Elt F) Λ₀ .tc) α} (hk : St m K c q b v nb l st σ κ ρ ⊢ WP c (kk (ofL v d k)) Q) :
    St m K c q b v nb l st σ κ ρ ⊢ WP c (.op (.load oM (Rect.unit (s := S1x2048x1024) off S1x256x1024.size inb).toLoadRect hl) kk) Q := by
  subst hoff
  rw [← read_asm c (ofL v) d k] at hk
  unfold St oPts at *
  iintro ⟨#HP, Hq, Hb0, Hb1, Hx, Ho, Hr⟩
  iapply (wp_load 𝒱₀ (c : Thread nD τ) none Set.univ (m := oM) (Finset.subset_univ _)) $$ Ho; iintro Ho
  iapply hk
  iframe # ∗

omit [FloatOps F] in
theorem hz2 : (![0, 0] : Fin 2 → Nat) = fun _ => 0 := funext fun a => by fin_cases a <;> rfl

theorem st_wq (hb : b.getD 0 .idle = .done) {inb} {hl} {kk : Vec F S1024x1024 .f32 → Prog (TpuEff nD τ sig (Elt F) Λ₀ .tc) α}
    (hk : St m K c q b v nb l st σ κ ρ ⊢ WP c (kk (wqB m c)) Q) :
    St m K c q b v nb l st σ κ ρ ⊢ WP c (.op (.load wqM (Rect.unit (s := S1024x1024) ![0, 0] S1024x1024.size inb).toLoadRect hl) kk) Q := by
  have hr := Memref.readAt_unit_zero (Elt F) cc0_scratch0 hz2 inb (wqB m c)
  rw [← hr] at hk
  unfold St at *
  rw [hb, show LCq m c .done = iprop(wqSrc m c ∗ ((c : Thread nD τ).loc cc0_scratch0 ↦{fullShare} (wqB m c)) ∗ semVal ((c : Thread nD τ), .dma (copyS 0)) 0) from rfl] at hk ⊢
  iintro ⟨#HP, Hq, ⟨Hs, Hd, Hv⟩, Hr⟩
  iapply (wp_load 𝒱₀ (c : Thread nD τ) none Set.univ (m := wqM) (Finset.subset_univ _)) $$ Hd; iintro Hd
  iapply hk
  iframe # ∗

theorem st_wo (hb : b.getD 1 .idle = .done) {inb} {hl} {kk : Vec F S1024x1024 .f32 → Prog (TpuEff nD τ sig (Elt F) Λ₀ .tc) α}
    (hk : St m K c q b v nb l st σ κ ρ ⊢ WP c (kk (woB m c)) Q) :
    St m K c q b v nb l st σ κ ρ ⊢ WP c (.op (.load woM (Rect.unit (s := S1024x1024) ![0, 0] S1024x1024.size inb).toLoadRect hl) kk) Q := by
  have hr := Memref.readAt_unit_zero (Elt F) cc0_scratch1 hz2 inb (woB m c)
  rw [← hr] at hk
  unfold St at *
  rw [hb, show LCo m c .done = iprop(woSrc m c ∗ ((c : Thread nD τ).loc cc0_scratch1 ↦{fullShare} (woB m c)) ∗ semVal ((c : Thread nD τ), .dma (copyS 1)) 0) from rfl] at hk ⊢
  iintro ⟨#HP, Hq, Hb0, ⟨Hs, Hd, Hv⟩, Hr⟩
  iapply (wp_load 𝒱₀ (c : Thread nD τ) none Set.univ (m := woM) (Finset.subset_univ _)) $$ Hd; iintro Hd
  iapply hk
  iframe # ∗

theorem sub_kG (r : Fin 4) : kM.view.setOn (rG r).toLoadRect.set ⊆ kG r := by
  intro i hi
  obtain ⟨x, hx, rfl⟩ := Finset.mem_map.mp hi
  exact Finset.mem_biUnion.mpr ⟨x 1, Finset.mem_univ _, (mem_kV r (x 1) _).mpr ⟨sub_grp r x hx, rfl⟩⟩
theorem sub_vG (r : Fin 4) : vM.view.setOn (rG r).toLoadRect.set ⊆ vG r := by
  intro i hi
  obtain ⟨x, hx, rfl⟩ := Finset.mem_map.mp hi
  exact Finset.mem_biUnion.mpr ⟨x 1, Finset.mem_univ _, (mem_vV r (x 1) _).mpr ⟨sub_grp r x hx, rfl⟩⟩

theorem set_same {β : Type} {l : List β} {i : ℕ} {a d : β} (h : l.getD i d = a) (hi : i < l.length) : l.set i a = l := by
  rw [List.getD_eq_getElem?_getD, List.getElem?_eq_getElem hi] at h
  have h' : l[i] = a := h
  subst h'
  exact List.set_getElem_self hi

theorem st_k (r : Fin 4) (hq : q.getD r.val .got = .got) (hn : r.val < q.length) {hl}
    {kk : Vec F S1x8x8x64x128 .f32 → Prog (TpuEff nD τ sig (Elt F) Λ₀ .tc) α}
    (hk : St m K c q b v nb l st σ κ ρ ⊢ WP c (kk (grp (kB m c) r)) Q) :
    St m K c q b v nb l st σ κ ρ ⊢ WP c (.op (.load kM (rG r).toLoadRect hl) kk) Q := by
  rw [← read_k r (kB m c)] at hk
  have ha := fam_acc (KVs m c) q .got r .got hn
  rw [hq, set_same hq hn] at ha
  unfold St at *
  iintro ⟨#HP, Hq, Hr⟩
  ihave Hq := ha $$ Hq
  icases Hq with ⟨Hg, Hq⟩
  unfold KVs kGrp
  icases Hg with ⟨Hd, Hg⟩
  iapply (wp_load 𝒱₀ (c : Thread nD τ) none Set.univ (m := kM) (sub_kG r)) $$ Hd; iintro Hd
  iapply hk
  isplitr; · iexact HP
  isplitl [Hd Hg Hq]
  · iapply Hq
    isplitl [Hd]; · iexact Hd
    iexact Hg
  iexact Hr

theorem st_v (r : Fin 4) (hq : q.getD r.val .got = .got) (hn : r.val < q.length) {hl}
    {kk : Vec F S1x8x8x64x128 .f32 → Prog (TpuEff nD τ sig (Elt F) Λ₀ .tc) α}
    (hk : St m K c q b v nb l st σ κ ρ ⊢ WP c (kk (grp (vB m c) r)) Q) :
    St m K c q b v nb l st σ κ ρ ⊢ WP c (.op (.load vM (rG r).toLoadRect hl) kk) Q := by
  rw [← read_v r (vB m c)] at hk
  have ha := fam_acc (KVs m c) q .got r .got hn
  rw [hq, set_same hq hn] at ha
  unfold St at *
  iintro ⟨#HP, Hq, Hr⟩
  ihave Hq := ha $$ Hq
  icases Hq with ⟨Hg, Hq⟩
  unfold KVs vGrp
  icases Hg with ⟨Hkk, Hd, Hg⟩
  iapply (wp_load 𝒱₀ (c : Thread nD τ) none Set.univ (m := vM) (sub_vG r)) $$ Hd; iintro Hd
  iapply hk
  isplitr; · iexact HP
  isplitl [Hkk Hd Hg Hq]
  · iapply Hq
    isplitl [Hkk]; · iexact Hkk
    isplitl [Hd]; · iexact Hd
    iexact Hg
  iexact Hr

/-- A landing slot's elements as a load names them are those the transfers name. -/
theorem sub_comm (k : Fin 6) : cM.view.setOn (rC k).toLoadRect.set ⊆ (commV k).view.set := by
  rw [set_squeezed]
  show _ ⊆ (cM.view.slice (rC k)).set
  rw [View.set_slice]
  exact Finset.Subset.refl _
theorem sub_stage (k : Fin 4) : sM.view.setOn (rS k).toLoadRect.set ⊆ (stageV k).view.set := by
  rw [set_squeezed]
  show _ ⊆ (sM.view.slice (rS k)).set
  rw [View.set_slice]
  exact Finset.Subset.refl _

/-- A load of a landing slot; -/
theorem st_comm (k : Fin 6) (w : Msg F) (hκ : κ.getD k.val .gone = .full w) (hn : k.val < κ.length) {hl}
    {kk : Msg F → Prog (TpuEff nD τ sig (Elt F) Λ₀ .tc) α}
    (hk : St m K c q b v nb l st σ κ ρ ⊢ WP c (kk w) Q) :
    St m K c q b v nb l st σ κ ρ ⊢ WP c (.op (.load cM (rC k).toLoadRect hl) kk) Q := by
  rw [← read_commB k w] at hk
  have ha : fam (Kap (F := F) c) κ .gone ⊢ iprop(slotHas c k fullShare w ∗ (slotHas c k fullShare w -∗ fam (Kap (F := F) c) κ .gone)) := by
    have ha := fam_acc (Kap (F := F) c) κ .gone k (.full w) hn
    rw [hκ, set_same hκ hn] at ha
    exact ha
  unfold St at *
  iintro ⟨#HP, Hq, Hb0, Hb1, Hx, Ho, HO, HB, HL, Hσ, Hκ, Hρ⟩
  ihave Hκ := ha $$ Hκ
  icases Hκ with ⟨Hd, Hκ⟩
  unfold slotHas
  iapply (wp_load 𝒱₀ (c : Thread nD τ) none Set.univ (m := cM) (sub_comm k)) $$ Hd; iintro Hd
  iapply hk
  ihave Hκ := Hκ $$ Hd
  iframe # ∗
/-- of one being forwarded, at the share kept. -/
theorem st_commH (k : Fin 6) (w : Msg F) (hκ : κ.getD k.val .gone = .half w) (hn : k.val < κ.length) {hl}
    {kk : Msg F → Prog (TpuEff nD τ sig (Elt F) Λ₀ .tc) α}
    (hk : St m K c q b v nb l st σ κ ρ ⊢ WP c (kk w) Q) :
    St m K c q b v nb l st σ κ ρ ⊢ WP c (.op (.load cM (rC k).toLoadRect hl) kk) Q := by
  rw [← read_commB k w] at hk
  have ha : fam (Kap (F := F) c) κ .gone ⊢ iprop(slotHas c k fullShare.right w ∗ (slotHas c k fullShare.right w -∗ fam (Kap (F := F) c) κ .gone)) := by
    have ha := fam_acc (Kap (F := F) c) κ .gone k (.half w) hn
    rw [hκ, set_same hκ hn] at ha
    exact ha
  unfold St at *
  iintro ⟨#HP, Hq, Hb0, Hb1, Hx, Ho, HO, HB, HL, Hσ, Hκ, Hρ⟩
  ihave Hκ := ha $$ Hκ
  icases Hκ with ⟨Hd, Hκ⟩
  unfold slotHas
  iapply (wp_load 𝒱₀ (c : Thread nD τ) none Set.univ (m := cM) (sub_comm k)) $$ Hd; iintro Hd
  iapply hk
  ihave Hκ := Hκ $$ Hd
  iframe # ∗

/-- A load of a staging slot, at whatever it holds. -/
theorem st_stg (k : Fin 4) (hn : k.val < σ.length) (hσ : σ.getD k.val .gone = .any ∨ ∃ w, σ.getD k.val .gone = .full w) {hl}
    {kk : Msg F → Prog (TpuEff nD τ sig (Elt F) Λ₀ .tc) α}
    (hk : ∀ u, St m K c q b v nb l st σ κ ρ ⊢ WP c (kk u) Q) :
    St m K c q b v nb l st σ κ ρ ⊢ WP c (.op (.load sM (rS k).toLoadRect hl) kk) Q := by
  rcases hσ with hσ | ⟨w, hσ⟩
  · have ha : fam (Sig (F := F) c) σ .gone ⊢ iprop(stgAny (F := F) c k ∗ (stgAny (F := F) c k -∗ fam (Sig (F := F) c) σ .gone)) := by
      have ha := fam_acc (Sig (F := F) c) σ .gone k .any hn
      rw [hσ, set_same hσ hn] at ha
      exact ha
    unfold St at *
    iintro ⟨#HP, Hq, Hb0, Hb1, Hx, Ho, HO, HB, HL, Hσ, Hκ, Hρ⟩
    ihave Hσ := ha $$ Hσ
    icases Hσ with ⟨Hd, Hσ⟩
    unfold stgAny
    icases Hd with ⟨%f, Hd⟩
    iapply (wp_load 𝒱₀ (c : Thread nD τ) none Set.univ (m := sM) (sub_stage k)) $$ Hd; iintro Hd
    iapply (hk _)
    ihave Hσ := Hσ $$ [Hd]
    · iexists f; iexact Hd
    iframe # ∗
  · have ha : fam (Sig (F := F) c) σ .gone ⊢ iprop(stgHas c k w ∗ (stgHas c k w -∗ fam (Sig (F := F) c) σ .gone)) := by
      have ha := fam_acc (Sig (F := F) c) σ .gone k (.full w) hn
      rw [hσ, set_same hσ hn] at ha
      exact ha
    unfold St at *
    iintro ⟨#HP, Hq, Hb0, Hb1, Hx, Ho, HO, HB, HL, Hσ, Hκ, Hρ⟩
    ihave Hσ := ha $$ Hσ
    icases Hσ with ⟨Hd, Hσ⟩
    unfold stgHas
    iapply (wp_load 𝒱₀ (c : Thread nD τ) none Set.univ (m := sM) (sub_stage k)) $$ Hd; iintro Hd
    iapply (hk _)
    ihave Hσ := Hσ $$ Hd
    iframe # ∗

theorem ofL_set (hv : v.length = 8) (d : Fin 2) (k : Fin 4) (w : Half F) : upd (ofL v) d k w = ofL (v.set (4 * d.val + k.val) w) := by
  funext d' k'
  unfold upd ofL
  have h1 := d.isLt; have h2 := k.isLt; have h3 := d'.isLt; have h4 := k'.isLt
  rw [List.getD_eq_getElem?_getD, List.getD_eq_getElem?_getD]
  by_cases h : d' = d ∧ k' = k
  · obtain ⟨rfl, rfl⟩ := h
    rw [if_pos ⟨rfl, rfl⟩, List.getElem?_set_self (by omega)]; rfl
  · rw [if_neg h, List.getElem?_set_ne (fun e => h ⟨Fin.ext (by omega), Fin.ext (by omega)⟩)]

/-- A store of a half chunk of the result. -/
theorem st_so (d : Fin 2) (k : Fin 4) (w' : Half F) (hv : v.length = 8) {off : Fin 3 → ℕ} {inb : ∀ a, off a + S1x256x1024.size a ≤ S1x2048x1024.size a} (hoff : off = ![0, row c d k, 0])
    {w : Half F} (hw : w = w') {hx hm} {kk : PUnit → Prog (TpuEff nD τ sig (Elt F) Λ₀ .tc) α}
    (hk : St m K c q b (v.set (4 * d.val + k.val) w') nb l st σ κ ρ ⊢ WP c (kk ⟨⟩) Q) :
    St m K c q b v nb l st σ κ ρ ⊢ WP c (.op (.store oM (Rect.unit (s := S1x2048x1024) off S1x256x1024.size inb) w Finset.univ hx hm) kk) Q := by
  subst hoff; subst hw
  have hwr := write_asm c (ofL v) d k w
  rw [ofL_set hv] at hwr
  unfold St oPts at *
  iintro ⟨#HP, Hq, Hb0, Hb1, Hx, Ho, Hr⟩
  iapply (wp_store 𝒱₀ (c : Thread nD τ) none Set.univ (m := oM) (r := rR c d k) (Mk := Finset.univ) (Finset.subset_univ _)) $$ Ho; iintro Ho
  iapply hk
  rw [hwr]
  iframe # ∗

theorem stage_set (k : Fin 4) : (stageV k).view.set = (sM.access (rS k) : View sig .tc _ _ _).set := set_squeezed _ _
theorem sto_stage (k : Fin 4) (w : Msg F) (f : (cc0_scratch5 : Ref sig .tc).ty.Contents (Elt F)) :
    ((sM.access (rS k)).loc (c : Thread nD τ) ↦[(stageV k).view.set]{fullShare} ((sM.access (rS k) : View sig .tc _ _ _).write (Elt F) f w Finset.univ) : sProp 𝕄) ⊢ stgHas c k w :=
  Entails.of_eq (pointsTo_congr fun i hi => write_stage k w f i (by rw [stage_set] at hi; exact hi))

/-- A store of a staging slot. -/
theorem st_ss (k : Fin 4) (hn : k.val < σ.length) (hσ : σ.getD k.val .gone = .any ∨ ∃ w, σ.getD k.val .gone = .full w)
    {w : Msg F} (w' : Msg F) (hw : w = w') {hx hm} {kk : PUnit → Prog (TpuEff nD τ sig (Elt F) Λ₀ .tc) α}
    (hk : St m K c q b v nb l st (σ.set k.val (.full w')) κ ρ ⊢ WP c (kk ⟨⟩) Q) :
    St m K c q b v nb l st σ κ ρ ⊢ WP c (.op (.store sM (rS k) w Finset.univ hx hm) kk) Q := by
  subst hw
  have ha := fam_acc (Sig (F := F) c) σ .gone k (.full w) hn
  have he : Sig (F := F) c k (σ.getD k.val .gone) ⊢ stgAny c k := by
    rcases hσ with hσ | ⟨u, hσ⟩
    · rw [hσ]; exact BI.Entails.refl _
    · rw [hσ]; unfold Sig stgHas stgAny; iintro H; iexists (stageB u); iexact H
  unfold St at *
  iintro ⟨#HP, Hq, Hb0, Hb1, Hx, Ho, HO, HB, HL, Hσ, Hκ, Hρ⟩
  ihave Hσ := ha $$ Hσ
  icases Hσ with ⟨Hd, Hσ⟩
  ihave Hd := he $$ Hd
  unfold stgAny
  icases Hd with ⟨%f, Hd⟩
  iapply (wp_store 𝒱₀ (c : Thread nD τ) none Set.univ (m := sM) (r := rS k) (Mk := Finset.univ) (S := (stageV k).view.set)
    (by rw [stage_set, View.setOn_univ])) $$ Hd; iintro Hd
  iapply hk
  ihave Hσ := Hσ $$ [Hd]
  · ihave Hd := (sto_stage k w f) $$ Hd
    rw [show Sig (F := F) c k (.full w) = stgHas c k w from rfl]
    iexact Hd
  iframe # ∗

end Cert.Run
-- ==== Proof.Steps2.lean ====
/-
# The operations that move data or wait

The rest of `Steps.lean`: the local copies and their waits, the barrier, the messages and their two waits.
-/
module

public import proofs.«01_k».proof.Proof.Steps

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-! ## The weight copies -/

theorem LCq_idle : LCq m c .idle = iprop(wqSrc m c ∗ (∃ f, wqDst c f) ∗ semVal ((c : Thread nD τ), .dma (copyS 0)) 0) := rfl
theorem LCq_fly : LCq m c .fly = Flight EC (c : Thread nD τ) (.dma (copyS 0)) () Nw iprop(wqDst c (wqB m c) ∗ wqSrc m c) := rfl
theorem LCq_done : LCq m c .done = iprop(wqSrc m c ∗ wqDst c (wqB m c) ∗ semVal ((c : Thread nD τ), .dma (copyS 0)) 0) := rfl

theorem st_cpq (hb : b.getD 0 .idle = .idle) (hn : 0 < b.length) {sm : DmaSem sig} (hs : sm = copyS 0)
    {h1 h2 h3} {kk : PUnit → Prog (TpuEff nD τ sig (Elt F) Λ₀ .tc) α}
    (hk : St m K c q (b.set 0 .fly) v nb l st σ κ ρ ⊢ WP c (kk ⟨⟩) Q) :
    St m K c q b v nb l st σ κ ρ ⊢ WP c (.op (.enqueueDma (wqV c) (.here wqM) (.dma sm) h1 h2 h3) kk) Q := by
  subst hs
  have e0 : (b.set 0 .fly).getD 0 .idle = LC.fly := by rw [List.getD_eq_getElem?_getD, List.getElem?_set_self hn]; rfl
  have e1 : (b.set 0 LC.fly).getD 1 .idle = b.getD 1 .idle := by rw [List.getD_eq_getElem?_getD, List.getElem?_set_ne (by decide), List.getD_eq_getElem?_getD]
  unfold St at *
  rw [e0, e1, LCq_fly] at hk
  rw [hb, LCq_idle]
  have hf : ∀ f : (cc0_scratch0 : Ref sig .tc).ty.Contents (Elt F), (wqM).view.write (Elt F) f ((ReadAs.same : ReadAs (Elt F) S1024x1024 .f32 S1024x1024 .f32).apply ((wqV c).view.read (Elt F) (m ((c : Thread nD τ).loc main_arg1)))) Finset.univ = wqB m c := fun f =>
    View.write_whole_univ _ _ _
  iintro ⟨#HP, Hq, Hb, Hr⟩
  icases Hb with ⟨Hs, ⟨%f, Hd⟩, Hv⟩
  have hf := hf f
  unfold wqSrc wqDst at *
  iapply (wp_dmaLocal EC 𝒱₀ (c : Thread nD τ) none () Nw rfl Nw_pos (Finset.subset_univ _) (src := wqV c) (dst := wqM) (Sd := Finset.univ)) $$ [Hs Hd Hv]
  · isplitl [Hs]; · iexact Hs
    isplitl [Hd]; · iexact Hd
    iexact Hv
  rw [hf]
  iintro HF
  iapply hk
  isplitr; · iexact HP
  isplitl [Hq]; · iexact Hq
  isplitl [HF]
  · iexact HF
  iexact Hr

theorem st_wqw (hb : b.getD 0 .idle = .fly) (hn : 0 < b.length) {sm : DmaSem sig} (hs : sm = copyS 0)
    {sp' : Space} {srcw : Memref sig .tc sp' S1024x1024 .f32} {dstw : Memref sig .tc .vmem S1024x1024 .f32} (hJ : dstw.view.dmaCredit = Nw)
    {h1 h2} {kk : PUnit → Prog (TpuEff nD τ sig (Elt F) Λ₀ .tc) α}
    (hk : St m K c q (b.set 0 .done) v 0 l st σ κ ρ ⊢ WP c (kk ⟨⟩) Q) :
    St m K c q b v 0 l st σ κ ρ ⊢ WP c (.op (.waitDma2 sm srcw dstw h1 h2) kk) Q := by
  subst hs
  have e0 : (b.set 0 .done).getD 0 .idle = LC.done := by rw [List.getD_eq_getElem?_getD, List.getElem?_set_self hn]; rfl
  have e1 : (b.set 0 LC.done).getD 1 .idle = b.getD 1 .idle := by rw [List.getD_eq_getElem?_getD, List.getElem?_set_ne (by decide), List.getD_eq_getElem?_getD]
  unfold St Ow at *
  rw [e0, e1, LCq_done] at hk
  rw [hb, LCq_fly]
  iintro ⟨#HP, Hq, Hb0, Hb1, Hx, Ho, ⟨%W, HO⟩, Hr⟩
  iapply (wp_waitLocalO EC 𝒱₀ (c : Thread nD τ) none () hJ) $$ [Hb0 HO]
  · isplitl [Hb0]; · iexact Hb0
    isplitl [HO]; · iexact HO
    ihave Hl := (pers_lev m K) $$ HP
    iapply (mayWait c (.dma (copyS 0)) l (fun j _ => Nat.lt_of_lt_of_le (by decide : 0 < 2) (Nat.le_add_right _ _))) $$ Hl
  iintro ⟨⟨Hd, Hs⟩, Hv, HO⟩
  iapply hk
  iframe # ∗
  iexists _; iexact HO

theorem LCo_idle : LCo m c .idle = iprop(woSrc m c ∗ (∃ f, woDst c f) ∗ semVal ((c : Thread nD τ), .dma (copyS 1)) 0) := rfl
theorem LCo_fly : LCo m c .fly = Flight EC (c : Thread nD τ) (.dma (copyS 1)) () Nw iprop(woDst c (woB m c) ∗ woSrc m c) := rfl
theorem LCo_done : LCo m c .done = iprop(woSrc m c ∗ woDst c (woB m c) ∗ semVal ((c : Thread nD τ), .dma (copyS 1)) 0) := rfl

theorem st_cpo (hb : b.getD 1 .idle = .idle) (hn : 1 < b.length) {sm : DmaSem sig} (hs : sm = copyS 1)
    {h1 h2 h3} {kk : PUnit → Prog (TpuEff nD τ sig (Elt F) Λ₀ .tc) α}
    (hk : St m K c q (b.set 1 .fly) v nb l st σ κ ρ ⊢ WP c (kk ⟨⟩) Q) :
    St m K c q b v nb l st σ κ ρ ⊢ WP c (.op (.enqueueDma (woV c) (.here woM) (.dma sm) h1 h2 h3) kk) Q := by
  subst hs
  have e0 : (b.set 1 .fly).getD 1 .idle = LC.fly := by rw [List.getD_eq_getElem?_getD, List.getElem?_set_self hn]; rfl
  have e1 : (b.set 1 LC.fly).getD 0 .idle = b.getD 0 .idle := by rw [List.getD_eq_getElem?_getD, List.getElem?_set_ne (by decide), List.getD_eq_getElem?_getD]
  unfold St at *
  rw [e0, e1, LCo_fly] at hk
  rw [hb, LCo_idle]
  have hf : ∀ f : (cc0_scratch1 : Ref sig .tc).ty.Contents (Elt F), (woM).view.write (Elt F) f ((ReadAs.same : ReadAs (Elt F) S1024x1024 .f32 S1024x1024 .f32).apply ((woV c).view.read (Elt F) (m ((c : Thread nD τ).loc main_arg4)))) Finset.univ = woB m c := fun f =>
    View.write_whole_univ _ _ _
  iintro ⟨#HP, Hq, Hb0, Hb, Hr⟩
  icases Hb with ⟨Hs, ⟨%f, Hd⟩, Hv⟩
  have hf := hf f
  unfold woSrc woDst at *
  iapply (wp_dmaLocal EC 𝒱₀ (c : Thread nD τ) none () Nw rfl Nw_pos (Finset.subset_univ _) (src := woV c) (dst := woM) (Sd := Finset.univ)) $$ [Hs Hd Hv]
  · isplitl [Hs]; · iexact Hs
    isplitl [Hd]; · iexact Hd
    iexact Hv
  rw [hf]
  iintro HF
  iapply hk
  isplitr; · iexact HP
  isplitl [Hq]; · iexact Hq
  isplitl [Hb0]; · iexact Hb0
  isplitl [HF]
  · iexact HF
  iexact Hr

theorem st_wow (hb : b.getD 1 .idle = .fly) (hn : 1 < b.length) {sm : DmaSem sig} (hs : sm = copyS 1)
    {sp' : Space} {srcw : Memref sig .tc sp' S1024x1024 .f32} {dstw : Memref sig .tc .vmem S1024x1024 .f32} (hJ : dstw.view.dmaCredit = Nw)
    {h1 h2} {kk : PUnit → Prog (TpuEff nD τ sig (Elt F) Λ₀ .tc) α}
    (hk : St m K c q (b.set 1 .done) v 0 l st σ κ ρ ⊢ WP c (kk ⟨⟩) Q) :
    St m K c q b v 0 l st σ κ ρ ⊢ WP c (.op (.waitDma2 sm srcw dstw h1 h2) kk) Q := by
  subst hs
  have e0 : (b.set 1 .done).getD 1 .idle = LC.done := by rw [List.getD_eq_getElem?_getD, List.getElem?_set_self hn]; rfl
  have e1 : (b.set 1 LC.done).getD 0 .idle = b.getD 0 .idle := by rw [List.getD_eq_getElem?_getD, List.getElem?_set_ne (by decide), List.getD_eq_getElem?_getD]
  unfold St Ow at *
  rw [e0, e1, LCo_done] at hk
  rw [hb, LCo_fly]
  iintro ⟨#HP, Hq, Hb0, Hb1, Hx, Ho, ⟨%W, HO⟩, Hr⟩
  iapply (wp_waitLocalO EC 𝒱₀ (c : Thread nD τ) none () hJ) $$ [Hb1 HO]
  · isplitl [Hb1]; · iexact Hb1
    isplitl [HO]; · iexact HO
    ihave Hl := (pers_lev m K) $$ HP
    iapply (mayWait c (.dma (copyS 1)) l (fun j _ => Nat.lt_of_lt_of_le (by decide : 0 < 2) (Nat.le_add_right _ _))) $$ Hl
  iintro ⟨⟨Hd, Hs⟩, Hv, HO⟩
  iapply hk
  iframe # ∗
  iexists _; iexact HO

/-! ## The cache copies -/

theorem KVs_run (r : Fin 4) (t u : ℕ) : KVs m c r (.run t u) = iprop(Batch EC (c : Thread nD τ) (.dma (copyG r)) () Nkv (kvPost m c r) t (u * Nkv) ∗ bigSep (pending t) (kvPre m c r)) := rfl
theorem KVs_got (r : Fin 4) : KVs m c r .got = iprop(kGrp m c r ∗ vGrp m c r ∗ bigSep Finset.univ (fun h => kSrc m c r h) ∗ bigSep Finset.univ (fun h => vSrc m c r h)
      ∗ semVal ((c : Thread nD τ), .dma (copyG r)) 0) := rfl

theorem kAt (r : Fin 4) (h : Fin 8) (hj : 2 * h.val < 16) : kvPre m c r ⟨2 * h.val, hj⟩ = iprop(kSrc m c r h ∗ ∃ f, kTile c r h f)
    ∧ kvPost m c r ⟨2 * h.val, hj⟩ = iprop(kSrc m c r h ∗ kTile c r h (gath (F := F) (kB m c))) := by
  have e : headOf ⟨2 * h.val, hj⟩ = h := Fin.ext (by show (2 * h.val) / 2 = h.val; omega)
  unfold kvPre kvPost
  rw [if_pos (by show (2 * h.val) % 2 = 0; omega), if_pos (by show (2 * h.val) % 2 = 0; omega), e]
  exact ⟨rfl, rfl⟩

theorem st_cpk (r : Fin 4) (h : Fin 8) (hn : r.val < q.length) (hq : q.getD r.val .got = .run (2 * h.val) 0) {sm : DmaSem sig} (hs : sm = copyG r)
    {h1 h2 h3} {kk : PUnit → Prog (TpuEff nD τ sig (Elt F) Λ₀ .tc) α}
    (hk : St m K c (q.set r.val (.run (2 * h.val + 1) 0)) b v nb l st σ κ ρ ⊢ WP c (kk ⟨⟩) Q) :
    St m K c q b v nb l st σ κ ρ ⊢ WP c (.op (.enqueueDma (arrV kA r h) (.here (kvV kM r h)) (.dma sm) h1 h2 h3) kk) Q := by
  subst hs
  have hj : 2 * h.val < 16 := by have := h.isLt; omega
  have ha := fam_acc (KVs m c) q .got r (.run (2 * h.val + 1) 0) hn
  rw [hq, KVs_run, KVs_run, Nat.zero_mul, show bigSep (pending (2 * h.val)) (kvPre m c r) = iprop(kvPre m c r ⟨2 * h.val, hj⟩ ∗ bigSep (pending (2 * h.val + 1)) (kvPre m c r)) from bigSep_pending_step _ _ hj,
    (kAt r h hj).1] at ha
  have hland : ∀ f, iprop(((kvV kM r h).view.loc (c : Thread nD τ) ↦[(kvV kM r h).view.set]{fullShare} ((kvV kM r h).view.write (Elt F) f (ReadAs.same.apply ((arrV kA r h).view.read (Elt F) (kB m c))) Finset.univ))
      ∗ ((arrV kA r h).view.loc (c : Thread nD τ) ↦[(arrV kA r h).view.set]{fullShare} (kB m c))) ⊢ kvPost m c r ⟨2 * h.val, hj⟩ := fun f => by
    rw [(kAt r h hj).2]
    unfold kSrc kTile
    rw [show ReadAs.same.apply ((arrV kA r h).view.read (Elt F) (kB m c)) = (arrV kA r h).view.read (Elt F) (kB m c) from rfl, pointsTo_congr (land_k r h (kB m c) f)]
    iintro ⟨H1, H2⟩
    isplitl [H2]; · iexact H2
    iexact H1
  unfold St at *
  iintro ⟨#HP, Hq, Hr⟩
  ihave Hq := ha $$ Hq
  icases Hq with ⟨⟨HB, ⟨Hs, ⟨%f, Hd⟩⟩, Hp⟩, Hq⟩
  unfold kSrc kTile
  iapply (wp_dmaBatch EC 𝒱₀ (c : Thread nD τ) none () Nkv rfl (Finset.Subset.refl _) hj (Nat.zero_le _) (hland f) (u := 0) (src := arrV kA r h) (dst := kvV kM r h)) $$ [Hs Hd HB]
  · isplitl [Hs]; · iexact Hs
    isplitl [Hd]; · iexact Hd
    iexact HB
  iintro HB
  iapply hk
  isplitr; · iexact HP
  isplitl [HB Hp Hq]
  · iapply Hq
    isplitl [HB]; · iexact HB
    iexact Hp
  iexact Hr

theorem vAt (r : Fin 4) (h : Fin 8) (hj : 2 * h.val + 1 < 16) : kvPre m c r ⟨2 * h.val + 1, hj⟩ = iprop(vSrc m c r h ∗ ∃ f, vTile c r h f)
    ∧ kvPost m c r ⟨2 * h.val + 1, hj⟩ = iprop(vSrc m c r h ∗ vTile c r h (gath (F := F) (vB m c))) := by
  have e : headOf ⟨2 * h.val + 1, hj⟩ = h := Fin.ext (by show (2 * h.val + 1) / 2 = h.val; omega)
  unfold kvPre kvPost
  rw [if_neg (by show ¬ (2 * h.val + 1) % 2 = 0; omega), if_neg (by show ¬ (2 * h.val + 1) % 2 = 0; omega), e]
  exact ⟨rfl, rfl⟩

theorem st_cpv (r : Fin 4) (h : Fin 8) (hn : r.val < q.length) (hq : q.getD r.val .got = .run (2 * h.val + 1) 0) {sm : DmaSem sig} (hs : sm = copyG r)
    {h1 h2 h3} {kk : PUnit → Prog (TpuEff nD τ sig (Elt F) Λ₀ .tc) α}
    (hk : St m K c (q.set r.val (.run (2 * h.val + 1 + 1) 0)) b v nb l st σ κ ρ ⊢ WP c (kk ⟨⟩) Q) :
    St m K c q b v nb l st σ κ ρ ⊢ WP c (.op (.enqueueDma (arrV vA r h) (.here (kvV vM r h)) (.dma sm) h1 h2 h3) kk) Q := by
  subst hs
  have hj : 2 * h.val + 1 < 16 := by have := h.isLt; omega
  have ha := fam_acc (KVs m c) q .got r (.run (2 * h.val + 1 + 1) 0) hn
  rw [hq, KVs_run, KVs_run, Nat.zero_mul, show bigSep (pending (2 * h.val + 1)) (kvPre m c r) = iprop(kvPre m c r ⟨2 * h.val + 1, hj⟩ ∗ bigSep (pending (2 * h.val + 1 + 1)) (kvPre m c r)) from bigSep_pending_step _ _ hj,
    (vAt r h hj).1] at ha
  have hland : ∀ f, iprop(((kvV vM r h).view.loc (c : Thread nD τ) ↦[(kvV vM r h).view.set]{fullShare} ((kvV vM r h).view.write (Elt F) f (ReadAs.same.apply ((arrV vA r h).view.read (Elt F) (vB m c))) Finset.univ))
      ∗ ((arrV vA r h).view.loc (c : Thread nD τ) ↦[(arrV vA r h).view.set]{fullShare} (vB m c))) ⊢ kvPost m c r ⟨2 * h.val + 1, hj⟩ := fun f => by
    rw [(vAt r h hj).2]
    unfold vSrc vTile
    rw [show ReadAs.same.apply ((arrV vA r h).view.read (Elt F) (vB m c)) = (arrV vA r h).view.read (Elt F) (vB m c) from rfl, pointsTo_congr (land_v r h (vB m c) f)]
    iintro ⟨H1, H2⟩
    isplitl [H2]; · iexact H2
    iexact H1
  unfold St at *
  iintro ⟨#HP, Hq, Hr⟩
  ihave Hq := ha $$ Hq
  icases Hq with ⟨⟨HB, ⟨Hs, ⟨%f, Hd⟩⟩, Hp⟩, Hq⟩
  unfold vSrc vTile
  iapply (wp_dmaBatch EC 𝒱₀ (c : Thread nD τ) none () Nkv rfl (Finset.Subset.refl _) hj (Nat.zero_le _) (hland f) (u := 0) (src := arrV vA r h) (dst := kvV vM r h)) $$ [Hs Hd HB]
  · isplitl [Hs]; · iexact Hs
    isplitl [Hd]; · iexact Hd
    iexact HB
  iintro HB
  iapply hk
  isplitr; · iexact HP
  isplitl [HB Hp Hq]
  · iapply Hq
    isplitl [HB]; · iexact HB
    iexact Hp
  iexact Hr

theorem kindOf_copyG (r : Fin 4) : kindOf (.dma (copyG r)) = none := by revert r; decide

/-- A wait for a cache copy that is not the last of its group. -/
theorem st_kvw (r : Fin 4) (u : ℕ) (hu : u < 15) (hn : r.val < q.length) (hq : q.getD r.val .got = .run 16 u) {sm : DmaSem sig} (hs : sm = copyG r)
    {s s' : Shape} {e e' : EltTy} {sp sp' : Space} {srcw : Memref sig .tc sp' s' e'} {dstw : Memref sig .tc sp s e} (hJ : dstw.view.dmaCredit = Nkv)
    {h1 h2} {kk : PUnit → Prog (TpuEff nD τ sig (Elt F) Λ₀ .tc) α}
    (hk : St m K c (q.set r.val (.run 16 (u + 1))) b v 0 l st σ κ ρ ⊢ WP c (kk ⟨⟩) Q) :
    St m K c q b v 0 l st σ κ ρ ⊢ WP c (.op (.waitDma2 sm srcw dstw h1 h2) kk) Q := by
  subst hs
  have ha := fam_acc (KVs m c) q .got r (.run 16 (u + 1)) hn
  rw [hq, KVs_run, KVs_run, show (u + 1) * Nkv = u * Nkv + 1 * Nkv by rw [Nat.add_mul]] at ha
  unfold St Ow at *
  iintro ⟨#HP, Hq, Hb0, Hb1, Hx, Ho, ⟨%W, HO⟩, Hr⟩
  ihave Hq := ha $$ Hq
  icases Hq with ⟨⟨HB, Hp⟩, Hq⟩
  iapply (wp_waitBatchMulO EC 𝒱₀ (c : Thread nD τ) none () 1 (by rw [hJ, Nat.one_mul]) (show u * Nkv + 1 * Nkv ≤ Nkv * 16 by rw [← Nat.add_mul, Nat.mul_comm]; exact Nat.mul_le_mul_left _ (by omega)) (srcw := srcw) (dstw := dstw)) $$ [HB HO]
  · isplitl [HB]; · iexact HB
    isplitl [HO]; · iexact HO
    ihave Hl := (pers_lev m K) $$ HP
    iapply (mayWait c (.dma (copyG r)) l (fun j _ => by
      rw [kindOf_copyG r]; exact Nat.lt_of_lt_of_le (by decide : 0 < 2) (Nat.le_add_right _ _))) $$ Hl
  iintro ⟨HB, HO⟩
  ihave Hq := Hq $$ [HB Hp]
  · isplitl [HB]; · iexact HB
    iexact Hp
  iapply hk
  iframe # ∗
  iexists _; iexact HO

omit [FloatOps F] in
theorem sep16 (P : Fin 16 → sProp 𝕄) : bigSep Finset.univ P
    = iprop(bigSep Finset.univ (fun h : Fin 8 => P ⟨2 * h.val, by omega⟩) ∗ bigSep Finset.univ (fun h : Fin 8 => P ⟨2 * h.val + 1, by omega⟩)) := by
  rw [bigSep_univ_eq_bigSepL [0, 2, 4, 6, 8, 10, 12, 14, 1, 3, 5, 7, 9, 11, 13, 15] (by decide) (by decide),
    bigSep_univ_eq_bigSepL [0, 1, 2, 3, 4, 5, 6, 7] (by decide) (by decide), bigSep_univ_eq_bigSepL [0, 1, 2, 3, 4, 5, 6, 7] (by decide) (by decide)]
  simp only [bigSepL_cons_cons, bigSepL_singleton]
  refine BI.Entails.antisymm ?_ ?_
  · show iprop(P 0 ∗ P 2 ∗ P 4 ∗ P 6 ∗ P 8 ∗ P 10 ∗ P 12 ∗ P 14 ∗ P 1 ∗ P 3 ∗ P 5 ∗ P 7 ∗ P 9 ∗ P 11 ∗ P 13 ∗ P 15)
      ⊢ iprop((P 0 ∗ P 2 ∗ P 4 ∗ P 6 ∗ P 8 ∗ P 10 ∗ P 12 ∗ P 14) ∗ P 1 ∗ P 3 ∗ P 5 ∗ P 7 ∗ P 9 ∗ P 11 ∗ P 13 ∗ P 15)
    iintro ⟨H0, H1, H2, H3, H4, H5, H6, H7, Hr⟩
    isplitl [H0 H1 H2 H3 H4 H5 H6 H7]
    · iframe
    iexact Hr
  · show iprop((P 0 ∗ P 2 ∗ P 4 ∗ P 6 ∗ P 8 ∗ P 10 ∗ P 12 ∗ P 14) ∗ P 1 ∗ P 3 ∗ P 5 ∗ P 7 ∗ P 9 ∗ P 11 ∗ P 13 ∗ P 15)
      ⊢ iprop(P 0 ∗ P 2 ∗ P 4 ∗ P 6 ∗ P 8 ∗ P 10 ∗ P 12 ∗ P 14 ∗ P 1 ∗ P 3 ∗ P 5 ∗ P 7 ∗ P 9 ∗ P 11 ∗ P 13 ∗ P 15)
    iintro ⟨⟨H0, H1, H2, H3, H4, H5, H6, H7⟩, Hr⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hr

theorem kv_collect (r : Fin 4) : bigSep Finset.univ (kvPost m c r)
    ⊢ iprop(kGrp m c r ∗ vGrp m c r ∗ bigSep Finset.univ (fun h => kSrc m c r h) ∗ bigSep Finset.univ (fun h => vSrc m c r h)) := by
  have ek : kGrp m c r = bigSep Finset.univ fun h => kTile c r h (gath (F := F) (kB m c)) := by
    unfold kGrp kG
    refine pointsTo_biUnion (ℓ := (c : Thread nD τ).loc cc0_scratch2) Finset.univ (fun h : Fin 8 => (kvV kM r h).view.set) ?_
    exact fun h _ h' _ hne => Finset.disjoint_left.mpr fun i h1 h2 =>
      hne (Fin.ext (((mem_kV r h i).mp h1).2.symm.trans ((mem_kV r h' i).mp h2).2))
  have ev : vGrp m c r = bigSep Finset.univ fun h => vTile c r h (gath (F := F) (vB m c)) := by
    unfold vGrp vG
    refine pointsTo_biUnion (ℓ := (c : Thread nD τ).loc cc0_scratch3) Finset.univ (fun h : Fin 8 => (kvV vM r h).view.set) ?_
    exact fun h _ h' _ hne => Finset.disjoint_left.mpr fun i h1 h2 =>
      hne (Fin.ext (((mem_vV r h i).mp h1).2.symm.trans ((mem_vV r h' i).mp h2).2))
  have e1 : bigSep Finset.univ (fun h : Fin 8 => kvPost m c r ⟨2 * h.val, by omega⟩) = bigSep Finset.univ (fun h : Fin 8 => iprop(kSrc m c r h ∗ kTile c r h (gath (F := F) (kB m c)))) :=
    bigSep_congr fun h _ => (kAt r h (by omega)).2
  have e2 : bigSep Finset.univ (fun h : Fin 8 => kvPost m c r ⟨2 * h.val + 1, by omega⟩) = bigSep Finset.univ (fun h : Fin 8 => iprop(vSrc m c r h ∗ vTile c r h (gath (F := F) (vB m c)))) :=
    bigSep_congr fun h _ => (vAt r h (by omega)).2
  rw [sep16, e1, e2, bigSep_sep', bigSep_sep', ek, ev]
  iintro ⟨⟨H1, H2⟩, H3, H4⟩
  iframe

/-- The last wait of a group: everything the group's copies leave. -/
theorem st_kvl (r : Fin 4) (hn : r.val < q.length) (hq : q.getD r.val .got = .run 16 15) {sm : DmaSem sig} (hs : sm = copyG r)
    {s s' : Shape} {e e' : EltTy} {sp sp' : Space} {srcw : Memref sig .tc sp' s' e'} {dstw : Memref sig .tc sp s e} (hJ : dstw.view.dmaCredit = Nkv)
    {h1 h2} {kk : PUnit → Prog (TpuEff nD τ sig (Elt F) Λ₀ .tc) α}
    (hk : St m K c (q.set r.val .got) b v 0 l st σ κ ρ ⊢ WP c (kk ⟨⟩) Q) :
    St m K c q b v 0 l st σ κ ρ ⊢ WP c (.op (.waitDma2 sm srcw dstw h1 h2) kk) Q := by
  subst hs
  have ha := fam_acc (KVs m c) q .got r .got hn
  rw [hq, KVs_run, KVs_got] at ha
  unfold St Ow at *
  iintro ⟨#HP, Hq, Hb0, Hb1, Hx, Ho, ⟨%W, HO⟩, Hr⟩
  ihave Hq := ha $$ Hq
  icases Hq with ⟨⟨HB, -⟩, Hq⟩
  iapply (wp_waitBatchMulO EC 𝒱₀ (c : Thread nD τ) none () 1 (by rw [hJ, Nat.one_mul]) (show 15 * Nkv + 1 * Nkv ≤ Nkv * 16 by rw [← Nat.add_mul, Nat.mul_comm]) (srcw := srcw) (dstw := dstw)) $$ [HB HO]
  · isplitl [HB]; · iexact HB
    isplitl [HO]; · iexact HO
    ihave Hl := (pers_lev m K) $$ HP
    iapply (mayWait c (.dma (copyG r)) l (fun j _ => by
      rw [kindOf_copyG r]; exact Nat.lt_of_lt_of_le (by decide : 0 < 2) (Nat.le_add_right _ _))) $$ Hl
  iintro ⟨HB, HO⟩
  rw [show 15 * Nkv + 1 * Nkv = Nkv * 16 by rw [← Nat.add_mul, Nat.mul_comm]]
  imod (batch_collect' EC (c : Thread nD τ) Nkv_pos) $$ HB with ⟨HD, Hv⟩
  ihave HD := (kv_collect r) $$ HD
  icases HD with ⟨H1, H2, H3, H4⟩
  ihave Hq := Hq $$ [H1 H2 H3 H4 Hv]
  · iframe
  iapply hk
  iframe # ∗
  iexists _; iexact HO

end Cert.Run
-- ==== Proof.Steps3.lean ====
/-
# The barrier and the messages

The rest of the operations: the two signals and the wait of the barrier, a message sent from a staging or a landing slot, and the two
waits of a message.
-/
module

public import proofs.«01_k».proof.Proof.Steps2

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-! ## The families' entries -/

theorem Bar_3 : Bar (F := F) c 3 = iprop(dutyTok ER (cellB (toD 1 c)) 0 false ∗ dutyTok ER (cellB (toD 0 c)) 0 true ∗ atPos ER (cellB c) 0 ∅ 0 ∗ cred (tallyAt (cellB c) () 2)) := rfl
theorem Bar_2 : Bar (F := F) c 2 = iprop(dutyTok ER (cellB (toD 0 c)) 0 true ∗ atPos ER (cellB c) 0 ∅ 0 ∗ cred (tallyAt (cellB c) () 2)) := rfl
theorem Bar_1 : Bar (F := F) c 1 = iprop(atPos ER (cellB c) 0 ∅ 0 ∗ cred (tallyAt (cellB c) () 2)) := rfl
theorem Bar_0 : Bar (F := F) c 0 = iprop(semVal (cellB c) 0) := rfl
theorem Kap_gone (k : Fin 6) : Kap (F := F) c k .gone = iprop(emp) := rfl
theorem Kap_any (k : Fin 6) : Kap (F := F) c k .any = slotAny c k := rfl
theorem Kap_full (k : Fin 6) (w : Msg F) : Kap c k (.full w) = slotHas c k fullShare w := rfl
theorem Kap_half (k : Fin 6) (w : Msg F) : Kap c k (.half w) = slotHas c k fullShare.right w := rfl
theorem Sig_gone (k : Fin 4) : Sig (F := F) c k .gone = iprop(emp) := rfl
theorem Sig_full (k : Fin 4) (w : Msg F) : Sig c k (.full w) = stgHas c k w := rfl
theorem Rho_true (k : Fin 6) : Rho (F := F) c k true = slotAny (peer k c) k := rfl
theorem Rho_false (k : Fin 6) : Rho (F := F) c k false = iprop(emp) := rfl
theorem Lane_0 (j : Fin 12) : Lane (F := F) c j 0 = iprop(dutyTok ER (cellS c j) 0 false ∗ dutyTok ER (cellR (toD (dir j) c) j) 0 false ∗ atPos ER (cellS c j) 0 ∅ 0 ∗ atPos ER (cellR c j) 0 ∅ 0
      ∗ cred (tallyAt (cellR c j) () N)) := rfl
theorem Lane_1 (j : Fin 12) : Lane (F := F) c j 1 = iprop(atPos ER (cellS c j) 0 ∅ 0 ∗ atPos ER (cellR c j) 0 ∅ 0 ∗ cred (tallyAt (cellR c j) () N) ∗ cred (tallyAt (cellS c j) () N)) := rfl
theorem Lane_2 (j : Fin 12) : Lane (F := F) c j 2 = iprop(semVal (cellS c j) 0 ∗ atPos ER (cellR c j) 0 ∅ 0 ∗ cred (tallyAt (cellR c j) () N)) := rfl
theorem Lane_3 (j : Fin 12) : Lane (F := F) c j 3 = iprop(semVal (cellS c j) 0 ∗ semVal (cellR c j) 0) := rfl

omit [FloatOps F] in
theorem fam6 {β : Type} (P : Fin 6 → β → sProp 𝕄) (a0 a1 a2 a3 a4 a5 d : β) :
    fam P [a0, a1, a2, a3, a4, a5] d = iprop(P 0 a0 ∗ P 1 a1 ∗ P 2 a2 ∗ P 3 a3 ∗ P 4 a4 ∗ P 5 a5) := by
  unfold fam
  rw [bigSep_univ_eq_bigSepL [0, 1, 2, 3, 4, 5] (by decide) (by decide)]
  simp only [bigSepL_cons_cons, bigSepL_singleton]
  rfl

/-! ## The barrier -/

theorem amount_bar (d : Bool) : (Rd m).amount (cellB c) 0 d = 1 := (amount_at m c none d).trans (if_pos rfl)
theorem to01 (c : Dev nD) : toD 0 (toD 1 c) = c := by revert c; decide
theorem to10 (c : Dev nD) : toD 1 (toD 0 c) = c := by revert c; decide

/-- The first signal hands the device before this one slots 0, 1, 2; -/
theorem st_sig1 {n : Dev nD} (hn : n = toD 1 c) {k' : ℕ} (hk' : k' = 1) {kk : PUnit → Prog (TpuEff nD τ sig (Elt F) Λ₀ .tc) α}
    (hk : St m K c q b v 2 l st σ [.gone, .gone, .gone, .any, .any, .any] ρ ⊢ WP c (kk ⟨⟩) Q) :
    St m K c q b v 3 l st σ [.any, .any, .any, .any, .any, .any] ρ ⊢ WP c (.op (.semSignal (Dev.tc n) barS k') kk) Q := by
  subst hn; subst hk'
  unfold St Ow at *
  rw [fam6, Bar_2] at hk
  rw [fam6, Bar_3]
  simp only [Kap_any, Kap_gone] at hk ⊢
  iintro ⟨#HP, Hq, Hb0, Hb1, Hx, Ho, ⟨%W, HO⟩, ⟨HtL, HtR, HaB, HcB⟩, HL, Hσ, ⟨H0, H1, H2, H3, H4, H5⟩, Hρ⟩
  ihave Hc := (pers_cell m K (toD 1 c, none)) $$ HP
  icases Hc with ⟨#HI, #Hr⟩
  iapply (Rounds.wp_signal 𝒱₀ ER (Rd m) (c : Thread nD τ) none (dst := (toD 1 c : Thread nD τ)) (κ := K (toD 1 c, none))
      (d := false) (by rw [show ((toD 1 c : Thread nD τ), SemLoc.reg barS) = cellB (toD 1 c) from rfl, duties_at]; exact Finset.mem_univ _) (amount_bar (c := toD 1 c) false) () (owed c 1 l) rfl)
    $$ [HO HtL H0 H1 H2]
  · isplitr; · iexact HI
    isplitl [HO]; · iexact HO
    isplitl [HtL]; · iexact HtL
    isplitl [H0 H1 H2]
    · rw [show (Rd m).payload ((toD 1 c : Thread nD τ), SemLoc.reg barS) 0 false = barPay (toD 1 c) false from payload_at m (toD 1 c) none false]
      unfold barPay
      rw [if_neg (by decide), to01]
      isplitl [H0]; · iexact H0
      isplitl [H1]; · iexact H1
      iexact H2
    iexact Hr
  iintro HO
  iapply hk
  iframe # ∗
  iexists W; iexact HO

/-- the second hands the next device slots 3, 4, 5. -/
theorem st_sig2 {n : Dev nD} (hn : n = toD 0 c) {k' : ℕ} (hk' : k' = 1) {kk : PUnit → Prog (TpuEff nD τ sig (Elt F) Λ₀ .tc) α}
    (hk : St m K c q b v 1 l st σ [.gone, .gone, .gone, .gone, .gone, .gone] ρ ⊢ WP c (kk ⟨⟩) Q) :
    St m K c q b v 2 l st σ [.gone, .gone, .gone, .any, .any, .any] ρ ⊢ WP c (.op (.semSignal (Dev.tc n) barS k') kk) Q := by
  subst hn; subst hk'
  unfold St Ow at *
  rw [fam6, Bar_1] at hk
  rw [fam6, Bar_2]
  simp only [Kap_any, Kap_gone] at hk ⊢
  iintro ⟨#HP, Hq, Hb0, Hb1, Hx, Ho, ⟨%W, HO⟩, ⟨HtR, HaB, HcB⟩, HL, Hσ, ⟨H0, H1, H2, H3, H4, H5⟩, Hρ⟩
  ihave Hc := (pers_cell m K (toD 0 c, none)) $$ HP
  icases Hc with ⟨#HI, #Hr⟩
  iapply (Rounds.wp_signal 𝒱₀ ER (Rd m) (c : Thread nD τ) none (dst := (toD 0 c : Thread nD τ)) (κ := K (toD 0 c, none))
      (d := true) (by rw [show ((toD 0 c : Thread nD τ), SemLoc.reg barS) = cellB (toD 0 c) from rfl, duties_at]; exact Finset.mem_univ _) (amount_bar (c := toD 0 c) true) () (owed c 0 l) rfl)
    $$ [HO HtR H3 H4 H5]
  · isplitr; · iexact HI
    isplitl [HO]; · iexact HO
    isplitl [HtR]; · iexact HtR
    isplitl [H3 H4 H5]
    · rw [show (Rd m).payload ((toD 0 c : Thread nD τ), SemLoc.reg barS) 0 true = barPay (toD 0 c) true from payload_at m (toD 0 c) none true]
      unfold barPay
      rw [if_pos rfl, to10]
      isplitl [H3]; · iexact H3
      isplitl [H4]; · iexact H4
      iexact H5
    iexact Hr
  iintro HO
  iapply hk
  iframe # ∗
  isplitl [HO]
  · iexists W; iexact HO
  isplitr; · iempintro
  isplitr <;> iempintro

/-- The wait of the barrier: the right to write six slots of the neighbours. -/
theorem st_barw (hl : ∀ j ∈ l, lvK (some none) < 2 + ph j) {k' : ℕ} (hk' : k' = 2) {kk : PUnit → Prog (TpuEff nD τ sig (Elt F) Λ₀ .tc) α}
    (hk : St m K c q b v 0 l st σ κ [true, true, true, true, true, true] ⊢ WP c (kk ⟨⟩) Q) :
    St m K c q b v 1 l st σ κ [false, false, false, false, false, false] ⊢ WP c (.op (.semWait barS k') kk) Q := by
  subst hk'
  unfold St Ow at *
  rw [fam6, Bar_0] at hk
  rw [fam6, Bar_1]
  simp only [Rho_true, Rho_false] at hk ⊢
  iintro ⟨#HP, Hq, Hb0, Hb1, Hx, Ho, ⟨%W, HO⟩, ⟨HaB, HcB⟩, HL, Hσ, Hκ, -⟩
  ihave Hc := (pers_cell m K (c, none)) $$ HP
  icases Hc with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := owed c (1 - 1) l) (W := W) (R := 0) (m := 0) (T := ∅)
      (by rw [show ((c : Thread nD τ), SemLoc.reg barS) = cellB c from rfl, expect_bar])) $$ [HcB HO HaB]
  · isplitr; · iexact HI
    isplitl [HcB]; · iexact HcB
    isplitl [HO]; · iexact HO
    isplitr
    · ihave Hl := (pers_lev m K) $$ HP
      iapply (mayWait c (.reg barS) l hl) $$ Hl
    iexact HaB
  rw [show ((c : Thread nD τ), SemLoc.reg barS) = cellB c from rfl]
  iintro ⟨HO, HaB, -, Hpay⟩
  ihave Hp := (Entails.of_eq (rest_bar m c)) $$ Hpay
  unfold barPay
  rw [if_neg (by decide), if_pos rfl]
  icases Hp with ⟨⟨H0, H1, H2⟩, H3, H4, H5⟩
  imod (Rounds.cell_close ER (Rd m) (Set.mem_univ (K (c, none))) (fun h => h) (R := 0 + 1) (duties_later m (cellB c))) $$ [HaB] with HzB
  · isplitr; · iexact HI
    iexact HaB
  iapply hk
  unfold peer
  rw [if_pos (by decide), if_pos (by decide), if_pos (by decide), if_neg (by decide), if_neg (by decide), if_neg (by decide)]
  iframe # ∗
  iexists _; iexact HO

/-! ## Slots handed back -/

def give (o : Option (Fin 6)) (κ : List (Slot F)) : List (Slot F) := match o with | none => κ | some k => κ.set k.val .gone
def giveOK (o : Option (Fin 6)) (κ : List (Slot F)) : Prop := match o with | none => True | some k => k.val < κ.length ∧ ∃ w, κ.getD k.val .gone = .full w
def take (o : Option (Fin 6)) (ρ : List Bool) : List Bool := match o with | none => ρ | some k => ρ.set k.val true
theorem peer_back (j : Fin 12) (k : Fin 6) (c : Dev nD) : back j = some k → peer k c = fromD (dir j) c := by revert j k c; decide
theorem peer_slot (j : Fin 12) (c : Dev nD) : peer (slot j) c = toD (dir j) c := by revert j c; decide

theorem give_acc (j : Fin 12) (κ : List (Slot F)) (h : giveOK (back j) κ) : fam (Kap c) κ .gone ⊢ iprop(backPay (F := F) c j ∗ fam (Kap c) (give (back j) κ) .gone) := by
  unfold backPay give
  unfold giveOK at h
  cases hb : back j with
  | none => iintro H; isplitr; · iempintro
            iexact H
  | some k =>
    rw [hb] at h
    obtain ⟨hn, w, hw⟩ := h
    have ha := fam_acc (Kap (F := F) c) κ .gone k .gone hn
    rw [hw, Kap_full, Kap_gone] at ha
    refine ha.trans ?_
    unfold slotHas slotAny
    iintro ⟨H, Hw⟩
    isplitl [H]; · iexists _; iexact H
    iapply Hw
    iempintro

theorem take_acc (j : Fin 12) (ρ : List Bool) (h : ρ.length = 6) : iprop(backPay (F := F) (fromD (dir j) c) j ∗ fam (Rho c) ρ false) ⊢ fam (Rho (F := F) c) (take (back j) ρ) false := by
  unfold backPay take
  cases hb : back j with
  | none => iintro ⟨-, H⟩; iexact H
  | some k =>
    have ha := fam_acc (Rho (F := F) c) ρ false k true (by rw [h]; exact k.isLt)
    rw [Rho_true, peer_back j k c hb] at ha
    iintro ⟨H, Hρ⟩
    ihave Hρ := ha $$ Hρ
    icases Hρ with ⟨-, Hρ⟩
    iapply Hρ $$ H

/-! ## The messages -/

/-- A message sent from a staging slot. -/
theorem st_snds (j : Fin 12) (s : Fin 4) (hsrc : source j = .inl s) (k : Fin 6) (hkk : slot j = k) {n : Dev nD} (hn : n = toD (dir j) c)
    {sS sR : DmaSem sig} (hS : sS = sendS j) (hR : sR = recvS j)
    (hst : st.getD j.val 9 = 0) (hsn : j.val < st.length) (hσ : σ.getD s.val .gone = .full (carry m j c)) (hσn : s.val < σ.length) (hg : giveOK (back j) κ)
    (hρ : ρ.getD k.val false = true) (hρn : k.val < ρ.length)
    {hsc h1 h2 h3} {kk : PUnit → Prog (TpuEff nD τ sig (Elt F) Λ₀ .tc) α}
    (hk : St m K c q b v 0 l (st.set j.val 1) (σ.set s.val .gone) (give (back j) κ) (ρ.set k.val false) ⊢ WP c (kk ⟨⟩) Q) :
    St m K c q b v 0 (j :: l) st σ κ ρ ⊢ WP c (.op (.enqueueDma (stageV s) (.remote (Dev.tc n : Thread nD τ) (commV k) (.dma sS) hsc) (.dma sR) h1 h2 h3) kk) Q := by
  subst hkk; subst hn; subst hS; subst hR
  have haL := fam_acc (Lane (F := F) c) st 9 j 1 hsn
  rw [hst, Lane_0, Lane_1] at haL
  have haR := fam_acc (Rho (F := F) c) ρ false (slot j) false hρn
  rw [hρ, Rho_true, Rho_false, peer_slot] at haR
  have haS := fam_acc (Sig (F := F) c) σ .gone s .gone hσn
  rw [hσ, Sig_full, Sig_gone] at haS
  have hG := give_acc (c := c) j κ hg
  have hpay1 : ((stageV s).view.loc (c : Thread nD τ) ↦[(stageV s).view.set]{fullShare} (stageB (carry m j c)) : sProp 𝕄) ⊢ (Rd m).payload (cellS c j) 0 false := by
    rw [payload_at]
    show _ ⊢ srcPts m c j
    unfold srcPts
    rw [hsrc]
    exact BI.Entails.refl _
  have hpay2 : ∀ f, iprop(((commV (slot j)).view.loc (toD (dir j) c : Thread nD τ) ↦[(commV (slot j)).view.set]{fullShare}
        ((commV (slot j)).view.write (Elt F) f ((stageV s).view.read (Elt F) (stageB (carry m j c))) Finset.univ)) ∗ backPay (F := F) c j)
      ⊢ (Rd m).payload (cellR (toD (dir j) c) j) 0 false := fun f => by
    rw [payload_at]
    show _ ⊢ recvPay m (toD (dir j) c) j
    unfold recvPay slotHas
    rw [fromD_toD, pointsTo_congr (land_stage s (slot j) (carry m j c) f)]
  unfold St Ow at *
  iintro ⟨#HP, Hq, Hb0, Hb1, Hx, Ho, ⟨%W, HO⟩, HB, HL, Hσ, Hκ, Hρ⟩
  ihave Hc := (pers_cell m K (c, some (false, j))) $$ HP
  icases Hc with ⟨#HIs, #Hrs⟩
  ihave Hc := (pers_cell m K (toD (dir j) c, some (true, j))) $$ HP
  icases Hc with ⟨#HIr, #Hrr⟩
  ihave HL := haL $$ HL
  icases HL with ⟨⟨HtS, HtR, HaS, HaR, HcR⟩, HL⟩
  ihave Hρ := haR $$ Hρ
  icases Hρ with ⟨Hd, Hρ⟩
  ihave Hρ := Hρ $$ []
  · iempintro
  ihave Hσ := haS $$ Hσ
  icases Hσ with ⟨Hs, Hσ⟩
  ihave Hσ := Hσ $$ []
  · iempintro
  ihave Hκ := hG $$ Hκ
  icases Hκ with ⟨Hbk, Hκ⟩
  unfold stgHas slotAny
  icases Hd with ⟨%f, Hd⟩
  iapply (Rounds.wp_send_pointsTo_with 𝒱₀ ER (Rd m) (c : Thread nD τ) none (c' := (toD (dir j) c : Thread nD τ)) (src := stageV s) (dst := commV (slot j))
      (sS := .dma (sendS j)) (sem := .dma (recvS j)) (κ₁ := K (c, some (false, j))) (κ₂ := K (toD (dir j) c, some (true, j)))
      (r₁ := 0) (r₂ := 0) (d₁ := false) (d₂ := false) (fd := f) (F := backPay (F := F) c j)
      (by rw [show ((c : Thread nD τ), SemLoc.dma (sendS j)) = cellS c j from rfl, duties_at]; exact Finset.mem_singleton_self _)
      (by rw [show ((toD (dir j) c : Thread nD τ), SemLoc.dma (recvS j)) = cellR (toD (dir j) c) j from rfl, duties_at]; exact Finset.mem_singleton_self _)
      () () N rfl (amount_at m c (some (false, j)) false) (amount_at m (toD (dir j) c) (some (true, j)) false) (owe c l) rfl (W := W) hpay1 (hpay2 f)) $$ [Hs Hd Hbk HO HtS HtR]
  · isplitr; · iexact HIs
    isplitr; · iexact HIr
    isplitl [Hs]; · iexact Hs
    isplitl [Hd Hbk]
    · isplitl [Hd]; · iexact Hd
      iexact Hbk
    isplitl [HO]; · iexact HO
    isplitl [HtS]; · iexact HtS
    isplitr; · iexact Hrs
    isplitl [HtR]; · iexact HtR
    iexact Hrr
  rw [show ((c : Thread nD τ), SemLoc.dma (sendS j)) = cellS c j from rfl]
  iintro ⟨HcS, HO⟩
  ihave HL := HL $$ [HaS HaR HcR HcS]
  · iframe
  iapply hk
  iframe # ∗
  iexists W; iexact HO

/-- A message forwarded from a landing slot: half of its share is lent. -/
theorem st_sndc (j : Fin 12) (s : Fin 6) (hsrc : source j = .inr s) (k : Fin 6) (hkk : slot j = k) {n : Dev nD} (hn : n = toD (dir j) c)
    {sS sR : DmaSem sig} (hS : sS = sendS j) (hR : sR = recvS j)
    (hst : st.getD j.val 9 = 0) (hsn : j.val < st.length) (hκ : κ.getD s.val .gone = .full (carry m j c)) (hκn : s.val < κ.length) (hg : giveOK (back j) (κ.set s.val (.half (carry m j c))))
    (hρ : ρ.getD k.val false = true) (hρn : k.val < ρ.length)
    {hsc h1 h2 h3} {kk : PUnit → Prog (TpuEff nD τ sig (Elt F) Λ₀ .tc) α}
    (hk : St m K c q b v 0 l (st.set j.val 1) σ (give (back j) (κ.set s.val (.half (carry m j c)))) (ρ.set k.val false) ⊢ WP c (kk ⟨⟩) Q) :
    St m K c q b v 0 (j :: l) st σ κ ρ ⊢ WP c (.op (.enqueueDma (commV s) (.remote (Dev.tc n : Thread nD τ) (commV k) (.dma sS) hsc) (.dma sR) h1 h2 h3) kk) Q := by
  subst hkk; subst hn; subst hS; subst hR
  have haL := fam_acc (Lane (F := F) c) st 9 j 1 hsn
  rw [hst, Lane_0, Lane_1] at haL
  have haR := fam_acc (Rho (F := F) c) ρ false (slot j) false hρn
  rw [hρ, Rho_true, Rho_false, peer_slot] at haR
  have haS := fam_acc (Kap (F := F) c) κ .gone s (.half (carry m j c)) hκn
  rw [hκ, Kap_full, Kap_half] at haS
  have hG := give_acc (c := c) j _ hg
  have hpay1 : ((commV s).view.loc (c : Thread nD τ) ↦[(commV s).view.set]{fullShare.left} (commB (carry m j c)) : sProp 𝕄) ⊢ (Rd m).payload (cellS c j) 0 false := by
    rw [payload_at]
    show _ ⊢ srcPts m c j
    unfold srcPts
    rw [hsrc]
    exact BI.Entails.refl _
  have hpay2 : ∀ f, iprop(((commV (slot j)).view.loc (toD (dir j) c : Thread nD τ) ↦[(commV (slot j)).view.set]{fullShare}
        ((commV (slot j)).view.write (Elt F) f ((commV s).view.read (Elt F) (commB (carry m j c))) Finset.univ)) ∗ backPay (F := F) c j)
      ⊢ (Rd m).payload (cellR (toD (dir j) c) j) 0 false := fun f => by
    rw [payload_at]
    show _ ⊢ recvPay m (toD (dir j) c) j
    unfold recvPay slotHas
    rw [fromD_toD, pointsTo_congr (land_comm s (slot j) (carry m j c) f)]
  unfold St Ow at *
  iintro ⟨#HP, Hq, Hb0, Hb1, Hx, Ho, ⟨%W, HO⟩, HB, HL, Hσ, Hκ, Hρ⟩
  ihave Hc := (pers_cell m K (c, some (false, j))) $$ HP
  icases Hc with ⟨#HIs, #Hrs⟩
  ihave Hc := (pers_cell m K (toD (dir j) c, some (true, j))) $$ HP
  icases Hc with ⟨#HIr, #Hrr⟩
  ihave HL := haL $$ HL
  icases HL with ⟨⟨HtS, HtR, HaS, HaR, HcR⟩, HL⟩
  ihave Hρ := haR $$ Hρ
  icases Hρ with ⟨Hd, Hρ⟩
  ihave Hρ := Hρ $$ []
  · iempintro
  ihave Hκ := haS $$ Hκ
  icases Hκ with ⟨Hs, Hκ⟩
  unfold slotHas slotAny
  ihave Hs := (pointsTo_share (PosShare.mem_left_op_right fullShare)).1 $$ Hs
  icases Hs with ⟨Hs, Hs'⟩
  ihave Hκ := Hκ $$ Hs'
  ihave Hκ := hG $$ Hκ
  icases Hκ with ⟨Hbk, Hκ⟩
  icases Hd with ⟨%f, Hd⟩
  iapply (Rounds.wp_send_pointsTo_with 𝒱₀ ER (Rd m) (c : Thread nD τ) none (c' := (toD (dir j) c : Thread nD τ)) (src := commV s) (dst := commV (slot j))
      (sS := .dma (sendS j)) (sem := .dma (recvS j)) (κ₁ := K (c, some (false, j))) (κ₂ := K (toD (dir j) c, some (true, j)))
      (r₁ := 0) (r₂ := 0) (d₁ := false) (d₂ := false) (fd := f) (F := backPay (F := F) c j)
      (by rw [show ((c : Thread nD τ), SemLoc.dma (sendS j)) = cellS c j from rfl, duties_at]; exact Finset.mem_singleton_self _)
      (by rw [show ((toD (dir j) c : Thread nD τ), SemLoc.dma (recvS j)) = cellR (toD (dir j) c) j from rfl, duties_at]; exact Finset.mem_singleton_self _)
      () () N rfl (amount_at m c (some (false, j)) false) (amount_at m (toD (dir j) c) (some (true, j)) false) (owe c l) rfl (W := W) hpay1 (hpay2 f)) $$ [Hs Hd Hbk HO HtS HtR]
  · isplitr; · iexact HIs
    isplitr; · iexact HIr
    isplitl [Hs]; · iexact Hs
    isplitl [Hd Hbk]
    · isplitl [Hd]; · iexact Hd
      iexact Hbk
    isplitl [HO]; · iexact HO
    isplitl [HtS]; · iexact HtS
    isplitr; · iexact Hrs
    isplitl [HtR]; · iexact HtR
    iexact Hrr
  rw [show ((c : Thread nD τ), SemLoc.dma (sendS j)) = cellS c j from rfl]
  iintro ⟨HcS, HO⟩
  ihave HL := HL $$ [HaS HaR HcR HcS]
  · iframe
  iapply hk
  iframe # ∗
  iexists W; iexact HO

/-- The wait for a message to have been read from its staging slot; -/
theorem st_sws (j : Fin 12) (s : Fin 4) (hsrc : source j = .inl s) (hσ : σ.getD s.val .gone = .gone) (hσn : s.val < σ.length) {sm : DmaSem sig} (hs : sm = sendS j) (hst : st.getD j.val 9 = 1) (hsn : j.val < st.length)
    {s' t' : Shape} {e e' : EltTy} {sp sp' : Space} {srcw : Memref sig .tc sp' s' e'} {dstw : Memref sig .tc sp t' e} (hJ : dstw.view.dmaCredit = N)
    {h1 h2} {kk : PUnit → Prog (TpuEff nD τ sig (Elt F) Λ₀ .tc) α}
    (hk : St m K c q b v 0 l (st.set j.val 2) (σ.set s.val (.full (carry m j c))) κ ρ ⊢ WP c (kk ⟨⟩) Q) :
    St m K c q b v 0 l st σ κ ρ ⊢ WP c (.op (.waitDma2 sm srcw dstw h1 h2) kk) Q := by
  subst hs
  have haL := fam_acc (Lane (F := F) c) st 9 j 2 hsn
  rw [hst, Lane_1, Lane_2] at haL
  have haS := fam_acc (Sig (F := F) c) σ .gone s (.full (carry m j c)) hσn
  rw [Sig_full] at haS
  have hpay : payOf m c (some (some (false, j))) false = stgHas c s (carry m j c) := by
    show srcPts m c j = _
    unfold srcPts; rw [hsrc]
  unfold St Ow at *
  iintro ⟨#HP, Hq, Hb0, Hb1, Hx, Ho, ⟨%W, HO⟩, HB, HL, Hσ, Hκ, Hρ⟩
  ihave Hc := (pers_cell m K (c, some (false, j))) $$ HP
  icases Hc with ⟨#HI, -⟩
  ihave HL := haL $$ HL
  icases HL with ⟨⟨HaS, HaR, HcR, Hcr⟩, HL⟩
  iapply (Rounds.wp_wait_rest_token 𝒱₀ ER (Rd m) (c : Thread nD τ) none (κ := K (c, some (false, j))) (k' := N)
      (fun Kt => (wpE_waitDma2_eq 𝒱₀ (c : Thread nD τ) none Set.univ Kt).trans (by rw [hJ])) (Set.mem_univ _) () (O := owe c l) (W := W) (R := 0) (m := 0) (T := ∅)
      (by rw [Nat.zero_add, show ((c : Thread nD τ), SemLoc.dma (sendS j)) = cellS c j from rfl, expect_x])) $$ [Hcr HO HaS]
  · isplitr; · iexact HI
    isplitl [Hcr]; · iexact Hcr
    isplitl [HO]; · iexact HO
    isplitr
    · ihave Hl := (pers_lev m K) $$ HP
      iapply (mayWait c (.dma (sendS j)) l (fun i _ => by rw [show kindOf (.dma (sendS j)) = some (some (false, j)) from kindOf_csem (some (false, j))]; exact Nat.lt_of_lt_of_le (by decide : 0 < 2) (Nat.le_add_right _ _))) $$ Hl
    iexact HaS
  rw [show ((c : Thread nD τ), SemLoc.dma (sendS j)) = cellS c j from rfl]
  iintro ⟨HO, HaS, -, Hpay⟩
  ihave Hp := (Entails.of_eq ((rest_x m c j false).trans hpay)) $$ Hpay
  imod (Rounds.cell_close ER (Rd m) (Set.mem_univ (K (c, some (false, j)))) (fun h => h) (R := 0 + 1) (duties_later m (cellS c j))) $$ [HaS] with Hz
  · isplitr; · iexact HI
    iexact HaS
  ihave Hσ := haS $$ Hσ
  icases Hσ with ⟨-, Hσ⟩
  ihave Hσ := Hσ $$ Hp
  ihave HL := HL $$ [Hz HaR HcR]
  · iframe
  iapply hk
  iframe # ∗
  iexists _; iexact HO

/-- from its landing slot. -/
theorem st_swc (j : Fin 12) (s : Fin 6) (hsrc : source j = .inr s) (hκ : κ.getD s.val .gone = .half (carry m j c)) (hκn : s.val < κ.length) {sm : DmaSem sig} (hs : sm = sendS j) (hst : st.getD j.val 9 = 1) (hsn : j.val < st.length)
    {s' t' : Shape} {e e' : EltTy} {sp sp' : Space} {srcw : Memref sig .tc sp' s' e'} {dstw : Memref sig .tc sp t' e} (hJ : dstw.view.dmaCredit = N)
    {h1 h2} {kk : PUnit → Prog (TpuEff nD τ sig (Elt F) Λ₀ .tc) α}
    (hk : St m K c q b v 0 l (st.set j.val 2) σ (κ.set s.val (.full (carry m j c))) ρ ⊢ WP c (kk ⟨⟩) Q) :
    St m K c q b v 0 l st σ κ ρ ⊢ WP c (.op (.waitDma2 sm srcw dstw h1 h2) kk) Q := by
  subst hs
  have haL := fam_acc (Lane (F := F) c) st 9 j 2 hsn
  rw [hst, Lane_1, Lane_2] at haL
  have haS := fam_acc (Kap (F := F) c) κ .gone s (.full (carry m j c)) hκn
  rw [hκ, Kap_full, Kap_half] at haS
  have hpay : payOf m c (some (some (false, j))) false = slotHas c s fullShare.left (carry m j c) := by
    show srcPts m c j = _
    unfold srcPts; rw [hsrc]
  unfold St Ow at *
  iintro ⟨#HP, Hq, Hb0, Hb1, Hx, Ho, ⟨%W, HO⟩, HB, HL, Hσ, Hκ, Hρ⟩
  ihave Hc := (pers_cell m K (c, some (false, j))) $$ HP
  icases Hc with ⟨#HI, -⟩
  ihave HL := haL $$ HL
  icases HL with ⟨⟨HaS, HaR, HcR, Hcr⟩, HL⟩
  iapply (Rounds.wp_wait_rest_token 𝒱₀ ER (Rd m) (c : Thread nD τ) none (κ := K (c, some (false, j))) (k' := N)
      (fun Kt => (wpE_waitDma2_eq 𝒱₀ (c : Thread nD τ) none Set.univ Kt).trans (by rw [hJ])) (Set.mem_univ _) () (O := owe c l) (W := W) (R := 0) (m := 0) (T := ∅)
      (by rw [Nat.zero_add, show ((c : Thread nD τ), SemLoc.dma (sendS j)) = cellS c j from rfl, expect_x])) $$ [Hcr HO HaS]
  · isplitr; · iexact HI
    isplitl [Hcr]; · iexact Hcr
    isplitl [HO]; · iexact HO
    isplitr
    · ihave Hl := (pers_lev m K) $$ HP
      iapply (mayWait c (.dma (sendS j)) l (fun i _ => by rw [show kindOf (.dma (sendS j)) = some (some (false, j)) from kindOf_csem (some (false, j))]; exact Nat.lt_of_lt_of_le (by decide : 0 < 2) (Nat.le_add_right _ _))) $$ Hl
    iexact HaS
  rw [show ((c : Thread nD τ), SemLoc.dma (sendS j)) = cellS c j from rfl]
  iintro ⟨HO, HaS, -, Hpay⟩
  ihave Hp := (Entails.of_eq ((rest_x m c j false).trans hpay)) $$ Hpay
  imod (Rounds.cell_close ER (Rd m) (Set.mem_univ (K (c, some (false, j)))) (fun h => h) (R := 0 + 1) (duties_later m (cellS c j))) $$ [HaS] with Hz
  · isplitr; · iexact HI
    iexact HaS
  ihave Hκ := haS $$ Hκ
  icases Hκ with ⟨Hh, Hκ⟩
  unfold slotHas
  ihave Hκ := Hκ $$ [Hp Hh]
  · iapply (pointsTo_share (PosShare.mem_left_op_right fullShare)).2
    isplitl [Hp]; · iexact Hp
    iexact Hh
  ihave HL := HL $$ [Hz HaR HcR]
  · iframe
  iapply hk
  iframe # ∗
  iexists _; iexact HO

/-- The wait for a message to have landed. -/
theorem st_rw (j : Fin 12) (k : Fin 6) (hkk : slot j = k) (w : Msg F) (hw : carry m j (fromD (dir j) c) = w) (hκn : k.val < κ.length) (hρn : ρ.length = 6) (hl : ∀ i ∈ l, ph j < ph i) {sm : DmaSem sig} (hs : sm = recvS j) (hst : st.getD j.val 9 = 2) (hsn : j.val < st.length)
    {s' t' : Shape} {e e' : EltTy} {sp sp' : Space} {srcw : Memref sig .tc sp' s' e'} {dstw : Memref sig .tc sp t' e} (hJ : dstw.view.dmaCredit = N)
    {h1 h2} {kk : PUnit → Prog (TpuEff nD τ sig (Elt F) Λ₀ .tc) α}
    (hk : St m K c q b v 0 l (st.set j.val 3) σ (κ.set k.val (.full w)) (take (back j) ρ) ⊢ WP c (kk ⟨⟩) Q) :
    St m K c q b v 0 l st σ κ ρ ⊢ WP c (.op (.waitDma2 sm srcw dstw h1 h2) kk) Q := by
  subst hs; subst hkk; subst hw
  have haL := fam_acc (Lane (F := F) c) st 9 j 3 hsn
  rw [hst, Lane_2, Lane_3] at haL
  have haS := fam_acc (Kap (F := F) c) κ .gone (slot j) (.full (carry m j (fromD (dir j) c))) hκn
  rw [Kap_full] at haS
  unfold St Ow at *
  iintro ⟨#HP, Hq, Hb0, Hb1, Hx, Ho, ⟨%W, HO⟩, HB, HL, Hσ, Hκ, Hρ⟩
  ihave Hc := (pers_cell m K (c, some (true, j))) $$ HP
  icases Hc with ⟨#HI, -⟩
  ihave HL := haL $$ HL
  icases HL with ⟨⟨HzS, Hat, Hcr⟩, HL⟩
  iapply (Rounds.wp_wait_rest_token 𝒱₀ ER (Rd m) (c : Thread nD τ) none (κ := K (c, some (true, j))) (k' := N)
      (fun Kt => (wpE_waitDma2_eq 𝒱₀ (c : Thread nD τ) none Set.univ Kt).trans (by rw [hJ])) (Set.mem_univ _) () (O := owe c l) (W := W) (R := 0) (m := 0) (T := ∅)
      (by rw [Nat.zero_add, show ((c : Thread nD τ), SemLoc.dma (recvS j)) = cellR c j from rfl, expect_x])) $$ [Hcr HO Hat]
  · isplitr; · iexact HI
    isplitl [Hcr]; · iexact Hcr
    isplitl [HO]; · iexact HO
    isplitr
    · ihave Hl := (pers_lev m K) $$ HP
      iapply (mayWait c (.dma (recvS j)) l (fun i hi => by rw [show kindOf (.dma (recvS j)) = some (some (true, j)) from kindOf_csem (some (true, j))]; exact Nat.add_lt_add_left (hl i hi) 2)) $$ Hl
    iexact Hat
  rw [show ((c : Thread nD τ), SemLoc.dma (recvS j)) = cellR c j from rfl]
  iintro ⟨HO, Hat, -, Hpay⟩
  ihave Hp := (Entails.of_eq ((rest_x m c j true).trans (show payOf m c (some (some (true, j))) false = iprop(slotHas c (slot j) fullShare (carry m j (fromD (dir j) c)) ∗ backPay (fromD (dir j) c) j) from rfl))) $$ Hpay
  imod (Rounds.cell_close ER (Rd m) (Set.mem_univ (K (c, some (true, j)))) (fun h => h) (R := 0 + 1) (duties_later m (cellR c j))) $$ [Hat] with Hz
  · isplitr; · iexact HI
    iexact Hat
  icases Hp with ⟨Hp, Hbk⟩
  ihave Hκ := haS $$ Hκ
  icases Hκ with ⟨-, Hκ⟩
  ihave Hκ := Hκ $$ Hp
  ihave Hρ := (take_acc (c := c) j ρ hρn) $$ [Hbk Hρ]
  · isplitl [Hbk]; · iexact Hbk
    iexact Hρ
  ihave HL := HL $$ [HzS Hz]
  · iframe
  iapply hk
  iframe # ∗
  iexists _; iexact HO

end Cert.Run
-- ==== Proof.Runs0.lean ====
/-
# What the runs of the parts need

The HBM arrays the kernel's parts are called with, the devices they address, and which message's contents a received one is.
-/
module

public import proofs.«01_k».proof.Proof.Steps3

@[expose] public section

noncomputable section

namespace Cert.Run

open Cert.KernelIdeal Cert.KernelIdeal.Gen
open Idealize.ShloMosaic Idealize.ShloMosaic.ValueIdx Idealize.ShloMosaic.TcCoe

variable {F : FTy → Type} [FloatOps F]
variable (m : (ℓ : Loc nD τ sig) → Buf (Elt F) ℓ) (c : Dev nD)

/-- The query weights and the output weights, whole arrays of the chip's large memory. -/
abbrev a1M : Memref sig .tc .hbm S1024x4096 .f32 := Memref.whole main_arg1
abbrev a4M : Memref sig .tc .hbm S4096x1024 .f32 := Memref.whole main_arg4

/-! The devices addressed: the two barrier signals, then the twelve messages in the order they are sent. -/
theorem dev1 : (⟨k0_dev1 c, k0_dev1_lt c⟩ : Dev nD) = toD 1 c := by revert c; decide +kernel
theorem dev2 : (⟨k0_dev2 c, k0_dev2_lt c⟩ : Dev nD) = toD 0 c := by revert c; decide +kernel
theorem dev3 : (⟨k0_dev3 c, k0_dev3_lt c⟩ : Dev nD) = toD 0 c := by revert c; decide +kernel
theorem dev4 : (⟨k0_dev4 c, k0_dev4_lt c⟩ : Dev nD) = toD 1 c := by revert c; decide +kernel
theorem dev5 : (⟨k0_dev5 c, k0_dev5_lt c⟩ : Dev nD) = toD 0 c := by revert c; decide +kernel
theorem dev6 : (⟨k0_dev6 c, k0_dev6_lt c⟩ : Dev nD) = toD 1 c := by revert c; decide +kernel
theorem dev7 : (⟨k0_dev7 c, k0_dev7_lt c⟩ : Dev nD) = toD 0 c := by revert c; decide +kernel
theorem dev8 : (⟨k0_dev8 c, k0_dev8_lt c⟩ : Dev nD) = toD 1 c := by revert c; decide +kernel
theorem dev9 : (⟨k0_dev9 c, k0_dev9_lt c⟩ : Dev nD) = toD 0 c := by revert c; decide +kernel
theorem dev10 : (⟨k0_dev10 c, k0_dev10_lt c⟩ : Dev nD) = toD 1 c := by revert c; decide +kernel
theorem dev11 : (⟨k0_dev11 c, k0_dev11_lt c⟩ : Dev nD) = toD 0 c := by revert c; decide +kernel
theorem dev12 : (⟨k0_dev12 c, k0_dev12_lt c⟩ : Dev nD) = toD 1 c := by revert c; decide +kernel
theorem dev13 : (⟨k0_dev13 c, k0_dev13_lt c⟩ : Dev nD) = toD 0 c := by revert c; decide +kernel
theorem dev14 : (⟨k0_dev14 c, k0_dev14_lt c⟩ : Dev nD) = toD 1 c := by revert c; decide +kernel

theorem carry_ag (j : Fin 12) (h : 6 ≤ j.val) : carry m j c = msg m (dir j) ((fromD (dir j))^[j.val % 3] c) 3 :=
  if_neg (Nat.not_lt.mpr h)

/-- In the all-gather a device sends on what it received last: message `j` from the device before is what it sends as message `j + 1`. -/
theorem carry_next (j : Fin 12) (h : 6 ≤ j.val) (h2 : j.val % 3 ≠ 2) :
    carry m j (fromD (dir j) c) = carry m ⟨(j.val + 1) % 12, Nat.mod_lt _ (by decide)⟩ c := by
  have hj := j.isLt
  have e0 : (j.val + 1) % 12 = j.val + 1 := Nat.mod_eq_of_lt (by omega)
  have e1 : dir ⟨(j.val + 1) % 12, Nat.mod_lt _ (by decide)⟩ = dir j := Fin.ext (by show ((j.val + 1) % 12 / 3) % 2 = (j.val / 3) % 2; omega)
  rw [carry_ag m _ j h, carry_ag m c _ (by show 6 ≤ (j.val + 1) % 12; omega), e1]
  show _ = msg m (dir j) ((fromD (dir j))^[(j.val + 1) % 12 % 3] c) 3
  rw [show (j.val + 1) % 12 % 3 = j.val % 3 + 1 by omega, Function.iterate_succ_apply]

variable {κ : List (Slot F)}

theorem giveOK_none {j : Fin 12} (h : back j = none) : giveOK (back j) κ := by rw [h]; trivial
theorem giveOK_some {j : Fin 12} (k : Fin 6) (h : back j = some k) (hn : k.val < κ.length) (w : Msg F) (hw : κ.getD k.val .gone = .full w) :
    giveOK (back j) κ := by rw [h]; exact ⟨hn, w, hw⟩

end Cert.Run
-- ==== Proof.Runs1.lean ====
/-
# The parts of the kernel, 1 to 27: the copies issued, the barrier, and the first groups of the caches landing

`run_N`: from the state before part `N`, the part and what follows it run, given what follows runs from the state after it.
The values that arrive from earlier parts are variables; where a part stores a named value, the equation `hw` says so.
-/
module

public import proofs.«01_k».proof.Proof.Runs0

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-- Part 1, from the state before it to the state after it. -/
theorem run_1 {w0 w1 w2 w3 w4 w5 w6 w7 : Half F}
    {kq : _ → Prog (TpuEff nD τ sig (Elt F) Λ₀ .tc) α}
    (hk : ∀ (v2 : BitVec 32) (v5 : BitVec 32) (v7 : BitVec 32), St m K c [.run 1 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨c, v2, v5, v7⟩) Q) :
    St m K c [.run 0 0, .run 0 0, .run 0 0, .run 0 0] [.idle, .idle] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part1 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part1_eq_skeleton]
  unfold k0_part1_skel
  simp only [semSignalWord, semWaitWord, Prog.lift, Prog.bind_op, Prog.bind_ret, Prog.pure_eq_ret, wp_deviceId]
  refine st_cpq rfl (Nat.le_of_ble_eq_true rfl) rfl ?_
  refine st_cpo rfl (Nat.le_of_ble_eq_true rfl) rfl ?_
  refine st_cpk 0 0 (Nat.le_of_ble_eq_true rfl) rfl rfl ?_
  exact hk _ _ _

/-- Part 2, from the state before it to the state after it. -/
theorem run_2 {w0 w1 w2 w3 w4 w5 w6 w7 : Half F}
    {kq : _ → Prog (TpuEff nD τ sig (Elt F) Λ₀ .tc) α}
    (hk : St m K c [.run 4 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 1 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part2 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part2_eq_skeleton]
  unfold k0_part2_skel
  simp only [semSignalWord, semWaitWord, Prog.lift, Prog.bind_op, Prog.bind_ret, Prog.pure_eq_ret, wp_deviceId]
  refine st_cpv 0 0 (Nat.le_of_ble_eq_true rfl) rfl rfl ?_
  refine st_cpk 0 1 (Nat.le_of_ble_eq_true rfl) rfl rfl ?_
  refine st_cpv 0 1 (Nat.le_of_ble_eq_true rfl) rfl rfl ?_
  exact hk

/-- Part 3, from the state before it to the state after it. -/
theorem run_3 {w0 w1 w2 w3 w4 w5 w6 w7 : Half F}
    {kq : _ → Prog (TpuEff nD τ sig (Elt F) Λ₀ .tc) α}
    (hk : St m K c [.run 8 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 4 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part3 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part3_eq_skeleton]
  unfold k0_part3_skel
  simp only [semSignalWord, semWaitWord, Prog.lift, Prog.bind_op, Prog.bind_ret, Prog.pure_eq_ret, wp_deviceId]
  refine st_cpk 0 2 (Nat.le_of_ble_eq_true rfl) rfl rfl ?_
  refine st_cpv 0 2 (Nat.le_of_ble_eq_true rfl) rfl rfl ?_
  refine st_cpk 0 3 (Nat.le_of_ble_eq_true rfl) rfl rfl ?_
  refine st_cpv 0 3 (Nat.le_of_ble_eq_true rfl) rfl rfl ?_
  exact hk

/-- Part 4, from the state before it to the state after it. -/
theorem run_4 {w0 w1 w2 w3 w4 w5 w6 w7 : Half F}
    {kq : _ → Prog (TpuEff nD τ sig (Elt F) Λ₀ .tc) α}
    (hk : St m K c [.run 11 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 8 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part4 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part4_eq_skeleton]
  unfold k0_part4_skel
  simp only [semSignalWord, semWaitWord, Prog.lift, Prog.bind_op, Prog.bind_ret, Prog.pure_eq_ret, wp_deviceId]
  refine st_cpk 0 4 (Nat.le_of_ble_eq_true rfl) rfl rfl ?_
  refine st_cpv 0 4 (Nat.le_of_ble_eq_true rfl) rfl rfl ?_
  refine st_cpk 0 5 (Nat.le_of_ble_eq_true rfl) rfl rfl ?_
  exact hk

/-- Part 5, from the state before it to the state after it. -/
theorem run_5 {w0 w1 w2 w3 w4 w5 w6 w7 : Half F}
    {kq : _ → Prog (TpuEff nD τ sig (Elt F) Λ₀ .tc) α}
    (hk : St m K c [.run 14 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 11 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part5 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part5_eq_skeleton]
  unfold k0_part5_skel
  simp only [semSignalWord, semWaitWord, Prog.lift, Prog.bind_op, Prog.bind_ret, Prog.pure_eq_ret, wp_deviceId]
  refine st_cpv 0 5 (Nat.le_of_ble_eq_true rfl) rfl rfl ?_
  refine st_cpk 0 6 (Nat.le_of_ble_eq_true rfl) rfl rfl ?_
  refine st_cpv 0 6 (Nat.le_of_ble_eq_true rfl) rfl rfl ?_
  exact hk

/-- Part 6, from the state before it to the state after it. -/
theorem run_6 {w0 w1 w2 w3 w4 w5 w6 w7 : Half F}
    {kq : _ → Prog (TpuEff nD τ sig (Elt F) Λ₀ .tc) α}
    (hk : St m K c [.run 16 0, .run 2 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 14 0, .run 0 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part6 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part6_eq_skeleton]
  unfold k0_part6_skel
  simp only [semSignalWord, semWaitWord, Prog.lift, Prog.bind_op, Prog.bind_ret, Prog.pure_eq_ret, wp_deviceId]
  refine st_cpk 0 7 (Nat.le_of_ble_eq_true rfl) rfl rfl ?_
  refine st_cpv 0 7 (Nat.le_of_ble_eq_true rfl) rfl rfl ?_
  refine st_cpk 1 0 (Nat.le_of_ble_eq_true rfl) rfl rfl ?_
  refine st_cpv 1 0 (Nat.le_of_ble_eq_true rfl) rfl rfl ?_
  exact hk

/-- Part 7, from the state before it to the state after it. -/
theorem run_7 {w0 w1 w2 w3 w4 w5 w6 w7 : Half F}
    {kq : _ → Prog (TpuEff nD τ sig (Elt F) Λ₀ .tc) α}
    (hk : St m K c [.run 16 0, .run 5 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 2 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part7 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part7_eq_skeleton]
  unfold k0_part7_skel
  simp only [semSignalWord, semWaitWord, Prog.lift, Prog.bind_op, Prog.bind_ret, Prog.pure_eq_ret, wp_deviceId]
  refine st_cpk 1 1 (Nat.le_of_ble_eq_true rfl) rfl rfl ?_
  refine st_cpv 1 1 (Nat.le_of_ble_eq_true rfl) rfl rfl ?_
  refine st_cpk 1 2 (Nat.le_of_ble_eq_true rfl) rfl rfl ?_
  exact hk

/-- Part 8, from the state before it to the state after it. -/
theorem run_8 {w0 w1 w2 w3 w4 w5 w6 w7 : Half F}
    {kq : _ → Prog (TpuEff nD τ sig (Elt F) Λ₀ .tc) α}
    (hk : St m K c [.run 16 0, .run 8 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 5 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part8 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part8_eq_skeleton]
  unfold k0_part8_skel
  simp only [semSignalWord, semWaitWord, Prog.lift, Prog.bind_op, Prog.bind_ret, Prog.pure_eq_ret, wp_deviceId]
  refine st_cpv 1 2 (Nat.le_of_ble_eq_true rfl) rfl rfl ?_
  refine st_cpk 1 3 (Nat.le_of_ble_eq_true rfl) rfl rfl ?_
  refine st_cpv 1 3 (Nat.le_of_ble_eq_true rfl) rfl rfl ?_
  exact hk

/-- Part 9, from the state before it to the state after it. -/
theorem run_9 {w0 w1 w2 w3 w4 w5 w6 w7 : Half F}
    {kq : _ → Prog (TpuEff nD τ sig (Elt F) Λ₀ .tc) α}
    (hk : St m K c [.run 16 0, .run 12 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 8 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part9 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part9_eq_skeleton]
  unfold k0_part9_skel
  simp only [semSignalWord, semWaitWord, Prog.lift, Prog.bind_op, Prog.bind_ret, Prog.pure_eq_ret, wp_deviceId]
  refine st_cpk 1 4 (Nat.le_of_ble_eq_true rfl) rfl rfl ?_
  refine st_cpv 1 4 (Nat.le_of_ble_eq_true rfl) rfl rfl ?_
  refine st_cpk 1 5 (Nat.le_of_ble_eq_true rfl) rfl rfl ?_
  refine st_cpv 1 5 (Nat.le_of_ble_eq_true rfl) rfl rfl ?_
  exact hk

/-- Part 10, from the state before it to the state after it. -/
theorem run_10 {w0 w1 w2 w3 w4 w5 w6 w7 : Half F}
    {kq : _ → Prog (TpuEff nD τ sig (Elt F) Λ₀ .tc) α}
    (hk : St m K c [.run 16 0, .run 15 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 12 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part10 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part10_eq_skeleton]
  unfold k0_part10_skel
  simp only [semSignalWord, semWaitWord, Prog.lift, Prog.bind_op, Prog.bind_ret, Prog.pure_eq_ret, wp_deviceId]
  refine st_cpk 1 6 (Nat.le_of_ble_eq_true rfl) rfl rfl ?_
  refine st_cpv 1 6 (Nat.le_of_ble_eq_true rfl) rfl rfl ?_
  refine st_cpk 1 7 (Nat.le_of_ble_eq_true rfl) rfl rfl ?_
  exact hk

/-- Part 11, from the state before it to the state after it. -/
theorem run_11 {w0 w1 w2 w3 w4 w5 w6 w7 : Half F}
    {kq : _ → Prog (TpuEff nD τ sig (Elt F) Λ₀ .tc) α}
    (hk : St m K c [.run 16 0, .run 16 0, .run 2 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 15 0, .run 0 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part11 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part11_eq_skeleton]
  unfold k0_part11_skel
  simp only [semSignalWord, semWaitWord, Prog.lift, Prog.bind_op, Prog.bind_ret, Prog.pure_eq_ret, wp_deviceId]
  refine st_cpv 1 7 (Nat.le_of_ble_eq_true rfl) rfl rfl ?_
  refine st_cpk 2 0 (Nat.le_of_ble_eq_true rfl) rfl rfl ?_
  refine st_cpv 2 0 (Nat.le_of_ble_eq_true rfl) rfl rfl ?_
  exact hk

/-- Part 12, from the state before it to the state after it. -/
theorem run_12 {w0 w1 w2 w3 w4 w5 w6 w7 : Half F}
    {kq : _ → Prog (TpuEff nD τ sig (Elt F) Λ₀ .tc) α}
    (hk : St m K c [.run 16 0, .run 16 0, .run 6 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 2 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part12 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part12_eq_skeleton]
  unfold k0_part12_skel
  simp only [semSignalWord, semWaitWord, Prog.lift, Prog.bind_op, Prog.bind_ret, Prog.pure_eq_ret, wp_deviceId]
  refine st_cpk 2 1 (Nat.le_of_ble_eq_true rfl) rfl rfl ?_
  refine st_cpv 2 1 (Nat.le_of_ble_eq_true rfl) rfl rfl ?_
  refine st_cpk 2 2 (Nat.le_of_ble_eq_true rfl) rfl rfl ?_
  refine st_cpv 2 2 (Nat.le_of_ble_eq_true rfl) rfl rfl ?_
  exact hk

/-- Part 13, from the state before it to the state after it. -/
theorem run_13 {w0 w1 w2 w3 w4 w5 w6 w7 : Half F}
    {kq : _ → Prog (TpuEff nD τ sig (Elt F) Λ₀ .tc) α}
    (hk : St m K c [.run 16 0, .run 16 0, .run 9 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 6 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part13 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part13_eq_skeleton]
  unfold k0_part13_skel
  simp only [semSignalWord, semWaitWord, Prog.lift, Prog.bind_op, Prog.bind_ret, Prog.pure_eq_ret, wp_deviceId]
  refine st_cpk 2 3 (Nat.le_of_ble_eq_true rfl) rfl rfl ?_
  refine st_cpv 2 3 (Nat.le_of_ble_eq_true rfl) rfl rfl ?_
  refine st_cpk 2 4 (Nat.le_of_ble_eq_true rfl) rfl rfl ?_
  exact hk

/-- Part 14, from the state before it to the state after it. -/
theorem run_14 {w0 w1 w2 w3 w4 w5 w6 w7 : Half F}
    {kq : _ → Prog (TpuEff nD τ sig (Elt F) Λ₀ .tc) α}
    (hk : St m K c [.run 16 0, .run 16 0, .run 12 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 9 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part14 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part14_eq_skeleton]
  unfold k0_part14_skel
  simp only [semSignalWord, semWaitWord, Prog.lift, Prog.bind_op, Prog.bind_ret, Prog.pure_eq_ret, wp_deviceId]
  refine st_cpv 2 4 (Nat.le_of_ble_eq_true rfl) rfl rfl ?_
  refine st_cpk 2 5 (Nat.le_of_ble_eq_true rfl) rfl rfl ?_
  refine st_cpv 2 5 (Nat.le_of_ble_eq_true rfl) rfl rfl ?_
  exact hk

/-- Part 15, from the state before it to the state after it. -/
theorem run_15 {w0 w1 w2 w3 w4 w5 w6 w7 : Half F}
    {kq : _ → Prog (TpuEff nD τ sig (Elt F) Λ₀ .tc) α}
    (hk : St m K c [.run 16 0, .run 16 0, .run 16 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 12 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part15 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part15_eq_skeleton]
  unfold k0_part15_skel
  simp only [semSignalWord, semWaitWord, Prog.lift, Prog.bind_op, Prog.bind_ret, Prog.pure_eq_ret, wp_deviceId]
  refine st_cpk 2 6 (Nat.le_of_ble_eq_true rfl) rfl rfl ?_
  refine st_cpv 2 6 (Nat.le_of_ble_eq_true rfl) rfl rfl ?_
  refine st_cpk 2 7 (Nat.le_of_ble_eq_true rfl) rfl rfl ?_
  refine st_cpv 2 7 (Nat.le_of_ble_eq_true rfl) rfl rfl ?_
  exact hk

/-- Part 16, from the state before it to the state after it. -/
theorem run_16 {w0 w1 w2 w3 w4 w5 w6 w7 : Half F}
    {kq : _ → Prog (TpuEff nD τ sig (Elt F) Λ₀ .tc) α}
    (hk : St m K c [.run 16 0, .run 16 0, .run 16 0, .run 3 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 16 0, .run 0 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part16 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part16_eq_skeleton]
  unfold k0_part16_skel
  simp only [semSignalWord, semWaitWord, Prog.lift, Prog.bind_op, Prog.bind_ret, Prog.pure_eq_ret, wp_deviceId]
  refine st_cpk 3 0 (Nat.le_of_ble_eq_true rfl) rfl rfl ?_
  refine st_cpv 3 0 (Nat.le_of_ble_eq_true rfl) rfl rfl ?_
  refine st_cpk 3 1 (Nat.le_of_ble_eq_true rfl) rfl rfl ?_
  exact hk

/-- Part 17, from the state before it to the state after it. -/
theorem run_17 {w0 w1 w2 w3 w4 w5 w6 w7 : Half F}
    {kq : _ → Prog (TpuEff nD τ sig (Elt F) Λ₀ .tc) α}
    (hk : St m K c [.run 16 0, .run 16 0, .run 16 0, .run 6 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 16 0, .run 3 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part17 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part17_eq_skeleton]
  unfold k0_part17_skel
  simp only [semSignalWord, semWaitWord, Prog.lift, Prog.bind_op, Prog.bind_ret, Prog.pure_eq_ret, wp_deviceId]
  refine st_cpv 3 1 (Nat.le_of_ble_eq_true rfl) rfl rfl ?_
  refine st_cpk 3 2 (Nat.le_of_ble_eq_true rfl) rfl rfl ?_
  refine st_cpv 3 2 (Nat.le_of_ble_eq_true rfl) rfl rfl ?_
  exact hk

/-- Part 18, from the state before it to the state after it. -/
theorem run_18 {w0 w1 w2 w3 w4 w5 w6 w7 : Half F}
    {kq : _ → Prog (TpuEff nD τ sig (Elt F) Λ₀ .tc) α}
    (hk : St m K c [.run 16 0, .run 16 0, .run 16 0, .run 10 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 16 0, .run 6 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part18 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part18_eq_skeleton]
  unfold k0_part18_skel
  simp only [semSignalWord, semWaitWord, Prog.lift, Prog.bind_op, Prog.bind_ret, Prog.pure_eq_ret, wp_deviceId]
  refine st_cpk 3 3 (Nat.le_of_ble_eq_true rfl) rfl rfl ?_
  refine st_cpv 3 3 (Nat.le_of_ble_eq_true rfl) rfl rfl ?_
  refine st_cpk 3 4 (Nat.le_of_ble_eq_true rfl) rfl rfl ?_
  refine st_cpv 3 4 (Nat.le_of_ble_eq_true rfl) rfl rfl ?_
  exact hk

/-- Part 19, from the state before it to the state after it. -/
theorem run_19 {w0 w1 w2 w3 w4 w5 w6 w7 : Half F}
    {kq : _ → Prog (TpuEff nD τ sig (Elt F) Λ₀ .tc) α}
    (hk : St m K c [.run 16 0, .run 16 0, .run 16 0, .run 13 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (kq ⟨⟩) Q) :
    St m K c [.run 16 0, .run 16 0, .run 16 0, .run 10 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part19 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part19_eq_skeleton]
  unfold k0_part19_skel
  simp only [semSignalWord, semWaitWord, Prog.lift, Prog.bind_op, Prog.bind_ret, Prog.pure_eq_ret, wp_deviceId]
  refine st_cpk 3 5 (Nat.le_of_ble_eq_true rfl) rfl rfl ?_
  refine st_cpv 3 5 (Nat.le_of_ble_eq_true rfl) rfl rfl ?_
  refine st_cpk 3 6 (Nat.le_of_ble_eq_true rfl) rfl rfl ?_
  exact hk

/-- Part 20, from the state before it to the state after it. -/
theorem run_20 {w0 w1 w2 w3 w4 w5 w6 w7 : Half F} (v5 : BitVec 32) (v7 : BitVec 32)
    {kq : _ → Prog (TpuEff nD τ sig (Elt F) Λ₀ .tc) α}
    (hk : St m K c [.run 16 0, .run 16 0, .run 16 0, .run 16 0] [.fly, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.run 16 0, .run 16 0, .run 16 0, .run 13 0] [.fly, .fly] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part20 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v5 v7 >>= kq) Q := by
  rw [k0_part20_eq_skeleton]
  unfold k0_part20_skel
  simp only [semSignalWord, semWaitWord, Prog.lift, Prog.bind_op, Prog.bind_ret, Prog.pure_eq_ret, wp_deviceId]
  refine st_cpv 3 6 (Nat.le_of_ble_eq_true rfl) rfl rfl ?_
  refine st_cpk 3 7 (Nat.le_of_ble_eq_true rfl) rfl rfl ?_
  refine st_cpv 3 7 (Nat.le_of_ble_eq_true rfl) rfl rfl ?_
  refine st_sig1 (dev1 c) rfl ?_
  refine st_sig2 (dev2 c) rfl ?_
  refine st_barw (by decide) rfl ?_
  exact hk

/-- Part 21, from the state before it to the state after it. -/
theorem run_21 {w0 w1 w2 w3 w4 w5 w6 w7 : Half F} (v2 : BitVec 32)
    {kq : _ → Prog (TpuEff nD τ sig (Elt F) Λ₀ .tc) α}
    (hk : ∀ (v412 : BitVec 32), St m K c [.run 16 1, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨v412, k0_pay3 (xR m c 0 0) (wqB m c)⟩) Q) :
    St m K c [.run 16 0, .run 16 0, .run 16 0, .run 16 0] [.fly, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part21 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 >>= kq) Q := by
  rw [k0_part21_eq_skeleton]
  unfold k0_part21_skel
  simp only [semSignalWord, semWaitWord, Prog.lift, Prog.bind_op, Prog.bind_ret, Prog.pure_eq_ret, wp_deviceId]
  refine st_wqw rfl (Nat.le_of_ble_eq_true rfl) rfl (by rfl) ?_
  refine st_x 0 0 (off3_cw c 0) ?_
  refine st_wq rfl ?_
  refine st_kvw 0 0 (by decide) (Nat.le_of_ble_eq_true rfl) rfl rfl (by rfl) ?_
  exact hk _

/-- Part 22, from the state before it to the state after it. -/
theorem run_22 {w0 w1 w2 w3 w4 w5 w6 w7 : Half F}
    {kq : _ → Prog (TpuEff nD τ sig (Elt F) Λ₀ .tc) α}
    (hk : St m K c [.run 16 5, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.run 16 1, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part22 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part22_eq_skeleton]
  unfold k0_part22_skel
  simp only [semSignalWord, semWaitWord, Prog.lift, Prog.bind_op, Prog.bind_ret, Prog.pure_eq_ret, wp_deviceId]
  refine st_kvw 0 1 (by decide) (Nat.le_of_ble_eq_true rfl) rfl rfl (by rfl) ?_
  refine st_kvw 0 2 (by decide) (Nat.le_of_ble_eq_true rfl) rfl rfl (by rfl) ?_
  refine st_kvw 0 3 (by decide) (Nat.le_of_ble_eq_true rfl) rfl rfl (by rfl) ?_
  refine st_kvw 0 4 (by decide) (Nat.le_of_ble_eq_true rfl) rfl rfl (by rfl) ?_
  exact hk

/-- Part 23, from the state before it to the state after it. -/
theorem run_23 {w0 w1 w2 w3 w4 w5 w6 w7 : Half F}
    {kq : _ → Prog (TpuEff nD τ sig (Elt F) Λ₀ .tc) α}
    (hk : St m K c [.run 16 8, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.run 16 5, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part23 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part23_eq_skeleton]
  unfold k0_part23_skel
  simp only [semSignalWord, semWaitWord, Prog.lift, Prog.bind_op, Prog.bind_ret, Prog.pure_eq_ret, wp_deviceId]
  refine st_kvw 0 5 (by decide) (Nat.le_of_ble_eq_true rfl) rfl rfl (by rfl) ?_
  refine st_kvw 0 6 (by decide) (Nat.le_of_ble_eq_true rfl) rfl rfl (by rfl) ?_
  refine st_kvw 0 7 (by decide) (Nat.le_of_ble_eq_true rfl) rfl rfl (by rfl) ?_
  exact hk

/-- Part 24, from the state before it to the state after it. -/
theorem run_24 {w0 w1 w2 w3 w4 w5 w6 w7 : Half F}
    {kq : _ → Prog (TpuEff nD τ sig (Elt F) Λ₀ .tc) α}
    (hk : St m K c [.run 16 11, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.run 16 8, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part24 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part24_eq_skeleton]
  unfold k0_part24_skel
  simp only [semSignalWord, semWaitWord, Prog.lift, Prog.bind_op, Prog.bind_ret, Prog.pure_eq_ret, wp_deviceId]
  refine st_kvw 0 8 (by decide) (Nat.le_of_ble_eq_true rfl) rfl rfl (by rfl) ?_
  refine st_kvw 0 9 (by decide) (Nat.le_of_ble_eq_true rfl) rfl rfl (by rfl) ?_
  refine st_kvw 0 10 (by decide) (Nat.le_of_ble_eq_true rfl) rfl rfl (by rfl) ?_
  exact hk

/-- Part 25, from the state before it to the state after it. -/
theorem run_25 {w0 w1 w2 w3 w4 w5 w6 w7 : Half F}
    {kq : _ → Prog (TpuEff nD τ sig (Elt F) Λ₀ .tc) α}
    (hk : St m K c [.run 16 15, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.run 16 11, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part25 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part25_eq_skeleton]
  unfold k0_part25_skel
  simp only [semSignalWord, semWaitWord, Prog.lift, Prog.bind_op, Prog.bind_ret, Prog.pure_eq_ret, wp_deviceId]
  refine st_kvw 0 11 (by decide) (Nat.le_of_ble_eq_true rfl) rfl rfl (by rfl) ?_
  refine st_kvw 0 12 (by decide) (Nat.le_of_ble_eq_true rfl) rfl rfl (by rfl) ?_
  refine st_kvw 0 13 (by decide) (Nat.le_of_ble_eq_true rfl) rfl rfl (by rfl) ?_
  refine st_kvw 0 14 (by decide) (Nat.le_of_ble_eq_true rfl) rfl rfl (by rfl) ?_
  exact hk

/-- Part 26, from the state before it to the state after it. -/
theorem run_26 {w0 w1 w2 w3 w4 w5 w6 w7 : Half F} (v418 : FVec F S4x64x8x128 .f32)
    {kq : _ → Prog (TpuEff nD τ sig (Elt F) Λ₀ .tc) α}
    (hk : St m K c [.got, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq (k0_pay4 v418 (grp (kB m c) 0) (grp (vB m c) 0))) Q) :
    St m K c [.run 16 15, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part26 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v418 >>= kq) Q := by
  rw [k0_part26_eq_skeleton]
  unfold k0_part26_skel
  simp only [semSignalWord, semWaitWord, Prog.lift, Prog.bind_op, Prog.bind_ret, Prog.pure_eq_ret, wp_deviceId]
  refine st_kvl 0 (Nat.le_of_ble_eq_true rfl) rfl rfl (by rfl) ?_
  refine st_k 0 rfl (Nat.le_of_ble_eq_true rfl) ?_
  refine st_v 0 rfl (Nat.le_of_ble_eq_true rfl) ?_
  exact hk

/-- Part 27, from the state before it to the state after it. -/
theorem run_27 {w0 w1 w2 w3 w4 w5 w6 w7 : Half F}
    {kq : _ → Prog (TpuEff nD τ sig (Elt F) Λ₀ .tc) α}
    (hk : St m K c [.got, .run 16 3, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .run 16 0, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part27 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part27_eq_skeleton]
  unfold k0_part27_skel
  simp only [semSignalWord, semWaitWord, Prog.lift, Prog.bind_op, Prog.bind_ret, Prog.pure_eq_ret, wp_deviceId]
  refine st_kvw 1 0 (by decide) (Nat.le_of_ble_eq_true rfl) rfl rfl (by rfl) ?_
  refine st_kvw 1 1 (by decide) (Nat.le_of_ble_eq_true rfl) rfl rfl (by rfl) ?_
  refine st_kvw 1 2 (by decide) (Nat.le_of_ble_eq_true rfl) rfl rfl (by rfl) ?_
  exact hk

end Cert.Run
-- ==== Proof.Runs2.lean ====
/-
# The parts of the kernel, 28 to 46: the rest of the caches landing and the first half chunk

`run_N`: from the state before part `N`, the part and what follows it run, given what follows runs from the state after it.
The values that arrive from earlier parts are variables; where a part stores a named value, the equation `hw` says so.
-/
module

public import proofs.«01_k».proof.Proof.Runs0

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-- Part 28, from the state before it to the state after it. -/
theorem run_28 {w0 w1 w2 w3 w4 w5 w6 w7 : Half F}
    {kq : _ → Prog (TpuEff nD τ sig (Elt F) Λ₀ .tc) α}
    (hk : St m K c [.got, .run 16 7, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .run 16 3, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part28 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part28_eq_skeleton]
  unfold k0_part28_skel
  simp only [semSignalWord, semWaitWord, Prog.lift, Prog.bind_op, Prog.bind_ret, Prog.pure_eq_ret, wp_deviceId]
  refine st_kvw 1 3 (by decide) (Nat.le_of_ble_eq_true rfl) rfl rfl (by rfl) ?_
  refine st_kvw 1 4 (by decide) (Nat.le_of_ble_eq_true rfl) rfl rfl (by rfl) ?_
  refine st_kvw 1 5 (by decide) (Nat.le_of_ble_eq_true rfl) rfl rfl (by rfl) ?_
  refine st_kvw 1 6 (by decide) (Nat.le_of_ble_eq_true rfl) rfl rfl (by rfl) ?_
  exact hk

/-- Part 29, from the state before it to the state after it. -/
theorem run_29 {w0 w1 w2 w3 w4 w5 w6 w7 : Half F}
    {kq : _ → Prog (TpuEff nD τ sig (Elt F) Λ₀ .tc) α}
    (hk : St m K c [.got, .run 16 10, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .run 16 7, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part29 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part29_eq_skeleton]
  unfold k0_part29_skel
  simp only [semSignalWord, semWaitWord, Prog.lift, Prog.bind_op, Prog.bind_ret, Prog.pure_eq_ret, wp_deviceId]
  refine st_kvw 1 7 (by decide) (Nat.le_of_ble_eq_true rfl) rfl rfl (by rfl) ?_
  refine st_kvw 1 8 (by decide) (Nat.le_of_ble_eq_true rfl) rfl rfl (by rfl) ?_
  refine st_kvw 1 9 (by decide) (Nat.le_of_ble_eq_true rfl) rfl rfl (by rfl) ?_
  exact hk

/-- Part 30, from the state before it to the state after it. -/
theorem run_30 {w0 w1 w2 w3 w4 w5 w6 w7 : Half F}
    {kq : _ → Prog (TpuEff nD τ sig (Elt F) Λ₀ .tc) α}
    (hk : St m K c [.got, .run 16 13, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .run 16 10, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part30 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part30_eq_skeleton]
  unfold k0_part30_skel
  simp only [semSignalWord, semWaitWord, Prog.lift, Prog.bind_op, Prog.bind_ret, Prog.pure_eq_ret, wp_deviceId]
  refine st_kvw 1 10 (by decide) (Nat.le_of_ble_eq_true rfl) rfl rfl (by rfl) ?_
  refine st_kvw 1 11 (by decide) (Nat.le_of_ble_eq_true rfl) rfl rfl (by rfl) ?_
  refine st_kvw 1 12 (by decide) (Nat.le_of_ble_eq_true rfl) rfl rfl (by rfl) ?_
  exact hk

/-- Part 31, from the state before it to the state after it. -/
theorem run_31 {w0 w1 w2 w3 w4 w5 w6 w7 : Half F} (v418 : FVec F S4x64x8x128 .f32)
    {kq : _ → Prog (TpuEff nD τ sig (Elt F) Λ₀ .tc) α}
    (hk : St m K c [.got, .got, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨k0_pay5 v418, k0_pay6 (grp (kB m c) 1), k0_pay7 (grp (vB m c) 1)⟩) Q) :
    St m K c [.got, .run 16 13, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part31 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v418 >>= kq) Q := by
  rw [k0_part31_eq_skeleton]
  unfold k0_part31_skel
  simp only [semSignalWord, semWaitWord, Prog.lift, Prog.bind_op, Prog.bind_ret, Prog.pure_eq_ret, wp_deviceId]
  refine st_kvw 1 13 (by decide) (Nat.le_of_ble_eq_true rfl) rfl rfl (by rfl) ?_
  refine st_kvw 1 14 (by decide) (Nat.le_of_ble_eq_true rfl) rfl rfl (by rfl) ?_
  refine st_kvl 1 (Nat.le_of_ble_eq_true rfl) rfl rfl (by rfl) ?_
  refine st_k 1 rfl (Nat.le_of_ble_eq_true rfl) ?_
  refine st_v 1 rfl (Nat.le_of_ble_eq_true rfl) ?_
  exact hk

/-- Part 32, from the state before it to the state after it. -/
theorem run_32 {w0 w1 w2 w3 w4 w5 w6 w7 : Half F} (v637 : FVec F S8x64x128 .f32) (v640 : FVec F S8x512x128 .f32) (v642 : FVec F S8x8x64x128 .f32)
    {kq : _ → Prog (TpuEff nD τ sig (Elt F) Λ₀ .tc) α}
    (hk : St m K c [.got, .got, .run 16 2, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq (k0_pay8 v637 v640 v642)) Q) :
    St m K c [.got, .got, .run 16 0, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part32 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v637 v640 v642 >>= kq) Q := by
  rw [k0_part32_eq_skeleton]
  unfold k0_part32_skel
  simp only [semSignalWord, semWaitWord, Prog.lift, Prog.bind_op, Prog.bind_ret, Prog.pure_eq_ret, wp_deviceId]
  refine st_kvw 2 0 (by decide) (Nat.le_of_ble_eq_true rfl) rfl rfl (by rfl) ?_
  refine st_kvw 2 1 (by decide) (Nat.le_of_ble_eq_true rfl) rfl rfl (by rfl) ?_
  exact hk

/-- Part 33, from the state before it to the state after it. -/
theorem run_33 {w0 w1 w2 w3 w4 w5 w6 w7 : Half F}
    {kq : _ → Prog (TpuEff nD τ sig (Elt F) Λ₀ .tc) α}
    (hk : St m K c [.got, .got, .run 16 5, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .run 16 2, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part33 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part33_eq_skeleton]
  unfold k0_part33_skel
  simp only [semSignalWord, semWaitWord, Prog.lift, Prog.bind_op, Prog.bind_ret, Prog.pure_eq_ret, wp_deviceId]
  refine st_kvw 2 2 (by decide) (Nat.le_of_ble_eq_true rfl) rfl rfl (by rfl) ?_
  refine st_kvw 2 3 (by decide) (Nat.le_of_ble_eq_true rfl) rfl rfl (by rfl) ?_
  refine st_kvw 2 4 (by decide) (Nat.le_of_ble_eq_true rfl) rfl rfl (by rfl) ?_
  exact hk

/-- Part 34, from the state before it to the state after it. -/
theorem run_34 {w0 w1 w2 w3 w4 w5 w6 w7 : Half F}
    {kq : _ → Prog (TpuEff nD τ sig (Elt F) Λ₀ .tc) α}
    (hk : St m K c [.got, .got, .run 16 8, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .run 16 5, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part34 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part34_eq_skeleton]
  unfold k0_part34_skel
  simp only [semSignalWord, semWaitWord, Prog.lift, Prog.bind_op, Prog.bind_ret, Prog.pure_eq_ret, wp_deviceId]
  refine st_kvw 2 5 (by decide) (Nat.le_of_ble_eq_true rfl) rfl rfl (by rfl) ?_
  refine st_kvw 2 6 (by decide) (Nat.le_of_ble_eq_true rfl) rfl rfl (by rfl) ?_
  refine st_kvw 2 7 (by decide) (Nat.le_of_ble_eq_true rfl) rfl rfl (by rfl) ?_
  exact hk

/-- Part 35, from the state before it to the state after it. -/
theorem run_35 {w0 w1 w2 w3 w4 w5 w6 w7 : Half F}
    {kq : _ → Prog (TpuEff nD τ sig (Elt F) Λ₀ .tc) α}
    (hk : St m K c [.got, .got, .run 16 12, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .run 16 8, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part35 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part35_eq_skeleton]
  unfold k0_part35_skel
  simp only [semSignalWord, semWaitWord, Prog.lift, Prog.bind_op, Prog.bind_ret, Prog.pure_eq_ret, wp_deviceId]
  refine st_kvw 2 8 (by decide) (Nat.le_of_ble_eq_true rfl) rfl rfl (by rfl) ?_
  refine st_kvw 2 9 (by decide) (Nat.le_of_ble_eq_true rfl) rfl rfl (by rfl) ?_
  refine st_kvw 2 10 (by decide) (Nat.le_of_ble_eq_true rfl) rfl rfl (by rfl) ?_
  refine st_kvw 2 11 (by decide) (Nat.le_of_ble_eq_true rfl) rfl rfl (by rfl) ?_
  exact hk

/-- Part 36, from the state before it to the state after it. -/
theorem run_36 {w0 w1 w2 w3 w4 w5 w6 w7 : Half F}
    {kq : _ → Prog (TpuEff nD τ sig (Elt F) Λ₀ .tc) α}
    (hk : St m K c [.got, .got, .run 16 15, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .run 16 12, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part36 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part36_eq_skeleton]
  unfold k0_part36_skel
  simp only [semSignalWord, semWaitWord, Prog.lift, Prog.bind_op, Prog.bind_ret, Prog.pure_eq_ret, wp_deviceId]
  refine st_kvw 2 12 (by decide) (Nat.le_of_ble_eq_true rfl) rfl rfl (by rfl) ?_
  refine st_kvw 2 13 (by decide) (Nat.le_of_ble_eq_true rfl) rfl rfl (by rfl) ?_
  refine st_kvw 2 14 (by decide) (Nat.le_of_ble_eq_true rfl) rfl rfl (by rfl) ?_
  exact hk

/-- Part 37, from the state before it to the state after it. -/
theorem run_37 {w0 w1 w2 w3 w4 w5 w6 w7 : Half F} (v418 : FVec F S4x64x8x128 .f32)
    {kq : _ → Prog (TpuEff nD τ sig (Elt F) Λ₀ .tc) α}
    (hk : St m K c [.got, .got, .got, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq (k0_pay9 v418 (grp (kB m c) 2) (grp (vB m c) 2))) Q) :
    St m K c [.got, .got, .run 16 15, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part37 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v418 >>= kq) Q := by
  rw [k0_part37_eq_skeleton]
  unfold k0_part37_skel
  simp only [semSignalWord, semWaitWord, Prog.lift, Prog.bind_op, Prog.bind_ret, Prog.pure_eq_ret, wp_deviceId]
  refine st_kvl 2 (Nat.le_of_ble_eq_true rfl) rfl rfl (by rfl) ?_
  refine st_k 2 rfl (Nat.le_of_ble_eq_true rfl) ?_
  refine st_v 2 rfl (Nat.le_of_ble_eq_true rfl) ?_
  exact hk

/-- Part 38, from the state before it to the state after it. -/
theorem run_38 {w0 w1 w2 w3 w4 w5 w6 w7 : Half F}
    {kq : _ → Prog (TpuEff nD τ sig (Elt F) Λ₀ .tc) α}
    (hk : St m K c [.got, .got, .got, .run 16 4] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .got, .run 16 0] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part38 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part38_eq_skeleton]
  unfold k0_part38_skel
  simp only [semSignalWord, semWaitWord, Prog.lift, Prog.bind_op, Prog.bind_ret, Prog.pure_eq_ret, wp_deviceId]
  refine st_kvw 3 0 (by decide) (Nat.le_of_ble_eq_true rfl) rfl rfl (by rfl) ?_
  refine st_kvw 3 1 (by decide) (Nat.le_of_ble_eq_true rfl) rfl rfl (by rfl) ?_
  refine st_kvw 3 2 (by decide) (Nat.le_of_ble_eq_true rfl) rfl rfl (by rfl) ?_
  refine st_kvw 3 3 (by decide) (Nat.le_of_ble_eq_true rfl) rfl rfl (by rfl) ?_
  exact hk

/-- Part 39, from the state before it to the state after it. -/
theorem run_39 {w0 w1 w2 w3 w4 w5 w6 w7 : Half F}
    {kq : _ → Prog (TpuEff nD τ sig (Elt F) Λ₀ .tc) α}
    (hk : St m K c [.got, .got, .got, .run 16 7] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .got, .run 16 4] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part39 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part39_eq_skeleton]
  unfold k0_part39_skel
  simp only [semSignalWord, semWaitWord, Prog.lift, Prog.bind_op, Prog.bind_ret, Prog.pure_eq_ret, wp_deviceId]
  refine st_kvw 3 4 (by decide) (Nat.le_of_ble_eq_true rfl) rfl rfl (by rfl) ?_
  refine st_kvw 3 5 (by decide) (Nat.le_of_ble_eq_true rfl) rfl rfl (by rfl) ?_
  refine st_kvw 3 6 (by decide) (Nat.le_of_ble_eq_true rfl) rfl rfl (by rfl) ?_
  exact hk

/-- Part 40, from the state before it to the state after it. -/
theorem run_40 {w0 w1 w2 w3 w4 w5 w6 w7 : Half F}
    {kq : _ → Prog (TpuEff nD τ sig (Elt F) Λ₀ .tc) α}
    (hk : St m K c [.got, .got, .got, .run 16 10] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .got, .run 16 7] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part40 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part40_eq_skeleton]
  unfold k0_part40_skel
  simp only [semSignalWord, semWaitWord, Prog.lift, Prog.bind_op, Prog.bind_ret, Prog.pure_eq_ret, wp_deviceId]
  refine st_kvw 3 7 (by decide) (Nat.le_of_ble_eq_true rfl) rfl rfl (by rfl) ?_
  refine st_kvw 3 8 (by decide) (Nat.le_of_ble_eq_true rfl) rfl rfl (by rfl) ?_
  refine st_kvw 3 9 (by decide) (Nat.le_of_ble_eq_true rfl) rfl rfl (by rfl) ?_
  exact hk

/-- Part 41, from the state before it to the state after it. -/
theorem run_41 {w0 w1 w2 w3 w4 w5 w6 w7 : Half F}
    {kq : _ → Prog (TpuEff nD τ sig (Elt F) Λ₀ .tc) α}
    (hk : St m K c [.got, .got, .got, .run 16 14] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨⟩) Q) :
    St m K c [.got, .got, .got, .run 16 10] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part41 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8  >>= kq) Q := by
  rw [k0_part41_eq_skeleton]
  unfold k0_part41_skel
  simp only [semSignalWord, semWaitWord, Prog.lift, Prog.bind_op, Prog.bind_ret, Prog.pure_eq_ret, wp_deviceId]
  refine st_kvw 3 10 (by decide) (Nat.le_of_ble_eq_true rfl) rfl rfl (by rfl) ?_
  refine st_kvw 3 11 (by decide) (Nat.le_of_ble_eq_true rfl) rfl rfl (by rfl) ?_
  refine st_kvw 3 12 (by decide) (Nat.le_of_ble_eq_true rfl) rfl rfl (by rfl) ?_
  refine st_kvw 3 13 (by decide) (Nat.le_of_ble_eq_true rfl) rfl rfl (by rfl) ?_
  exact hk

/-- Part 42, from the state before it to the state after it. -/
theorem run_42 {w0 w1 w2 w3 w4 w5 w6 w7 : Half F} (v418 : FVec F S4x64x8x128 .f32)
    {kq : _ → Prog (TpuEff nD τ sig (Elt F) Λ₀ .tc) α}
    (hk : St m K c [.got, .got, .got, .got] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (kq ⟨k0_pay10 (grp (vB m c) 3), k0_pay11 v418 (grp (kB m c) 3)⟩) Q) :
    St m K c [.got, .got, .got, .run 16 14] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part42 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v418 >>= kq) Q := by
  rw [k0_part42_eq_skeleton]
  unfold k0_part42_skel
  simp only [semSignalWord, semWaitWord, Prog.lift, Prog.bind_op, Prog.bind_ret, Prog.pure_eq_ret, wp_deviceId]
  refine st_kvw 3 14 (by decide) (Nat.le_of_ble_eq_true rfl) rfl rfl (by rfl) ?_
  refine st_kvl 3 (Nat.le_of_ble_eq_true rfl) rfl rfl (by rfl) ?_
  refine st_k 3 rfl (Nat.le_of_ble_eq_true rfl) ?_
  refine st_v 3 rfl (Nat.le_of_ble_eq_true rfl) ?_
  exact hk

/-- Part 43, from the state before it to the state after it. -/
theorem run_43 {w0 w1 w2 w3 w4 w5 w6 w7 : Half F} (v2 : BitVec 32) (v412 : BitVec 32) (v538 : FVec F S64x1024 .f32) (v658 : FVec F S64x1024 .f32) (v778 : FVec F S64x1024 .f32) (v883 : FVec F S8x512x128 .f32) (v886 : FVec F S8x64x512 .f32) (hw1 : (k0_pay12 v538 v658 v778 v883 v886 (woB m c)) = half m c 0 0) (hw2 : (k0_pay13 (half m c 0 0)) = carry m 0 c)
    {kq : _ → Prog (TpuEff nD τ sig (Elt F) Λ₀ .tc) α}
    (hk : St m K c [.got, .got, .got, .got] [.done, .done] [half m c 0 0, w1, w2, w3, w4, w5, w6, w7] 0 [0, 3, 1, 4, 2, 5, 6, 9, 7, 10, 8, 11] [0, 0, 0, 0, 0, 0, 0, 0, 0, 0, 0, 0] [.full (carry m 0 c), .any, .any, .any] [.gone, .gone, .gone, .gone, .gone, .gone] [true, true, true, true, true, true] ⊢ WP c (kq 1#32) Q) :
    St m K c [.got, .got, .got, .got] [.done, .fly] [w0, w1, w2, w3, w4, w5, w6, w7] 0 [0, 3, 1, 4, 2, 5, 6, 9, 7, 10, 8, 11] [0, 0, 0, 0, 0, 0, 0, 0, 0, 0, 0, 0] [.any, .any, .any, .any] [.gone, .gone, .gone, .gone, .gone, .gone] [true, true, true, true, true, true] ⊢ WP c (k0_part43 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v412 v538 v658 v778 v883 v886 >>= kq) Q := by
  rw [k0_part43_eq_skeleton]
  unfold k0_part43_skel
  simp only [semSignalWord, semWaitWord, Prog.lift, Prog.bind_op, Prog.bind_ret, Prog.pure_eq_ret, wp_deviceId]
  refine st_wow rfl (Nat.le_of_ble_eq_true rfl) rfl (by rfl) ?_
  refine st_wo rfl ?_
  refine st_o 0 0 (off3_cw c 0) ?_
  refine st_so 0 0 (half m c 0 0) rfl (off3_cw c 0) hw1 ?_
  refine st_o 0 0 (off4_cw c 0) ?_
  refine st_stg 0 (Nat.le_of_ble_eq_true rfl) (.inl rfl) (fun uv917 => ?_)
  refine st_ss 0 (Nat.le_of_ble_eq_true rfl) (.inl rfl) (carry m 0 c) hw2 ?_
  exact hk

/-- Part 44, from the state before it to the state after it. -/
theorem run_44 {w1 w2 w3 w4 w5 w6 w7 : Half F} (v2 : BitVec 32) (v7 : BitVec 32) (c1_i32_1504 : BitVec 32)
    {kq : _ → Prog (TpuEff nD τ sig (Elt F) Λ₀ .tc) α}
    (hk : ∀ (v933 : BitVec 32), St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (kq ⟨v933, k0_pay14 (xR m c 1 0) (wqB m c), k0_pay15 (grp (vB m c) 0), k0_pay16 (xR m c 1 0) (wqB m c) (grp (kB m c) 0)⟩) Q) :
    St m K c [.got, .got, .got, .got] [.done, .done] [half m c 0 0, w1, w2, w3, w4, w5, w6, w7] 0 [0, 3, 1, 4, 2, 5, 6, 9, 7, 10, 8, 11] [0, 0, 0, 0, 0, 0, 0, 0, 0, 0, 0, 0] [.full (carry m 0 c), .any, .any, .any] [.gone, .gone, .gone, .gone, .gone, .gone] [true, true, true, true, true, true] ⊢ WP c (k0_part44 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v7 c1_i32_1504 >>= kq) Q := by
  rw [k0_part44_eq_skeleton]
  unfold k0_part44_skel
  simp only [semSignalWord, semWaitWord, Prog.lift, Prog.bind_op, Prog.bind_ret, Prog.pure_eq_ret, wp_deviceId]
  refine st_snds 0 0 rfl 0 rfl (dev3 c) rfl rfl rfl (Nat.le_of_ble_eq_true rfl) rfl (Nat.le_of_ble_eq_true rfl) (giveOK_none rfl) rfl (Nat.le_of_ble_eq_true rfl) ?_
  refine st_x 1 0 (off5_ccw c 0) ?_
  refine st_wq rfl ?_
  refine st_k 0 rfl (Nat.le_of_ble_eq_true rfl) ?_
  refine st_v 0 rfl (Nat.le_of_ble_eq_true rfl) ?_
  exact hk _

/-- Part 45, from the state before it to the state after it. -/
theorem run_45 {w1 w2 w3 w4 w5 w6 w7 : Half F} (v939 : FVec F S4x64x8x128 .f32) (v948 : FVec F S8x512x128 .f32) (v951 : FVec F S8x64x512 .f32)
    {kq : _ → Prog (TpuEff nD τ sig (Elt F) Λ₀ .tc) α}
    (hk : St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (kq ⟨k0_pay17 v948 v951, k0_pay18 v939 (grp (kB m c) 1) (grp (vB m c) 1), k0_pay19 v939⟩) Q) :
    St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (k0_part45 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v939 v948 v951 >>= kq) Q := by
  rw [k0_part45_eq_skeleton]
  unfold k0_part45_skel
  simp only [semSignalWord, semWaitWord, Prog.lift, Prog.bind_op, Prog.bind_ret, Prog.pure_eq_ret, wp_deviceId]
  refine st_k 1 rfl (Nat.le_of_ble_eq_true rfl) ?_
  refine st_v 1 rfl (Nat.le_of_ble_eq_true rfl) ?_
  exact hk

/-- Part 46, from the state before it to the state after it. -/
theorem run_46 {w1 w2 w3 w4 w5 w6 w7 : Half F} (v939 : FVec F S4x64x8x128 .f32) (v990 : FVec F S8x64x128 .f32)
    {kq : _ → Prog (TpuEff nD τ sig (Elt F) Λ₀ .tc) α}
    (hk : St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (kq ⟨k0_pay20 v990 (grp (kB m c) 2) (grp (vB m c) 2), k0_pay21 (grp (vB m c) 3), k0_pay22 v939 (grp (kB m c) 3), k0_pay23 v939 (grp (kB m c) 3)⟩) Q) :
    St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (k0_part46 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v939 v990 >>= kq) Q := by
  rw [k0_part46_eq_skeleton]
  unfold k0_part46_skel
  simp only [semSignalWord, semWaitWord, Prog.lift, Prog.bind_op, Prog.bind_ret, Prog.pure_eq_ret, wp_deviceId]
  refine st_k 2 rfl (Nat.le_of_ble_eq_true rfl) ?_
  refine st_v 2 rfl (Nat.le_of_ble_eq_true rfl) ?_
  refine st_k 3 rfl (Nat.le_of_ble_eq_true rfl) ?_
  refine st_v 3 rfl (Nat.le_of_ble_eq_true rfl) ?_
  exact hk

end Cert.Run
-- ==== Proof.Runs3.lean ====
/-
# The parts of the kernel, 47 to 63: the second step and the third half chunks

`run_N`: from the state before part `N`, the part and what follows it run, given what follows runs from the state after it.
The values that arrive from earlier parts are variables; where a part stores a named value, the equation `hw` says so.
-/
module

public import proofs.«01_k».proof.Proof.Runs0

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-- Part 47, from the state before it to the state after it. -/
theorem run_47 {w1 w2 w3 w4 w5 w6 w7 : Half F} (v2 : BitVec 32) (v5 : BitVec 32) (v933 : BitVec 32) (v963 : FVec F S64x1024 .f32) (v987 : FVec F S64x1024 .f32) (v1011 : FVec F S64x1024 .f32) (v1020 : FVec F S8x512x128 .f32) (v1023 : FVec F S8x64x512 .f32) (v1026 : FVec F S8x64x512 .f32) (hw1 : (k0_pay24 v963 v987 v1011 v1020 v1023 v1026 (woB m c)) = half m c 1 0) (hw2 : (k0_pay25 (half m c 1 0)) = carry m 3 c)
    {kq : _ → Prog (TpuEff nD τ sig (Elt F) Λ₀ .tc) α}
    (hk : St m K c [.got, .got, .got, .got] [.done, .done] [half m c 0 0, w1, w2, w3, half m c 1 0, w5, w6, w7] 0 [3, 1, 4, 2, 5, 6, 9, 7, 10, 8, 11] [1, 0, 0, 0, 0, 0, 0, 0, 0, 0, 0, 0] [.gone, .full (carry m 3 c), .any, .any] [.gone, .gone, .gone, .gone, .gone, .gone] [false, true, true, true, true, true] ⊢ WP c (kq ⟨⟩) Q) :
    St m K c [.got, .got, .got, .got] [.done, .done] [half m c 0 0, w1, w2, w3, w4, w5, w6, w7] 0 [3, 1, 4, 2, 5, 6, 9, 7, 10, 8, 11] [1, 0, 0, 0, 0, 0, 0, 0, 0, 0, 0, 0] [.gone, .any, .any, .any] [.gone, .gone, .gone, .gone, .gone, .gone] [false, true, true, true, true, true] ⊢ WP c (k0_part47 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 v933 v963 v987 v1011 v1020 v1023 v1026 >>= kq) Q := by
  rw [k0_part47_eq_skeleton]
  unfold k0_part47_skel
  simp only [semSignalWord, semWaitWord, Prog.lift, Prog.bind_op, Prog.bind_ret, Prog.pure_eq_ret, wp_deviceId]
  refine st_wo rfl ?_
  refine st_o 1 0 (off5_ccw c 0) ?_
  refine st_so 1 0 (half m c 1 0) rfl (off5_ccw c 0) hw1 ?_
  refine st_o 1 0 (off5_ccw c 0) ?_
  refine st_stg 1 (Nat.le_of_ble_eq_true rfl) (.inl rfl) (fun uv1051 => ?_)
  refine st_ss 1 (Nat.le_of_ble_eq_true rfl) (.inl rfl) (carry m 3 c) hw2 ?_
  exact hk

/-- Part 48, from the state before it to the state after it. -/
theorem run_48 {w1 w2 w3 w5 w6 w7 : Half F} (v2 : BitVec 32)
    {kq : _ → Prog (TpuEff nD τ sig (Elt F) Λ₀ .tc) α}
    (hk : ∀ (v1068 : BitVec 32), St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨v1068, k0_pay26 (xR m c 0 1) (wqB m c), k0_pay27 (grp (vB m c) 0), k0_pay28 (xR m c 0 1) (wqB m c) (grp (kB m c) 0), k0_pay29 (xR m c 0 1) (wqB m c) (grp (kB m c) 0)⟩) Q) :
    St m K c [.got, .got, .got, .got] [.done, .done] [half m c 0 0, w1, w2, w3, half m c 1 0, w5, w6, w7] 0 [3, 1, 4, 2, 5, 6, 9, 7, 10, 8, 11] [1, 0, 0, 0, 0, 0, 0, 0, 0, 0, 0, 0] [.gone, .full (carry m 3 c), .any, .any] [.gone, .gone, .gone, .gone, .gone, .gone] [false, true, true, true, true, true] ⊢ WP c (k0_part48 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 >>= kq) Q := by
  rw [k0_part48_eq_skeleton]
  unfold k0_part48_skel
  simp only [semSignalWord, semWaitWord, Prog.lift, Prog.bind_op, Prog.bind_ret, Prog.pure_eq_ret, wp_deviceId]
  refine st_snds 3 1 rfl 3 rfl (dev4 c) rfl rfl rfl (Nat.le_of_ble_eq_true rfl) rfl (Nat.le_of_ble_eq_true rfl) (giveOK_none rfl) rfl (Nat.le_of_ble_eq_true rfl) ?_
  refine st_x 0 1 (off3_cw c 1) ?_
  refine st_wq rfl ?_
  refine st_k 0 rfl (Nat.le_of_ble_eq_true rfl) ?_
  refine st_v 0 rfl (Nat.le_of_ble_eq_true rfl) ?_
  exact hk _

/-- Part 49, from the state before it to the state after it. -/
theorem run_49 {w1 w2 w3 w5 w6 w7 : Half F} (v1074 : FVec F S4x64x8x128 .f32) (v1083 : FVec F S8x512x128 .f32) (v1091 : FVec F S8x64x512 .f32) (v1093 : FVec F S8x64x1 .f32)
    {kq : _ → Prog (TpuEff nD τ sig (Elt F) Λ₀ .tc) α}
    (hk : St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨k0_pay30 v1083 v1091 v1093, k0_pay31 v1074 (grp (kB m c) 1) (grp (vB m c) 1), k0_pay32 v1074, k0_pay33 (grp (kB m c) 2)⟩) Q) :
    St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part49 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1074 v1083 v1091 v1093 >>= kq) Q := by
  rw [k0_part49_eq_skeleton]
  unfold k0_part49_skel
  simp only [semSignalWord, semWaitWord, Prog.lift, Prog.bind_op, Prog.bind_ret, Prog.pure_eq_ret, wp_deviceId]
  refine st_k 1 rfl (Nat.le_of_ble_eq_true rfl) ?_
  refine st_v 1 rfl (Nat.le_of_ble_eq_true rfl) ?_
  refine st_k 2 rfl (Nat.le_of_ble_eq_true rfl) ?_
  exact hk

/-- Part 50, from the state before it to the state after it. -/
theorem run_50 {w1 w2 w3 w5 w6 w7 : Half F} (v1074 : FVec F S4x64x8x128 .f32) (v1125 : FVec F S8x64x128 .f32) (v1128 : FVec F S8x512x128 .f32)
    {kq : _ → Prog (TpuEff nD τ sig (Elt F) Λ₀ .tc) α}
    (hk : St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨k0_pay34 v1125 v1128 (grp (vB m c) 2), k0_pay35 (grp (vB m c) 3), k0_pay36 v1074 (grp (kB m c) 3), (constant S8x64x128 .f32 0x00000000#32)⟩) Q) :
    St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part50 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1074 v1125 v1128 >>= kq) Q := by
  rw [k0_part50_eq_skeleton]
  unfold k0_part50_skel
  simp only [semSignalWord, semWaitWord, Prog.lift, Prog.bind_op, Prog.bind_ret, Prog.pure_eq_ret, wp_deviceId]
  refine st_v 2 rfl (Nat.le_of_ble_eq_true rfl) ?_
  refine st_k 3 rfl (Nat.le_of_ble_eq_true rfl) ?_
  refine st_v 3 rfl (Nat.le_of_ble_eq_true rfl) ?_
  exact hk

/-- Part 51, from the state before it to the state after it. -/
theorem run_51 {w1 w2 w3 w5 w6 w7 : Half F} (v2 : BitVec 32) (v1068 : BitVec 32) (v1098 : FVec F S64x1024 .f32) (v1122 : FVec F S64x1024 .f32) (v1146 : FVec F S64x1024 .f32) (v1155 : FVec F S8x512x128 .f32) (v1167 : FVec F S8x64x512 .f32) (cst_1671 : FVec F S8x64x128 .f32) (hw1 : (k0_pay37 v1098 v1122 v1146 v1155 v1167 cst_1671 (woB m c)) = half m c 0 1)
    {kq : _ → Prog (TpuEff nD τ sig (Elt F) Λ₀ .tc) α}
    (hk : ∀ (v1181 : BitVec 32), St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨v1181, k0_pay38 (xR m c 1 1) (wqB m c), k0_pay39 (grp (vB m c) 0), k0_pay40 (xR m c 1 1) (wqB m c) (grp (kB m c) 0)⟩) Q) :
    St m K c [.got, .got, .got, .got] [.done, .done] [half m c 0 0, w1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part51 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1068 v1098 v1122 v1146 v1155 v1167 cst_1671 >>= kq) Q := by
  rw [k0_part51_eq_skeleton]
  unfold k0_part51_skel
  simp only [semSignalWord, semWaitWord, Prog.lift, Prog.bind_op, Prog.bind_ret, Prog.pure_eq_ret, wp_deviceId]
  refine st_wo rfl ?_
  refine st_o 0 1 (off3_cw c 1) ?_
  refine st_so 0 1 (half m c 0 1) rfl (off3_cw c 1) hw1 ?_
  refine st_x 1 1 (off5_ccw c 1) ?_
  refine st_wq rfl ?_
  refine st_k 0 rfl (Nat.le_of_ble_eq_true rfl) ?_
  refine st_v 0 rfl (Nat.le_of_ble_eq_true rfl) ?_
  exact hk _

/-- Part 52, from the state before it to the state after it. -/
theorem run_52 {w2 w3 w5 w6 w7 : Half F} (v1187 : FVec F S4x64x8x128 .f32) (v1196 : FVec F S8x512x128 .f32) (v1199 : FVec F S8x64x512 .f32)
    {kq : _ → Prog (TpuEff nD τ sig (Elt F) Λ₀ .tc) α}
    (hk : St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨k0_pay41 v1196 v1199, k0_pay42 v1187 (grp (kB m c) 1) (grp (vB m c) 1), k0_pay43 v1187⟩) Q) :
    St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part52 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1187 v1196 v1199 >>= kq) Q := by
  rw [k0_part52_eq_skeleton]
  unfold k0_part52_skel
  simp only [semSignalWord, semWaitWord, Prog.lift, Prog.bind_op, Prog.bind_ret, Prog.pure_eq_ret, wp_deviceId]
  refine st_k 1 rfl (Nat.le_of_ble_eq_true rfl) ?_
  refine st_v 1 rfl (Nat.le_of_ble_eq_true rfl) ?_
  exact hk

/-- Part 53, from the state before it to the state after it. -/
theorem run_53 {w2 w3 w5 w6 w7 : Half F} (v1187 : FVec F S4x64x8x128 .f32) (v1238 : FVec F S8x64x128 .f32)
    {kq : _ → Prog (TpuEff nD τ sig (Elt F) Λ₀ .tc) α}
    (hk : St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (kq ⟨k0_pay44 v1238 (grp (kB m c) 2) (grp (vB m c) 2), k0_pay45 (grp (vB m c) 3), k0_pay46 v1187 (grp (kB m c) 3), k0_pay47 v1187 (grp (kB m c) 3)⟩) Q) :
    St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part53 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1187 v1238 >>= kq) Q := by
  rw [k0_part53_eq_skeleton]
  unfold k0_part53_skel
  simp only [semSignalWord, semWaitWord, Prog.lift, Prog.bind_op, Prog.bind_ret, Prog.pure_eq_ret, wp_deviceId]
  refine st_k 2 rfl (Nat.le_of_ble_eq_true rfl) ?_
  refine st_v 2 rfl (Nat.le_of_ble_eq_true rfl) ?_
  refine st_k 3 rfl (Nat.le_of_ble_eq_true rfl) ?_
  refine st_v 3 rfl (Nat.le_of_ble_eq_true rfl) ?_
  exact hk

/-- Part 54, from the state before it to the state after it. -/
theorem run_54 {w2 w3 w5 w6 w7 : Half F} (v7 : BitVec 32) (v1181 : BitVec 32) (v1211 : FVec F S64x1024 .f32) (v1235 : FVec F S64x1024 .f32) (v1259 : FVec F S64x1024 .f32) (v1268 : FVec F S8x512x128 .f32) (v1271 : FVec F S8x64x512 .f32) (v1274 : FVec F S8x64x512 .f32) (hw1 : (k0_pay48 v1211 v1235 v1259 v1268 v1271 v1274 (woB m c)) = half m c 1 1)
    {kq : _ → Prog (TpuEff nD τ sig (Elt F) Λ₀ .tc) α}
    (hk : St m K c [.got, .got, .got, .got] [.done, .done] [half m c 0 0, half m c 0 1, w2, w3, half m c 1 0, half m c 1 1, w6, w7] 0 [1, 4, 2, 5, 6, 9, 7, 10, 8, 11] [3, 0, 0, 1, 0, 0, 0, 0, 0, 0, 0, 0] [.full (carry m 0 c), .gone, .any, .any] [.full (carry m 0 (fromD 0 c)), .gone, .gone, .gone, .gone, .gone] [false, true, true, false, true, true] ⊢ WP c (kq ⟨⟩) Q) :
    St m K c [.got, .got, .got, .got] [.done, .done] [half m c 0 0, half m c 0 1, w2, w3, half m c 1 0, w5, w6, w7] 0 [1, 4, 2, 5, 6, 9, 7, 10, 8, 11] [1, 0, 0, 1, 0, 0, 0, 0, 0, 0, 0, 0] [.gone, .gone, .any, .any] [.gone, .gone, .gone, .gone, .gone, .gone] [false, true, true, false, true, true] ⊢ WP c (k0_part54 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v7 v1181 v1211 v1235 v1259 v1268 v1271 v1274 >>= kq) Q := by
  rw [k0_part54_eq_skeleton]
  unfold k0_part54_skel
  simp only [semSignalWord, semWaitWord, Prog.lift, Prog.bind_op, Prog.bind_ret, Prog.pure_eq_ret, wp_deviceId]
  refine st_wo rfl ?_
  refine st_o 1 1 (off5_ccw c 1) ?_
  refine st_so 1 1 (half m c 1 1) rfl (off5_ccw c 1) hw1 ?_
  refine st_sws 0 0 rfl rfl (Nat.le_of_ble_eq_true rfl) rfl rfl (Nat.le_of_ble_eq_true rfl) (by rfl) ?_
  refine st_rw 0 0 rfl (carry m 0 (fromD 0 c)) rfl (Nat.le_of_ble_eq_true rfl) rfl (by decide) rfl rfl (Nat.le_of_ble_eq_true rfl) (by rfl) ?_
  exact hk

/-- Part 55, from the state before it to the state after it. -/
theorem run_55 {w2 w3 w6 w7 : Half F} (v2 : BitVec 32) (v5 : BitVec 32)
    {kq : _ → Prog (TpuEff nD τ sig (Elt F) Λ₀ .tc) α}
    (hk : ∀ (v1332 : BitVec 32), St m K c [.got, .got, .got, .got] [.done, .done] [half m c 0 0, half m c 0 1, w2, w3, half m c 1 0, half m c 1 1, w6, w7] 0 [1, 4, 2, 5, 6, 9, 7, 10, 8, 11] [3, 0, 0, 3, 0, 0, 0, 0, 0, 0, 0, 0] [.full (carry m 0 c), .full (carry m 3 c), .any, .any] [.full (carry m 0 (fromD 0 c)), .gone, .gone, .full (carry m 3 (fromD 1 c)), .gone, .gone] [false, true, true, false, true, true] ⊢ WP c (kq ⟨k0_pay49 (half m c 0 1) (carry m 0 (fromD 0 c)), v1332⟩) Q) :
    St m K c [.got, .got, .got, .got] [.done, .done] [half m c 0 0, half m c 0 1, w2, w3, half m c 1 0, half m c 1 1, w6, w7] 0 [1, 4, 2, 5, 6, 9, 7, 10, 8, 11] [3, 0, 0, 1, 0, 0, 0, 0, 0, 0, 0, 0] [.full (carry m 0 c), .gone, .any, .any] [.full (carry m 0 (fromD 0 c)), .gone, .gone, .gone, .gone, .gone] [false, true, true, false, true, true] ⊢ WP c (k0_part55 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 >>= kq) Q := by
  rw [k0_part55_eq_skeleton]
  unfold k0_part55_skel
  simp only [semSignalWord, semWaitWord, Prog.lift, Prog.bind_op, Prog.bind_ret, Prog.pure_eq_ret, wp_deviceId]
  refine st_sws 3 1 rfl rfl (Nat.le_of_ble_eq_true rfl) rfl rfl (Nat.le_of_ble_eq_true rfl) (by rfl) ?_
  refine st_rw 3 3 rfl (carry m 3 (fromD 1 c)) rfl (Nat.le_of_ble_eq_true rfl) rfl (by decide) rfl rfl (Nat.le_of_ble_eq_true rfl) (by rfl) ?_
  refine st_o 0 1 (off4_cw c 1) ?_
  refine st_comm 0 (carry m 0 (fromD 0 c)) rfl (Nat.le_of_ble_eq_true rfl) ?_
  exact hk _

/-- Part 56, from the state before it to the state after it. -/
theorem run_56 {w2 w3 w6 w7 : Half F} (v5 : BitVec 32) (v7 : BitVec 32) (v1329 : FVec F S256x1024 .f32) (v1332 : BitVec 32) (hw1 : (k0_pay51 v1329) = carry m 1 c) (hw2 : (k0_pay52 (half m c 1 1) (carry m 3 (fromD 1 c))) = carry m 4 c)
    {kq : _ → Prog (TpuEff nD τ sig (Elt F) Λ₀ .tc) α}
    (hk : St m K c [.got, .got, .got, .got] [.done, .done] [half m c 0 0, half m c 0 1, w2, w3, half m c 1 0, half m c 1 1, w6, w7] 0 [4, 2, 5, 6, 9, 7, 10, 8, 11] [3, 1, 0, 3, 0, 0, 0, 0, 0, 0, 0, 0] [.gone, .full (carry m 4 c), .any, .any] [.full (carry m 0 (fromD 0 c)), .gone, .gone, .full (carry m 3 (fromD 1 c)), .gone, .gone] [false, false, true, false, true, true] ⊢ WP c (kq (k0_pay50 (half m c 1 1) (carry m 3 (fromD 1 c)))) Q) :
    St m K c [.got, .got, .got, .got] [.done, .done] [half m c 0 0, half m c 0 1, w2, w3, half m c 1 0, half m c 1 1, w6, w7] 0 [1, 4, 2, 5, 6, 9, 7, 10, 8, 11] [3, 0, 0, 3, 0, 0, 0, 0, 0, 0, 0, 0] [.full (carry m 0 c), .full (carry m 3 c), .any, .any] [.full (carry m 0 (fromD 0 c)), .gone, .gone, .full (carry m 3 (fromD 1 c)), .gone, .gone] [false, true, true, false, true, true] ⊢ WP c (k0_part56 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v5 v7 v1329 v1332 >>= kq) Q := by
  rw [k0_part56_eq_skeleton]
  unfold k0_part56_skel
  simp only [semSignalWord, semWaitWord, Prog.lift, Prog.bind_op, Prog.bind_ret, Prog.pure_eq_ret, wp_deviceId]
  refine st_o 1 1 (off5_ccw c 1) ?_
  refine st_comm 3 (carry m 3 (fromD 1 c)) rfl (Nat.le_of_ble_eq_true rfl) ?_
  refine st_stg 0 (Nat.le_of_ble_eq_true rfl) (.inr ⟨_, rfl⟩) (fun uv1342 => ?_)
  refine st_ss 0 (Nat.le_of_ble_eq_true rfl) (.inr ⟨_, rfl⟩) (carry m 1 c) hw1 ?_
  refine st_stg 1 (Nat.le_of_ble_eq_true rfl) (.inr ⟨_, rfl⟩) (fun uv1346 => ?_)
  refine st_ss 1 (Nat.le_of_ble_eq_true rfl) (.inr ⟨_, rfl⟩) (carry m 4 c) hw2 ?_
  refine st_snds 1 0 rfl 1 rfl (dev5 c) rfl rfl rfl (Nat.le_of_ble_eq_true rfl) rfl (Nat.le_of_ble_eq_true rfl) (giveOK_none rfl) rfl (Nat.le_of_ble_eq_true rfl) ?_
  exact hk

/-- Part 57, from the state before it to the state after it. -/
theorem run_57 {w2 w3 w6 w7 : Half F} (v2 : BitVec 32) (v1329 : FVec F S256x1024 .f32) (v1340 : FVec F S256x1024 .f32)
    {kq : _ → Prog (TpuEff nD τ sig (Elt F) Λ₀ .tc) α}
    (hk : ∀ (v1389 : BitVec 32), St m K c [.got, .got, .got, .got] [.done, .done] [half m c 0 0, (k0_pay53 v1329), w2, w3, half m c 1 0, (k0_pay54 v1340), w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨v1389, k0_pay55 (xR m c 0 2), (wqB m c)⟩) Q) :
    St m K c [.got, .got, .got, .got] [.done, .done] [half m c 0 0, half m c 0 1, w2, w3, half m c 1 0, half m c 1 1, w6, w7] 0 [4, 2, 5, 6, 9, 7, 10, 8, 11] [3, 1, 0, 3, 0, 0, 0, 0, 0, 0, 0, 0] [.gone, .full (carry m 4 c), .any, .any] [.full (carry m 0 (fromD 0 c)), .gone, .gone, .full (carry m 3 (fromD 1 c)), .gone, .gone] [false, false, true, false, true, true] ⊢ WP c (k0_part57 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1329 v1340 >>= kq) Q := by
  rw [k0_part57_eq_skeleton]
  unfold k0_part57_skel
  simp only [semSignalWord, semWaitWord, Prog.lift, Prog.bind_op, Prog.bind_ret, Prog.pure_eq_ret, wp_deviceId]
  refine st_snds 4 1 rfl 4 rfl (dev6 c) rfl rfl rfl (Nat.le_of_ble_eq_true rfl) rfl (Nat.le_of_ble_eq_true rfl) (giveOK_none rfl) rfl (Nat.le_of_ble_eq_true rfl) ?_
  refine st_o 0 1 (off4_cw c 1) ?_
  refine st_so 0 1 _ rfl (off4_cw c 1) rfl ?_
  refine st_o 1 1 (off5_ccw c 1) ?_
  refine st_so 1 1 _ rfl (off5_ccw c 1) rfl ?_
  refine st_x 0 2 (off3_cw c 2) ?_
  refine st_wq rfl ?_
  exact hk _

/-- Part 58, from the state before it to the state after it. -/
theorem run_58 {w1 w2 w3 w5 w6 w7 : Half F} (v1392 : FVec F S256x1024 .f32) (v1393 : Vec F S1024x1024 .f32)
    {kq : _ → Prog (TpuEff nD τ sig (Elt F) Λ₀ .tc) α}
    (hk : St m K c [.got, .got, .got, .got] [.done, .done] [half m c 0 0, w1, w2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨k0_pay56 v1392 v1393, k0_pay57 v1392 v1393 (grp (kB m c) 0) (grp (vB m c) 0), k0_pay58 v1392 v1393, k0_pay59 (grp (kB m c) 1), k0_pay60 (grp (vB m c) 1)⟩) Q) :
    St m K c [.got, .got, .got, .got] [.done, .done] [half m c 0 0, w1, w2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part58 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1392 v1393 >>= kq) Q := by
  rw [k0_part58_eq_skeleton]
  unfold k0_part58_skel
  simp only [semSignalWord, semWaitWord, Prog.lift, Prog.bind_op, Prog.bind_ret, Prog.pure_eq_ret, wp_deviceId]
  refine st_k 0 rfl (Nat.le_of_ble_eq_true rfl) ?_
  refine st_v 0 rfl (Nat.le_of_ble_eq_true rfl) ?_
  refine st_k 1 rfl (Nat.le_of_ble_eq_true rfl) ?_
  refine st_v 1 rfl (Nat.le_of_ble_eq_true rfl) ?_
  exact hk

/-- Part 59, from the state before it to the state after it. -/
theorem run_59 {w1 w2 w3 w5 w6 w7 : Half F} (v1395 : FVec F S4x64x8x128 .f32) (v1422 : FVec F S8x64x128 .f32) (v1425 : FVec F S8x512x128 .f32) (v1427 : FVec F S8x8x64x128 .f32)
    {kq : _ → Prog (TpuEff nD τ sig (Elt F) Λ₀ .tc) α}
    (hk : St m K c [.got, .got, .got, .got] [.done, .done] [half m c 0 0, w1, w2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨k0_pay61 v1422 v1425 v1427, k0_pay62 v1395 (grp (kB m c) 2) (grp (vB m c) 2)⟩) Q) :
    St m K c [.got, .got, .got, .got] [.done, .done] [half m c 0 0, w1, w2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part59 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1395 v1422 v1425 v1427 >>= kq) Q := by
  rw [k0_part59_eq_skeleton]
  unfold k0_part59_skel
  simp only [semSignalWord, semWaitWord, Prog.lift, Prog.bind_op, Prog.bind_ret, Prog.pure_eq_ret, wp_deviceId]
  refine st_k 2 rfl (Nat.le_of_ble_eq_true rfl) ?_
  refine st_v 2 rfl (Nat.le_of_ble_eq_true rfl) ?_
  exact hk

/-- Part 60, from the state before it to the state after it. -/
theorem run_60 {w1 w2 w3 w5 w6 w7 : Half F} (v2 : BitVec 32) (v1389 : BitVec 32) (v1395 : FVec F S4x64x8x128 .f32) (v1419 : FVec F S64x1024 .f32) (v1443 : FVec F S64x1024 .f32) (v1467 : FVec F S64x1024 .f32) (hw1 : (k0_pay63 v1395 v1419 v1443 v1467 (grp (kB m c) 3) (grp (vB m c) 3) (woB m c)) = half m c 0 2)
    {kq : _ → Prog (TpuEff nD τ sig (Elt F) Λ₀ .tc) α}
    (hk : ∀ (v1502 : BitVec 32), St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq v1502) Q) :
    St m K c [.got, .got, .got, .got] [.done, .done] [half m c 0 0, w1, w2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part60 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1389 v1395 v1419 v1443 v1467 >>= kq) Q := by
  rw [k0_part60_eq_skeleton]
  unfold k0_part60_skel
  simp only [semSignalWord, semWaitWord, Prog.lift, Prog.bind_op, Prog.bind_ret, Prog.pure_eq_ret, wp_deviceId]
  refine st_k 3 rfl (Nat.le_of_ble_eq_true rfl) ?_
  refine st_v 3 rfl (Nat.le_of_ble_eq_true rfl) ?_
  refine st_wo rfl ?_
  refine st_o 0 2 (off3_cw c 2) ?_
  refine st_so 0 2 (half m c 0 2) rfl (off3_cw c 2) hw1 ?_
  exact hk _

/-- Part 61, from the state before it to the state after it. -/
theorem run_61 {w1 w3 w5 w6 w7 : Half F} (v1502 : BitVec 32)
    {kq : _ → Prog (TpuEff nD τ sig (Elt F) Λ₀ .tc) α}
    (hk : St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨k0_pay64 (xR m c 1 2) (wqB m c), k0_pay65 (xR m c 1 2) (wqB m c) (grp (kB m c) 0) (grp (vB m c) 0), k0_pay66 (xR m c 1 2) (wqB m c), k0_pay67 (grp (kB m c) 1)⟩) Q) :
    St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part61 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v1502 >>= kq) Q := by
  rw [k0_part61_eq_skeleton]
  unfold k0_part61_skel
  simp only [semSignalWord, semWaitWord, Prog.lift, Prog.bind_op, Prog.bind_ret, Prog.pure_eq_ret, wp_deviceId]
  refine st_x 1 2 (off5_ccw c 2) ?_
  refine st_wq rfl ?_
  refine st_k 0 rfl (Nat.le_of_ble_eq_true rfl) ?_
  refine st_v 0 rfl (Nat.le_of_ble_eq_true rfl) ?_
  refine st_k 1 rfl (Nat.le_of_ble_eq_true rfl) ?_
  exact hk

/-- Part 62, from the state before it to the state after it. -/
theorem run_62 {w1 w3 w5 w6 w7 : Half F} (v1508 : FVec F S4x64x8x128 .f32) (v1535 : FVec F S8x64x128 .f32) (v1537 : FVec F S8x8x64x128 .f32)
    {kq : _ → Prog (TpuEff nD τ sig (Elt F) Λ₀ .tc) α}
    (hk : St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨k0_pay68 v1535 v1537 (grp (vB m c) 1), k0_pay69 (grp (vB m c) 2), k0_pay70 v1508 (grp (kB m c) 2)⟩) Q) :
    St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part62 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1508 v1535 v1537 >>= kq) Q := by
  rw [k0_part62_eq_skeleton]
  unfold k0_part62_skel
  simp only [semSignalWord, semWaitWord, Prog.lift, Prog.bind_op, Prog.bind_ret, Prog.pure_eq_ret, wp_deviceId]
  refine st_v 1 rfl (Nat.le_of_ble_eq_true rfl) ?_
  refine st_k 2 rfl (Nat.le_of_ble_eq_true rfl) ?_
  refine st_v 2 rfl (Nat.le_of_ble_eq_true rfl) ?_
  exact hk

/-- Part 63, from the state before it to the state after it. -/
theorem run_63 {w1 w3 w5 w6 w7 : Half F} (v1502 : BitVec 32) (v1508 : FVec F S4x64x8x128 .f32) (v1532 : FVec F S64x1024 .f32) (v1556 : FVec F S64x1024 .f32) (v1565 : FVec F S8x512x128 .f32) (v1573 : FVec F S8x64x512 .f32) (hw1 : (k0_pay71 v1508 v1532 v1556 v1565 v1573 (grp (kB m c) 3) (grp (vB m c) 3) (woB m c)) = half m c 1 2)
    {kq : _ → Prog (TpuEff nD τ sig (Elt F) Λ₀ .tc) α}
    (hk : St m K c [.got, .got, .got, .got] [.done, .done] [half m c 0 0, w1, half m c 0 2, w3, half m c 1 0, w5, half m c 1 2, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (kq ⟨⟩) Q) :
    St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part63 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v1502 v1508 v1532 v1556 v1565 v1573 >>= kq) Q := by
  rw [k0_part63_eq_skeleton]
  unfold k0_part63_skel
  simp only [semSignalWord, semWaitWord, Prog.lift, Prog.bind_op, Prog.bind_ret, Prog.pure_eq_ret, wp_deviceId]
  refine st_k 3 rfl (Nat.le_of_ble_eq_true rfl) ?_
  refine st_v 3 rfl (Nat.le_of_ble_eq_true rfl) ?_
  refine st_wo rfl ?_
  refine st_o 1 2 (off5_ccw c 2) ?_
  refine st_so 1 2 (half m c 1 2) rfl (off5_ccw c 2) hw1 ?_
  exact hk

end Cert.Run
-- ==== Proof.Runs4.lean ====
/-
# The parts of the kernel, 64 to 82: the fourth step, the last two waits of the reduce-scatter, and the all-gather

`run_N`: from the state before part `N`, the part and what follows it run, given what follows runs from the state after it.
The values that arrive from earlier parts are variables; where a part stores a named value, the equation `hw` says so.
-/
module

public import proofs.«01_k».proof.Proof.Runs0

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-- Part 64, from the state before it to the state after it. -/
theorem run_64 {w1 w3 w5 w7 : Half F} (v5 : BitVec 32) (v7 : BitVec 32)
    {kq : _ → Prog (TpuEff nD τ sig (Elt F) Λ₀ .tc) α}
    (hk : St m K c [.got, .got, .got, .got] [.done, .done] [half m c 0 0, w1, half m c 0 2, w3, half m c 1 0, w5, half m c 1 2, w7] 0 [2, 5, 6, 9, 7, 10, 8, 11] [3, 3, 0, 3, 2, 0, 0, 0, 0, 0, 0, 0] [.full (carry m 1 c), .full (carry m 4 c), .any, .any] [.full (carry m 0 (fromD 0 c)), .full (carry m 1 (fromD 0 c)), .gone, .full (carry m 3 (fromD 1 c)), .gone, .gone] [false, false, true, false, false, true] ⊢ WP c (kq ⟨⟩) Q) :
    St m K c [.got, .got, .got, .got] [.done, .done] [half m c 0 0, w1, half m c 0 2, w3, half m c 1 0, w5, half m c 1 2, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part64 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v5 v7 >>= kq) Q := by
  rw [k0_part64_eq_skeleton]
  unfold k0_part64_skel
  simp only [semSignalWord, semWaitWord, Prog.lift, Prog.bind_op, Prog.bind_ret, Prog.pure_eq_ret, wp_deviceId]
  refine st_sws 1 0 rfl rfl (Nat.le_of_ble_eq_true rfl) rfl rfl (Nat.le_of_ble_eq_true rfl) (by rfl) ?_
  refine st_rw 1 1 rfl (carry m 1 (fromD 0 c)) rfl (Nat.le_of_ble_eq_true rfl) rfl (by decide) rfl rfl (Nat.le_of_ble_eq_true rfl) (by rfl) ?_
  refine st_sws 4 1 rfl rfl (Nat.le_of_ble_eq_true rfl) rfl rfl (Nat.le_of_ble_eq_true rfl) (by rfl) ?_
  exact hk

/-- Part 65, from the state before it to the state after it. -/
theorem run_65 {w1 w3 w5 w7 : Half F} (v2 : BitVec 32) (hw1 : (k0_pay74 (half m c 0 2) (carry m 1 (fromD 0 c))) = carry m 2 c)
    {kq : _ → Prog (TpuEff nD τ sig (Elt F) Λ₀ .tc) α}
    (hk : St m K c [.got, .got, .got, .got] [.done, .done] [half m c 0 0, w1, half m c 0 2, w3, half m c 1 0, w5, half m c 1 2, w7] 0 [2, 5, 6, 9, 7, 10, 8, 11] [3, 3, 0, 3, 3, 0, 0, 0, 0, 0, 0, 0] [.full (carry m 2 c), .full (carry m 4 c), .any, .any] [.full (carry m 0 (fromD 0 c)), .full (carry m 1 (fromD 0 c)), .gone, .full (carry m 3 (fromD 1 c)), .full (carry m 4 (fromD 1 c)), .gone] [false, false, true, false, false, true] ⊢ WP c (kq ⟨k0_pay72 (half m c 0 2) (carry m 1 (fromD 0 c)), k0_pay73 (half m c 1 2) (carry m 4 (fromD 1 c)), k0_pay75 (half m c 1 2) (carry m 4 (fromD 1 c))⟩) Q) :
    St m K c [.got, .got, .got, .got] [.done, .done] [half m c 0 0, w1, half m c 0 2, w3, half m c 1 0, w5, half m c 1 2, w7] 0 [2, 5, 6, 9, 7, 10, 8, 11] [3, 3, 0, 3, 2, 0, 0, 0, 0, 0, 0, 0] [.full (carry m 1 c), .full (carry m 4 c), .any, .any] [.full (carry m 0 (fromD 0 c)), .full (carry m 1 (fromD 0 c)), .gone, .full (carry m 3 (fromD 1 c)), .gone, .gone] [false, false, true, false, false, true] ⊢ WP c (k0_part65 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 >>= kq) Q := by
  rw [k0_part65_eq_skeleton]
  unfold k0_part65_skel
  simp only [semSignalWord, semWaitWord, Prog.lift, Prog.bind_op, Prog.bind_ret, Prog.pure_eq_ret, wp_deviceId]
  refine st_rw 4 4 rfl (carry m 4 (fromD 1 c)) rfl (Nat.le_of_ble_eq_true rfl) rfl (by decide) rfl rfl (Nat.le_of_ble_eq_true rfl) (by rfl) ?_
  refine st_o 0 2 (off4_cw c 2) ?_
  refine st_comm 1 (carry m 1 (fromD 0 c)) rfl (Nat.le_of_ble_eq_true rfl) ?_
  refine st_o 1 2 (off5_ccw c 2) ?_
  refine st_comm 4 (carry m 4 (fromD 1 c)) rfl (Nat.le_of_ble_eq_true rfl) ?_
  refine st_stg 0 (Nat.le_of_ble_eq_true rfl) (.inr ⟨_, rfl⟩) (fun uv1663 => ?_)
  refine st_ss 0 (Nat.le_of_ble_eq_true rfl) (.inr ⟨_, rfl⟩) (carry m 2 c) hw1 ?_
  exact hk

/-- Part 66, from the state before it to the state after it. -/
theorem run_66 {w1 w3 w5 w7 : Half F} (v2 : BitVec 32) (v5 : BitVec 32) (v7 : BitVec 32) (v1666 : FVec F S256x1024 .bf16) (hw1 : (k0_pay76 v1666) = carry m 5 c)
    {kq : _ → Prog (TpuEff nD τ sig (Elt F) Λ₀ .tc) α}
    (hk : St m K c [.got, .got, .got, .got] [.done, .done] [half m c 0 0, w1, half m c 0 2, w3, half m c 1 0, w5, half m c 1 2, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq (half m c 0 2)) Q) :
    St m K c [.got, .got, .got, .got] [.done, .done] [half m c 0 0, w1, half m c 0 2, w3, half m c 1 0, w5, half m c 1 2, w7] 0 [2, 5, 6, 9, 7, 10, 8, 11] [3, 3, 0, 3, 3, 0, 0, 0, 0, 0, 0, 0] [.full (carry m 2 c), .full (carry m 4 c), .any, .any] [.full (carry m 0 (fromD 0 c)), .full (carry m 1 (fromD 0 c)), .gone, .full (carry m 3 (fromD 1 c)), .full (carry m 4 (fromD 1 c)), .gone] [false, false, true, false, false, true] ⊢ WP c (k0_part66 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 v7 v1666 >>= kq) Q := by
  rw [k0_part66_eq_skeleton]
  unfold k0_part66_skel
  simp only [semSignalWord, semWaitWord, Prog.lift, Prog.bind_op, Prog.bind_ret, Prog.pure_eq_ret, wp_deviceId]
  refine st_stg 1 (Nat.le_of_ble_eq_true rfl) (.inr ⟨_, rfl⟩) (fun uv1667 => ?_)
  refine st_ss 1 (Nat.le_of_ble_eq_true rfl) (.inr ⟨_, rfl⟩) (carry m 5 c) hw1 ?_
  refine st_snds 2 0 rfl 2 rfl (dev7 c) rfl rfl rfl (Nat.le_of_ble_eq_true rfl) rfl (Nat.le_of_ble_eq_true rfl) (giveOK_some 3 rfl (Nat.le_of_ble_eq_true rfl) _ rfl) rfl (Nat.le_of_ble_eq_true rfl) ?_
  refine st_snds 5 1 rfl 5 rfl (dev8 c) rfl rfl rfl (Nat.le_of_ble_eq_true rfl) rfl (Nat.le_of_ble_eq_true rfl) (giveOK_some 0 rfl (Nat.le_of_ble_eq_true rfl) _ rfl) rfl (Nat.le_of_ble_eq_true rfl) ?_
  refine st_o 0 2 (off4_cw c 2) ?_
  exact hk

/-- Part 67, from the state before it to the state after it. -/
theorem run_67 {w1 w3 w5 w7 : Half F} (v2 : BitVec 32) (v1650 : FVec F S256x1024 .f32) (v1661 : FVec F S256x1024 .f32) (v1695 : Vec F S1x256x1024 .f32)
    {kq : _ → Prog (TpuEff nD τ sig (Elt F) Λ₀ .tc) α}
    (hk : ∀ (v1710 : BitVec 32), St m K c [.got, .got, .got, .got] [.done, .done] [half m c 0 0, w1, (k0_pay77 v1650), w3, half m c 1 0, w5, (k0_pay78 v1661), w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨v1710, k0_pay79 (xR m c 0 3) (wqB m c), k0_pay80 (grp (vB m c) 0), k0_pay81 (xR m c 0 3) (wqB m c) (grp (kB m c) 0)⟩) Q) :
    St m K c [.got, .got, .got, .got] [.done, .done] [half m c 0 0, w1, half m c 0 2, w3, half m c 1 0, w5, half m c 1 2, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part67 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1650 v1661 v1695 >>= kq) Q := by
  rw [k0_part67_eq_skeleton]
  unfold k0_part67_skel
  simp only [semSignalWord, semWaitWord, Prog.lift, Prog.bind_op, Prog.bind_ret, Prog.pure_eq_ret, wp_deviceId]
  refine st_so 0 2 _ rfl (off4_cw c 2) rfl ?_
  refine st_o 1 2 (off5_ccw c 2) ?_
  refine st_so 1 2 _ rfl (off5_ccw c 2) rfl ?_
  refine st_x 0 3 (off3_cw c 3) ?_
  refine st_wq rfl ?_
  refine st_k 0 rfl (Nat.le_of_ble_eq_true rfl) ?_
  refine st_v 0 rfl (Nat.le_of_ble_eq_true rfl) ?_
  exact hk _

/-- Part 68, from the state before it to the state after it. -/
theorem run_68 {w1 w2 w3 w5 w6 w7 : Half F} (v1716 : FVec F S4x64x8x128 .f32) (v1725 : FVec F S8x512x128 .f32) (v1726 : FVec F S8x64x512 .f32)
    {kq : _ → Prog (TpuEff nD τ sig (Elt F) Λ₀ .tc) α}
    (hk : St m K c [.got, .got, .got, .got] [.done, .done] [half m c 0 0, w1, w2, w3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨k0_pay82 v1725 v1726, k0_pay83 v1716 (grp (kB m c) 1) (grp (vB m c) 1), k0_pay84 v1716⟩) Q) :
    St m K c [.got, .got, .got, .got] [.done, .done] [half m c 0 0, w1, w2, w3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part68 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1716 v1725 v1726 >>= kq) Q := by
  rw [k0_part68_eq_skeleton]
  unfold k0_part68_skel
  simp only [semSignalWord, semWaitWord, Prog.lift, Prog.bind_op, Prog.bind_ret, Prog.pure_eq_ret, wp_deviceId]
  refine st_k 1 rfl (Nat.le_of_ble_eq_true rfl) ?_
  refine st_v 1 rfl (Nat.le_of_ble_eq_true rfl) ?_
  exact hk

/-- Part 69, from the state before it to the state after it. -/
theorem run_69 {w1 w2 w3 w5 w6 w7 : Half F} (v1716 : FVec F S4x64x8x128 .f32) (v1767 : FVec F S8x64x128 .f32)
    {kq : _ → Prog (TpuEff nD τ sig (Elt F) Λ₀ .tc) α}
    (hk : St m K c [.got, .got, .got, .got] [.done, .done] [half m c 0 0, w1, w2, w3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨k0_pay85 v1767 (grp (kB m c) 2) (grp (vB m c) 2), k0_pay86 (grp (vB m c) 3), k0_pay87 v1716 (grp (kB m c) 3)⟩) Q) :
    St m K c [.got, .got, .got, .got] [.done, .done] [half m c 0 0, w1, w2, w3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part69 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1716 v1767 >>= kq) Q := by
  rw [k0_part69_eq_skeleton]
  unfold k0_part69_skel
  simp only [semSignalWord, semWaitWord, Prog.lift, Prog.bind_op, Prog.bind_ret, Prog.pure_eq_ret, wp_deviceId]
  refine st_k 2 rfl (Nat.le_of_ble_eq_true rfl) ?_
  refine st_v 2 rfl (Nat.le_of_ble_eq_true rfl) ?_
  refine st_k 3 rfl (Nat.le_of_ble_eq_true rfl) ?_
  refine st_v 3 rfl (Nat.le_of_ble_eq_true rfl) ?_
  exact hk

/-- Part 70, from the state before it to the state after it. -/
theorem run_70 {w1 w2 w3 w5 w6 w7 : Half F} (v2 : BitVec 32) (v1710 : BitVec 32) (v1740 : FVec F S64x1024 .f32) (v1764 : FVec F S64x1024 .f32) (v1788 : FVec F S64x1024 .f32) (v1797 : FVec F S8x512x128 .f32) (v1800 : FVec F S8x64x512 .f32) (hw1 : (k0_pay88 v1740 v1764 v1788 v1797 v1800 (woB m c)) = half m c 0 3)
    {kq : _ → Prog (TpuEff nD τ sig (Elt F) Λ₀ .tc) α}
    (hk : ∀ (v1823 : BitVec 32), St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨v1823, k0_pay89 (xR m c 1 3) (wqB m c), k0_pay90 (xR m c 1 3) (wqB m c), k0_pay91 (grp (kB m c) 0)⟩) Q) :
    St m K c [.got, .got, .got, .got] [.done, .done] [half m c 0 0, w1, w2, w3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part70 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1710 v1740 v1764 v1788 v1797 v1800 >>= kq) Q := by
  rw [k0_part70_eq_skeleton]
  unfold k0_part70_skel
  simp only [semSignalWord, semWaitWord, Prog.lift, Prog.bind_op, Prog.bind_ret, Prog.pure_eq_ret, wp_deviceId]
  refine st_wo rfl ?_
  refine st_o 0 3 (off3_cw c 3) ?_
  refine st_so 0 3 (half m c 0 3) rfl (off3_cw c 3) hw1 ?_
  refine st_x 1 3 (off5_ccw c 3) ?_
  refine st_wq rfl ?_
  refine st_k 0 rfl (Nat.le_of_ble_eq_true rfl) ?_
  exact hk _

/-- Part 71, from the state before it to the state after it. -/
theorem run_71 {w1 w2 w5 w6 w7 : Half F} (v1829 : FVec F S4x64x8x128 .f32) (v1832 : FVec F S8x64x128 .f32) (v1835 : FVec F S8x512x128 .f32)
    {kq : _ → Prog (TpuEff nD τ sig (Elt F) Λ₀ .tc) α}
    (hk : St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨k0_pay92 v1832 v1835 (grp (vB m c) 0), k0_pay93 (grp (vB m c) 1), k0_pay94 v1829 (grp (kB m c) 1), k0_pay95 v1829 (grp (kB m c) 1)⟩) Q) :
    St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part71 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1829 v1832 v1835 >>= kq) Q := by
  rw [k0_part71_eq_skeleton]
  unfold k0_part71_skel
  simp only [semSignalWord, semWaitWord, Prog.lift, Prog.bind_op, Prog.bind_ret, Prog.pure_eq_ret, wp_deviceId]
  refine st_v 0 rfl (Nat.le_of_ble_eq_true rfl) ?_
  refine st_k 1 rfl (Nat.le_of_ble_eq_true rfl) ?_
  refine st_v 1 rfl (Nat.le_of_ble_eq_true rfl) ?_
  exact hk

/-- Part 72, from the state before it to the state after it. -/
theorem run_72 {w1 w2 w5 w6 w7 : Half F} (v1829 : FVec F S4x64x8x128 .f32) (v1862 : FVec F S8x512x128 .f32) (v1870 : FVec F S8x64x512 .f32) (v1873 : FVec F S8x64x512 .f32)
    {kq : _ → Prog (TpuEff nD τ sig (Elt F) Λ₀ .tc) α}
    (hk : St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (kq ⟨k0_pay96 v1862 v1870 v1873, k0_pay97 v1829 (grp (kB m c) 2) (grp (vB m c) 2), k0_pay98 v1829, k0_pay99 (grp (kB m c) 3)⟩) Q) :
    St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part72 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v1829 v1862 v1870 v1873 >>= kq) Q := by
  rw [k0_part72_eq_skeleton]
  unfold k0_part72_skel
  simp only [semSignalWord, semWaitWord, Prog.lift, Prog.bind_op, Prog.bind_ret, Prog.pure_eq_ret, wp_deviceId]
  refine st_k 2 rfl (Nat.le_of_ble_eq_true rfl) ?_
  refine st_v 2 rfl (Nat.le_of_ble_eq_true rfl) ?_
  refine st_k 3 rfl (Nat.le_of_ble_eq_true rfl) ?_
  exact hk

/-- Part 73, from the state before it to the state after it. -/
theorem run_73 {w1 w2 w5 w6 w7 : Half F} (v7 : BitVec 32) (v1823 : BitVec 32) (v1853 : FVec F S64x1024 .f32) (v1877 : FVec F S64x1024 .f32) (v1901 : FVec F S64x1024 .f32) (v1904 : FVec F S8x64x128 .f32) (v1907 : FVec F S8x512x128 .f32) (hw1 : (k0_pay100 v1853 v1877 v1901 v1904 v1907 (grp (vB m c) 3) (woB m c)) = half m c 1 3)
    {kq : _ → Prog (TpuEff nD τ sig (Elt F) Λ₀ .tc) α}
    (hk : St m K c [.got, .got, .got, .got] [.done, .done] [half m c 0 0, w1, w2, half m c 0 3, half m c 1 0, w5, w6, half m c 1 3] 0 [6, 9, 7, 10, 8, 11] [3, 3, 2, 3, 3, 1, 0, 0, 0, 0, 0, 0] [.full (carry m 2 c), .gone, .any, .any] [.gone, .full (carry m 1 (fromD 0 c)), .gone, .gone, .full (carry m 4 (fromD 1 c)), .gone] [false, false, false, false, false, false] ⊢ WP c (kq ⟨⟩) Q) :
    St m K c [.got, .got, .got, .got] [.done, .done] [half m c 0 0, w1, w2, half m c 0 3, half m c 1 0, w5, w6, w7] 0 [6, 9, 7, 10, 8, 11] [3, 3, 1, 3, 3, 1, 0, 0, 0, 0, 0, 0] [.gone, .gone, .any, .any] [.gone, .full (carry m 1 (fromD 0 c)), .gone, .gone, .full (carry m 4 (fromD 1 c)), .gone] [false, false, false, false, false, false] ⊢ WP c (k0_part73 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v7 v1823 v1853 v1877 v1901 v1904 v1907 >>= kq) Q := by
  rw [k0_part73_eq_skeleton]
  unfold k0_part73_skel
  simp only [semSignalWord, semWaitWord, Prog.lift, Prog.bind_op, Prog.bind_ret, Prog.pure_eq_ret, wp_deviceId]
  refine st_v 3 rfl (Nat.le_of_ble_eq_true rfl) ?_
  refine st_wo rfl ?_
  refine st_o 1 3 (off5_ccw c 3) ?_
  refine st_so 1 3 (half m c 1 3) rfl (off5_ccw c 3) hw1 ?_
  refine st_sws 2 0 rfl rfl (Nat.le_of_ble_eq_true rfl) rfl rfl (Nat.le_of_ble_eq_true rfl) (by rfl) ?_
  exact hk

/-- Part 74, from the state before it to the state after it. -/
theorem run_74 {w1 w2 w5 w6 : Half F} (v2 : BitVec 32) (v5 : BitVec 32)
    {kq : _ → Prog (TpuEff nD τ sig (Elt F) Λ₀ .tc) α}
    (hk : St m K c [.got, .got, .got, .got] [.done, .done] [half m c 0 0, w1, w2, half m c 0 3, half m c 1 0, w5, w6, half m c 1 3] 0 [6, 9, 7, 10, 8, 11] [3, 3, 3, 3, 3, 3, 0, 0, 0, 0, 0, 0] [.full (carry m 2 c), .full (carry m 5 c), .any, .any] [.gone, .full (carry m 1 (fromD 0 c)), .full (carry m 2 (fromD 0 c)), .gone, .full (carry m 4 (fromD 1 c)), .full (carry m 5 (fromD 1 c))] [true, false, false, true, false, false] ⊢ WP c (kq (k0_pay101 (half m c 0 3))) Q) :
    St m K c [.got, .got, .got, .got] [.done, .done] [half m c 0 0, w1, w2, half m c 0 3, half m c 1 0, w5, w6, half m c 1 3] 0 [6, 9, 7, 10, 8, 11] [3, 3, 2, 3, 3, 1, 0, 0, 0, 0, 0, 0] [.full (carry m 2 c), .gone, .any, .any] [.gone, .full (carry m 1 (fromD 0 c)), .gone, .gone, .full (carry m 4 (fromD 1 c)), .gone] [false, false, false, false, false, false] ⊢ WP c (k0_part74 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 >>= kq) Q := by
  rw [k0_part74_eq_skeleton]
  unfold k0_part74_skel
  simp only [semSignalWord, semWaitWord, Prog.lift, Prog.bind_op, Prog.bind_ret, Prog.pure_eq_ret, wp_deviceId]
  refine st_rw 2 2 rfl (carry m 2 (fromD 0 c)) rfl (Nat.le_of_ble_eq_true rfl) rfl (by decide) rfl rfl (Nat.le_of_ble_eq_true rfl) (by rfl) ?_
  refine st_sws 5 1 rfl rfl (Nat.le_of_ble_eq_true rfl) rfl rfl (Nat.le_of_ble_eq_true rfl) (by rfl) ?_
  refine st_rw 5 5 rfl (carry m 5 (fromD 1 c)) rfl (Nat.le_of_ble_eq_true rfl) rfl (by decide) rfl rfl (Nat.le_of_ble_eq_true rfl) (by rfl) ?_
  refine st_o 0 3 (off4_cw c 3) ?_
  exact hk

/-- Part 75, from the state before it to the state after it. -/
theorem run_75 {w1 w2 w5 w6 : Half F} (v2 : BitVec 32) (v1967 : FVec F S256x1024 .f32) (hw1 : (k0_pay104 v1967 (carry m 2 (fromD 0 c))) = carry m 6 c) (hw2 : (k0_pay105 (half m c 1 3) (carry m 5 (fromD 1 c))) = carry m 9 c) (hw3 : (k0_pay106 v1967 (carry m 2 (fromD 0 c))) = outV m c 0 3)
    {kq : _ → Prog (TpuEff nD τ sig (Elt F) Λ₀ .tc) α}
    (hk : ∀ (v1999 : BitVec 32), St m K c [.got, .got, .got, .got] [.done, .done] [half m c 0 0, w1, w2, outV m c 0 3, half m c 1 0, w5, w6, half m c 1 3] 0 [6, 9, 7, 10, 8, 11] [3, 3, 3, 3, 3, 3, 0, 0, 0, 0, 0, 0] [.full (carry m 2 c), .full (carry m 5 c), .full (carry m 6 c), .full (carry m 9 c)] [.gone, .full (carry m 1 (fromD 0 c)), .full (carry m 2 (fromD 0 c)), .gone, .full (carry m 4 (fromD 1 c)), .full (carry m 5 (fromD 1 c))] [true, false, false, true, false, false] ⊢ WP c (kq ⟨k0_pay103 (half m c 1 3) (carry m 5 (fromD 1 c)), v1999, 4#32⟩) Q) :
    St m K c [.got, .got, .got, .got] [.done, .done] [half m c 0 0, w1, w2, half m c 0 3, half m c 1 0, w5, w6, half m c 1 3] 0 [6, 9, 7, 10, 8, 11] [3, 3, 3, 3, 3, 3, 0, 0, 0, 0, 0, 0] [.full (carry m 2 c), .full (carry m 5 c), .any, .any] [.gone, .full (carry m 1 (fromD 0 c)), .full (carry m 2 (fromD 0 c)), .gone, .full (carry m 4 (fromD 1 c)), .full (carry m 5 (fromD 1 c))] [true, false, false, true, false, false] ⊢ WP c (k0_part75 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v1967 >>= kq) Q := by
  rw [k0_part75_eq_skeleton]
  unfold k0_part75_skel
  simp only [semSignalWord, semWaitWord, Prog.lift, Prog.bind_op, Prog.bind_ret, Prog.pure_eq_ret, wp_deviceId]
  refine st_comm 2 (carry m 2 (fromD 0 c)) rfl (Nat.le_of_ble_eq_true rfl) ?_
  refine st_o 1 3 (off5_ccw c 3) ?_
  refine st_comm 5 (carry m 5 (fromD 1 c)) rfl (Nat.le_of_ble_eq_true rfl) ?_
  refine st_stg 2 (Nat.le_of_ble_eq_true rfl) (.inl rfl) (fun uv1984 => ?_)
  refine st_ss 2 (Nat.le_of_ble_eq_true rfl) (.inl rfl) (carry m 6 c) hw1 ?_
  refine st_stg 3 (Nat.le_of_ble_eq_true rfl) (.inl rfl) (fun uv1988 => ?_)
  refine st_ss 3 (Nat.le_of_ble_eq_true rfl) (.inl rfl) (carry m 9 c) hw2 ?_
  refine st_o 0 3 (off4_cw c 3) ?_
  refine st_so 0 3 (outV m c 0 3) rfl (off4_cw c 3) hw3 ?_
  exact hk _

/-- Part 76, from the state before it to the state after it. -/
theorem run_76 {w1 w2 w5 w6 : Half F} (v5 : BitVec 32) (v7 : BitVec 32) (v1982 : FVec F S256x1024 .f32) (v1999 : BitVec 32) (c4_i32_2304 : BitVec 32) (hw1 : (k0_pay107 v1982) = outV m c 1 3)
    {kq : _ → Prog (TpuEff nD τ sig (Elt F) Λ₀ .tc) α}
    (hk : St m K c [.got, .got, .got, .got] [.done, .done] [half m c 0 0, w1, w2, outV m c 0 3, half m c 1 0, w5, w6, outV m c 1 3] 0 [7, 10, 8, 11] [3, 3, 3, 3, 3, 3, 1, 0, 0, 1, 0, 0] [.full (carry m 2 c), .full (carry m 5 c), .gone, .gone] [.gone, .gone, .full (carry m 2 (fromD 0 c)), .gone, .gone, .full (carry m 5 (fromD 1 c))] [false, false, false, false, false, false] ⊢ WP c (kq ⟨⟩) Q) :
    St m K c [.got, .got, .got, .got] [.done, .done] [half m c 0 0, w1, w2, outV m c 0 3, half m c 1 0, w5, w6, half m c 1 3] 0 [6, 9, 7, 10, 8, 11] [3, 3, 3, 3, 3, 3, 0, 0, 0, 0, 0, 0] [.full (carry m 2 c), .full (carry m 5 c), .full (carry m 6 c), .full (carry m 9 c)] [.gone, .full (carry m 1 (fromD 0 c)), .full (carry m 2 (fromD 0 c)), .gone, .full (carry m 4 (fromD 1 c)), .full (carry m 5 (fromD 1 c))] [true, false, false, true, false, false] ⊢ WP c (k0_part76 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v5 v7 v1982 v1999 c4_i32_2304 >>= kq) Q := by
  rw [k0_part76_eq_skeleton]
  unfold k0_part76_skel
  simp only [semSignalWord, semWaitWord, Prog.lift, Prog.bind_op, Prog.bind_ret, Prog.pure_eq_ret, wp_deviceId]
  refine st_o 1 3 (off5_ccw c 3) ?_
  refine st_so 1 3 (outV m c 1 3) rfl (off5_ccw c 3) hw1 ?_
  refine st_snds 6 2 rfl 0 rfl (dev9 c) rfl rfl rfl (Nat.le_of_ble_eq_true rfl) rfl (Nat.le_of_ble_eq_true rfl) (giveOK_some 4 rfl (Nat.le_of_ble_eq_true rfl) _ rfl) rfl (Nat.le_of_ble_eq_true rfl) ?_
  refine st_snds 9 3 rfl 3 rfl (dev10 c) rfl rfl rfl (Nat.le_of_ble_eq_true rfl) rfl (Nat.le_of_ble_eq_true rfl) (giveOK_some 1 rfl (Nat.le_of_ble_eq_true rfl) _ rfl) rfl (Nat.le_of_ble_eq_true rfl) ?_
  exact hk

/-- Part 77, from the state before it to the state after it. -/
theorem run_77 {w1 w2 w5 w6 : Half F} (v5 : BitVec 32) (v7 : BitVec 32)
    {kq : _ → Prog (TpuEff nD τ sig (Elt F) Λ₀ .tc) α}
    (hk : St m K c [.got, .got, .got, .got] [.done, .done] [half m c 0 0, w1, w2, outV m c 0 3, half m c 1 0, w5, w6, outV m c 1 3] 0 [7, 10, 8, 11] [3, 3, 3, 3, 3, 3, 3, 0, 0, 2, 0, 0] [.full (carry m 2 c), .full (carry m 5 c), .full (carry m 6 c), .full (carry m 9 c)] [.full (carry m 7 c), .gone, .full (carry m 2 (fromD 0 c)), .gone, .gone, .full (carry m 5 (fromD 1 c))] [false, false, false, false, true, false] ⊢ WP c (kq ⟨⟩) Q) :
    St m K c [.got, .got, .got, .got] [.done, .done] [half m c 0 0, w1, w2, outV m c 0 3, half m c 1 0, w5, w6, outV m c 1 3] 0 [7, 10, 8, 11] [3, 3, 3, 3, 3, 3, 1, 0, 0, 1, 0, 0] [.full (carry m 2 c), .full (carry m 5 c), .gone, .gone] [.gone, .gone, .full (carry m 2 (fromD 0 c)), .gone, .gone, .full (carry m 5 (fromD 1 c))] [false, false, false, false, false, false] ⊢ WP c (k0_part77 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v5 v7 >>= kq) Q := by
  rw [k0_part77_eq_skeleton]
  unfold k0_part77_skel
  simp only [semSignalWord, semWaitWord, Prog.lift, Prog.bind_op, Prog.bind_ret, Prog.pure_eq_ret, wp_deviceId]
  refine st_sws 6 2 rfl rfl (Nat.le_of_ble_eq_true rfl) rfl rfl (Nat.le_of_ble_eq_true rfl) (by rfl) ?_
  refine st_rw 6 0 rfl (carry m 7 c) (carry_next m c 6 (by decide) (by decide)) (Nat.le_of_ble_eq_true rfl) rfl (by decide) rfl rfl (Nat.le_of_ble_eq_true rfl) (by rfl) ?_
  refine st_sws 9 3 rfl rfl (Nat.le_of_ble_eq_true rfl) rfl rfl (Nat.le_of_ble_eq_true rfl) (by rfl) ?_
  exact hk

/-- Part 78, from the state before it to the state after it. -/
theorem run_78 {w1 w2 w5 w6 : Half F} (v2 : BitVec 32) (v5 : BitVec 32) (v7 : BitVec 32)
    {kq : _ → Prog (TpuEff nD τ sig (Elt F) Λ₀ .tc) α}
    (hk : ∀ (v2077 : BitVec 32) (v2080 : BitVec 32), St m K c [.got, .got, .got, .got] [.done, .done] [half m c 0 0, w1, w2, outV m c 0 3, half m c 1 0, w5, w6, outV m c 1 3] 0 [8, 11] [3, 3, 3, 3, 3, 3, 3, 1, 0, 3, 1, 0] [.full (carry m 2 c), .full (carry m 5 c), .full (carry m 6 c), .full (carry m 9 c)] [.half (carry m 7 c), .gone, .gone, .half (carry m 10 c), .gone, .gone] [false, false, false, false, false, false] ⊢ WP c (kq ⟨v2077, v2080⟩) Q) :
    St m K c [.got, .got, .got, .got] [.done, .done] [half m c 0 0, w1, w2, outV m c 0 3, half m c 1 0, w5, w6, outV m c 1 3] 0 [7, 10, 8, 11] [3, 3, 3, 3, 3, 3, 3, 0, 0, 2, 0, 0] [.full (carry m 2 c), .full (carry m 5 c), .full (carry m 6 c), .full (carry m 9 c)] [.full (carry m 7 c), .gone, .full (carry m 2 (fromD 0 c)), .gone, .gone, .full (carry m 5 (fromD 1 c))] [false, false, false, false, true, false] ⊢ WP c (k0_part78 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 v7 >>= kq) Q := by
  rw [k0_part78_eq_skeleton]
  unfold k0_part78_skel
  simp only [semSignalWord, semWaitWord, Prog.lift, Prog.bind_op, Prog.bind_ret, Prog.pure_eq_ret, wp_deviceId]
  refine st_rw 9 3 rfl (carry m 10 c) (carry_next m c 9 (by decide) (by decide)) (Nat.le_of_ble_eq_true rfl) rfl (by decide) rfl rfl (Nat.le_of_ble_eq_true rfl) (by rfl) ?_
  refine st_sndc 7 0 rfl 1 rfl (dev11 c) rfl rfl rfl (Nat.le_of_ble_eq_true rfl) rfl (Nat.le_of_ble_eq_true rfl) (giveOK_some 5 rfl (Nat.le_of_ble_eq_true rfl) _ rfl) rfl (Nat.le_of_ble_eq_true rfl) ?_
  refine st_sndc 10 3 rfl 4 rfl (dev12 c) rfl rfl rfl (Nat.le_of_ble_eq_true rfl) rfl (Nat.le_of_ble_eq_true rfl) (giveOK_some 2 rfl (Nat.le_of_ble_eq_true rfl) _ rfl) rfl (Nat.le_of_ble_eq_true rfl) ?_
  exact hk _ _

/-- Part 79, from the state before it to the state after it. -/
theorem run_79 {w1 w2 w5 w6 : Half F} (v7 : BitVec 32) (v2077 : BitVec 32) (v2080 : BitVec 32) (hw1 : (k0_pay108 (carry m 7 c)) = outV m c 0 0) (hw2 : (k0_pay109 (carry m 10 c)) = outV m c 1 0)
    {kq : _ → Prog (TpuEff nD τ sig (Elt F) Λ₀ .tc) α}
    (hk : St m K c [.got, .got, .got, .got] [.done, .done] [outV m c 0 0, w1, w2, outV m c 0 3, outV m c 1 0, w5, w6, outV m c 1 3] 0 [8, 11] [3, 3, 3, 3, 3, 3, 3, 2, 0, 3, 1, 0] [.full (carry m 2 c), .full (carry m 5 c), .full (carry m 6 c), .full (carry m 9 c)] [.full (carry m 7 c), .gone, .gone, .half (carry m 10 c), .gone, .gone] [false, false, false, false, false, false] ⊢ WP c (kq ⟨⟩) Q) :
    St m K c [.got, .got, .got, .got] [.done, .done] [half m c 0 0, w1, w2, outV m c 0 3, half m c 1 0, w5, w6, outV m c 1 3] 0 [8, 11] [3, 3, 3, 3, 3, 3, 3, 1, 0, 3, 1, 0] [.full (carry m 2 c), .full (carry m 5 c), .full (carry m 6 c), .full (carry m 9 c)] [.half (carry m 7 c), .gone, .gone, .half (carry m 10 c), .gone, .gone] [false, false, false, false, false, false] ⊢ WP c (k0_part79 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v7 v2077 v2080 >>= kq) Q := by
  rw [k0_part79_eq_skeleton]
  unfold k0_part79_skel
  simp only [semSignalWord, semWaitWord, Prog.lift, Prog.bind_op, Prog.bind_ret, Prog.pure_eq_ret, wp_deviceId]
  refine st_commH 0 (carry m 7 c) rfl (Nat.le_of_ble_eq_true rfl) ?_
  refine st_o 0 0 (off4_cw c 0) ?_
  refine st_so 0 0 (outV m c 0 0) rfl (off4_cw c 0) hw1 ?_
  refine st_commH 3 (carry m 10 c) rfl (Nat.le_of_ble_eq_true rfl) ?_
  refine st_o 1 0 (off3_ccw0 c) ?_
  refine st_so 1 0 (outV m c 1 0) rfl (off3_ccw0 c) hw2 ?_
  refine st_swc 7 0 rfl rfl (Nat.le_of_ble_eq_true rfl) rfl rfl (Nat.le_of_ble_eq_true rfl) (by rfl) ?_
  exact hk

/-- Part 80, from the state before it to the state after it. -/
theorem run_80 {w1 w2 w5 w6 : Half F} (v5 : BitVec 32) (v7 : BitVec 32)
    {kq : _ → Prog (TpuEff nD τ sig (Elt F) Λ₀ .tc) α}
    (hk : St m K c [.got, .got, .got, .got] [.done, .done] [outV m c 0 0, w1, w2, outV m c 0 3, outV m c 1 0, w5, w6, outV m c 1 3] 0 [8, 11] [3, 3, 3, 3, 3, 3, 3, 3, 0, 3, 3, 0] [.full (carry m 2 c), .full (carry m 5 c), .full (carry m 6 c), .full (carry m 9 c)] [.full (carry m 7 c), .full (carry m 8 c), .gone, .full (carry m 10 c), .full (carry m 11 c), .gone] [false, false, true, false, false, true] ⊢ WP c (kq ⟨⟩) Q) :
    St m K c [.got, .got, .got, .got] [.done, .done] [outV m c 0 0, w1, w2, outV m c 0 3, outV m c 1 0, w5, w6, outV m c 1 3] 0 [8, 11] [3, 3, 3, 3, 3, 3, 3, 2, 0, 3, 1, 0] [.full (carry m 2 c), .full (carry m 5 c), .full (carry m 6 c), .full (carry m 9 c)] [.full (carry m 7 c), .gone, .gone, .half (carry m 10 c), .gone, .gone] [false, false, false, false, false, false] ⊢ WP c (k0_part80 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 v5 v7 >>= kq) Q := by
  rw [k0_part80_eq_skeleton]
  unfold k0_part80_skel
  simp only [semSignalWord, semWaitWord, Prog.lift, Prog.bind_op, Prog.bind_ret, Prog.pure_eq_ret, wp_deviceId]
  refine st_rw 7 1 rfl (carry m 8 c) (carry_next m c 7 (by decide) (by decide)) (Nat.le_of_ble_eq_true rfl) rfl (by decide) rfl rfl (Nat.le_of_ble_eq_true rfl) (by rfl) ?_
  refine st_swc 10 3 rfl rfl (Nat.le_of_ble_eq_true rfl) rfl rfl (Nat.le_of_ble_eq_true rfl) (by rfl) ?_
  refine st_rw 10 4 rfl (carry m 11 c) (carry_next m c 10 (by decide) (by decide)) (Nat.le_of_ble_eq_true rfl) rfl (by decide) rfl rfl (Nat.le_of_ble_eq_true rfl) (by rfl) ?_
  exact hk

/-- Part 81, from the state before it to the state after it. -/
theorem run_81 {w1 w2 w5 w6 : Half F} (v2 : BitVec 32) (v5 : BitVec 32) (hw1 : (k0_pay110 (carry m 8 c)) = outV m c 0 1)
    {kq : _ → Prog (TpuEff nD τ sig (Elt F) Λ₀ .tc) α}
    (hk : ∀ (v2164 : BitVec 32), St m K c [.got, .got, .got, .got] [.done, .done] [outV m c 0 0, outV m c 0 1, w2, outV m c 0 3, outV m c 1 0, w5, w6, outV m c 1 3] 0 [] [3, 3, 3, 3, 3, 3, 3, 3, 1, 3, 3, 1] [.full (carry m 2 c), .full (carry m 5 c), .full (carry m 6 c), .full (carry m 9 c)] [.full (carry m 7 c), .half (carry m 8 c), .gone, .full (carry m 10 c), .half (carry m 11 c), .gone] [false, false, false, false, false, false] ⊢ WP c (kq ⟨k0_pay111 (carry m 11 c), v2164⟩) Q) :
    St m K c [.got, .got, .got, .got] [.done, .done] [outV m c 0 0, w1, w2, outV m c 0 3, outV m c 1 0, w5, w6, outV m c 1 3] 0 [8, 11] [3, 3, 3, 3, 3, 3, 3, 3, 0, 3, 3, 0] [.full (carry m 2 c), .full (carry m 5 c), .full (carry m 6 c), .full (carry m 9 c)] [.full (carry m 7 c), .full (carry m 8 c), .gone, .full (carry m 10 c), .full (carry m 11 c), .gone] [false, false, true, false, false, true] ⊢ WP c (k0_part81 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 >>= kq) Q := by
  rw [k0_part81_eq_skeleton]
  unfold k0_part81_skel
  simp only [semSignalWord, semWaitWord, Prog.lift, Prog.bind_op, Prog.bind_ret, Prog.pure_eq_ret, wp_deviceId]
  refine st_sndc 8 1 rfl 2 rfl (dev13 c) rfl rfl rfl (Nat.le_of_ble_eq_true rfl) rfl (Nat.le_of_ble_eq_true rfl) (giveOK_none rfl) rfl (Nat.le_of_ble_eq_true rfl) ?_
  refine st_sndc 11 4 rfl 5 rfl (dev14 c) rfl rfl rfl (Nat.le_of_ble_eq_true rfl) rfl (Nat.le_of_ble_eq_true rfl) (giveOK_none rfl) rfl (Nat.le_of_ble_eq_true rfl) ?_
  refine st_commH 1 (carry m 8 c) rfl (Nat.le_of_ble_eq_true rfl) ?_
  refine st_o 0 1 (off4_cw c 1) ?_
  refine st_so 0 1 (outV m c 0 1) rfl (off4_cw c 1) hw1 ?_
  refine st_commH 4 (carry m 11 c) rfl (Nat.le_of_ble_eq_true rfl) ?_
  exact hk _

/-- Part 82, from the state before it to the state after it. -/
theorem run_82 {w2 w5 w6 : Half F} (v7 : BitVec 32) (v2162 : FVec F S256x1024 .f32) (v2164 : BitVec 32) (hw1 : (k0_pay112 v2162) = outV m c 1 1)
    {kq : _ → Prog (TpuEff nD τ sig (Elt F) Λ₀ .tc) α}
    (hk : St m K c [.got, .got, .got, .got] [.done, .done] [outV m c 0 0, outV m c 0 1, w2, outV m c 0 3, outV m c 1 0, outV m c 1 1, w6, outV m c 1 3] 0 [] [3, 3, 3, 3, 3, 3, 3, 3, 3, 3, 3, 2] [.full (carry m 2 c), .full (carry m 5 c), .full (carry m 6 c), .full (carry m 9 c)] [.full (carry m 7 c), .full (carry m 8 c), .full (carry m 8 (fromD 0 c)), .full (carry m 10 c), .full (carry m 11 c), .gone] [false, false, false, false, false, false] ⊢ WP c (kq ⟨⟩) Q) :
    St m K c [.got, .got, .got, .got] [.done, .done] [outV m c 0 0, outV m c 0 1, w2, outV m c 0 3, outV m c 1 0, w5, w6, outV m c 1 3] 0 [] [3, 3, 3, 3, 3, 3, 3, 3, 1, 3, 3, 1] [.full (carry m 2 c), .full (carry m 5 c), .full (carry m 6 c), .full (carry m 9 c)] [.full (carry m 7 c), .half (carry m 8 c), .gone, .full (carry m 10 c), .half (carry m 11 c), .gone] [false, false, false, false, false, false] ⊢ WP c (k0_part82 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v7 v2162 v2164 >>= kq) Q := by
  rw [k0_part82_eq_skeleton]
  unfold k0_part82_skel
  simp only [semSignalWord, semWaitWord, Prog.lift, Prog.bind_op, Prog.bind_ret, Prog.pure_eq_ret, wp_deviceId]
  refine st_o 1 1 (off3_ccw1 c) ?_
  refine st_so 1 1 (outV m c 1 1) rfl (off3_ccw1 c) hw1 ?_
  refine st_swc 8 1 rfl rfl (Nat.le_of_ble_eq_true rfl) rfl rfl (Nat.le_of_ble_eq_true rfl) (by rfl) ?_
  refine st_rw 8 2 rfl (carry m 8 (fromD 0 c)) rfl (Nat.le_of_ble_eq_true rfl) rfl (by decide) rfl rfl (Nat.le_of_ble_eq_true rfl) (by rfl) ?_
  refine st_swc 11 4 rfl rfl (Nat.le_of_ble_eq_true rfl) rfl rfl (Nat.le_of_ble_eq_true rfl) (by rfl) ?_
  exact hk

end Cert.Run
-- ==== Proof.Sums.lean ====
/-
# The sums the parts store

Each payload a part stores into the stage or the result is the named sum: the partial sums of the reduce-scatter, and the finished
chunks as they come round.
-/
module

public import proofs.«01_k».proof.Proof.Runs0

@[expose] public section

noncomputable section

namespace Cert.Run

open Cert.KernelIdeal Cert.KernelIdeal.Gen
open Idealize.ShloMosaic Idealize.ShloMosaic.ValueIdx Idealize.ShloMosaic.TcCoe

variable {F : FTy → Type} [FloatOps F]
variable (m : (ℓ : Loc nD τ sig) → Buf (Elt F) ℓ) (c : Dev nD)

theorem carry_rs (j : Fin 12) (h : j.val < 6) : carry m j c = msg m (dir j) c (j.val % 3) := if_pos h
theorem msg_zero (d : Fin 2) : msg m d c 0 = k0_pay13 (half m c d 0) := rfl
theorem msg_succ (d : Fin 2) (s : ℕ) :
    msg m d c (s + 1) = k0_pay51 (k0_pay49 (half m c d (Fin.ofNat 4 (s + 1))) (msg m d (fromD d c) s)) := rfl

/-- The first message of a ring: the device's own half, rounded. -/
theorem car0 : k0_pay13 (half m c 0 0) = carry m 0 c := by rw [carry_rs m c 0 (by decide)]; exact (msg_zero m c 0).symm
theorem car3 : k0_pay25 (half m c 1 0) = carry m 3 c := by rw [carry_rs m c 3 (by decide)]; exact (msg_zero m c 1).symm

/-! The next ones: what arrived, plus the device's own half, rounded. -/

theorem pay52_eq (x : Half F) (w : Msg F) : k0_pay52 x w = k0_pay51 (k0_pay49 x w) := rfl
theorem pay74_eq (x : Half F) (w : Msg F) : k0_pay74 x w = k0_pay51 (k0_pay49 x w) := rfl
theorem pay76_eq (x : Half F) (w : Msg F) : k0_pay76 (k0_pay75 x w) = k0_pay51 (k0_pay49 x w) := rfl
theorem pay104_eq (x : Half F) (w : Msg F) : k0_pay104 (k0_pay101 x) w = k0_pay51 (k0_pay49 x w) := rfl
theorem pay105_eq (x : Half F) (w : Msg F) : k0_pay105 x w = k0_pay51 (k0_pay49 x w) := rfl
theorem pay106_eq (x : Half F) (w : Msg F) : k0_pay106 (k0_pay101 x) w = k0_pay53 (k0_pay49 x w) := rfl
theorem pay107_eq (x : Half F) (w : Msg F) : k0_pay107 (k0_pay103 x w) = k0_pay53 (k0_pay49 x w) := rfl

theorem car1 : k0_pay51 (k0_pay49 (half m c 0 1) (carry m 0 (fromD 0 c))) = carry m 1 c := by
  rw [carry_rs m c 1 (by decide), carry_rs m _ 0 (by decide)]; exact (msg_succ m c 0 0).symm
theorem car4 : k0_pay52 (half m c 1 1) (carry m 3 (fromD 1 c)) = carry m 4 c := by
  rw [pay52_eq, carry_rs m c 4 (by decide), carry_rs m _ 3 (by decide)]; exact (msg_succ m c 1 0).symm
theorem car2 : k0_pay74 (half m c 0 2) (carry m 1 (fromD 0 c)) = carry m 2 c := by
  rw [pay74_eq, carry_rs m c 2 (by decide), carry_rs m _ 1 (by decide)]; exact (msg_succ m c 0 1).symm
theorem car5 : k0_pay76 (k0_pay75 (half m c 1 2) (carry m 4 (fromD 1 c))) = carry m 5 c := by
  rw [pay76_eq, carry_rs m c 5 (by decide), carry_rs m _ 4 (by decide)]; exact (msg_succ m c 1 1).symm
theorem car6 : k0_pay104 (k0_pay101 (half m c 0 3)) (carry m 2 (fromD 0 c)) = carry m 6 c := by
  rw [pay104_eq, carry_ag m c 6 (by decide), carry_rs m _ 2 (by decide)]; exact (msg_succ m c 0 2).symm
theorem car9 : k0_pay105 (half m c 1 3) (carry m 5 (fromD 1 c)) = carry m 9 c := by
  rw [pay105_eq, carry_ag m c 9 (by decide), carry_rs m _ 5 (by decide)]; exact (msg_succ m c 1 2).symm

/-! The result: the device's own finished chunk, then those that come round. -/

theorem outV_3 (d : Fin 2) : outV m c d 3 = k0_pay53 (k0_pay49 (half m c d 3) (msg m d (fromD d c) 2)) := if_pos rfl
theorem outV_ne (d : Fin 2) (k : Fin 4) (h : k ≠ 3) : outV m c d k = k0_pay108 (msg m d ((fromD d)^[k.val + 1] c) 3) := if_neg h

theorem out03 : k0_pay106 (k0_pay101 (half m c 0 3)) (carry m 2 (fromD 0 c)) = outV m c 0 3 := by
  rw [pay106_eq, outV_3, carry_rs m _ 2 (by decide)]; rfl
theorem out13 : k0_pay107 (k0_pay103 (half m c 1 3) (carry m 5 (fromD 1 c))) = outV m c 1 3 := by
  rw [pay107_eq, outV_3, carry_rs m _ 5 (by decide)]; rfl

theorem pay109_eq (w : Msg F) : k0_pay109 w = k0_pay108 w := rfl
theorem pay110_eq (w : Msg F) : k0_pay110 w = k0_pay108 w := rfl
theorem pay112_eq (w : Msg F) : k0_pay112 (k0_pay111 w) = k0_pay108 w := rfl
theorem pay1_eq (w : Msg F) : k0_pay1 (k0_pay113 w) = k0_pay108 w := rfl
theorem pay2_eq (w : Msg F) : k0_pay2 w = k0_pay108 w := rfl

theorem out00 : k0_pay108 (carry m 7 c) = outV m c 0 0 := by rw [outV_ne m c 0 0 (by decide), carry_ag m _ 7 (by decide)]; rfl
theorem out10 : k0_pay109 (carry m 10 c) = outV m c 1 0 := by rw [pay109_eq, outV_ne m c 1 0 (by decide), carry_ag m _ 10 (by decide)]; rfl
theorem out01 : k0_pay110 (carry m 8 c) = outV m c 0 1 := by rw [pay110_eq, outV_ne m c 0 1 (by decide), carry_ag m _ 8 (by decide)]; rfl
theorem out11 : k0_pay112 (k0_pay111 (carry m 11 c)) = outV m c 1 1 := by
  rw [pay112_eq, outV_ne m c 1 1 (by decide), carry_ag m _ 11 (by decide)]; rfl
theorem out02 : k0_pay1 (k0_pay113 (carry m 8 (fromD 0 c))) = outV m c 0 2 := by
  rw [pay1_eq, outV_ne m c 0 2 (by decide), carry_ag m _ 8 (by decide)]; rfl
theorem out12 : k0_pay2 (carry m 11 (fromD 1 c)) = outV m c 1 2 := by
  rw [pay2_eq, outV_ne m c 1 2 (by decide), carry_ag m _ 11 (by decide)]; rfl

section Ret
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
variable {α : Type} {c : Dev nD}

/-- A program that only returns. -/
theorem ret_wp {P : sProp (MT nD τ sig Unit (Elt F) ℕ UU ℕ)} {Q : α → sProp (MT nD τ sig Unit (Elt F) ℕ UU ℕ)} {a : α} (h : P ⊢ Q a) :
    P ⊢ WP c (.ret a) Q := by
  unfold WP
  rw [wp_ret]
  iintro H
  imodintro
  iapply h
  iexact H
end Ret

end Cert.Run
-- ==== Proof.Body.lean ====
/-
# The whole body on one device

The parts chained: from the start (nothing copied, nothing sent) to the end (every message sent and received, the result holding
`outV`), whatever the memory held before.
-/
module

public import proofs.«01_k».proof.Proof.Runs1
public import proofs.«01_k».proof.Proof.Runs2
public import proofs.«01_k».proof.Proof.Runs3
public import proofs.«01_k».proof.Proof.Runs4
public import proofs.«01_k».proof.Proof.Sums

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {α : Type} {Q : α → sProp (MT nD τ sig Unit (Elt F) ℕ UU ℕ)}
variable {q : List KV} {b : List LC} {v : List (Half F)} {nb : ℕ} {l : List (Fin 12)} {st : List ℕ} {σ κ : List (Slot F)} {ρ : List Bool}

/-- Parts 1 to 60. -/
theorem run_83 {Q : _ → sProp (MT nD τ sig Unit (Elt F) ℕ UU ℕ)} {w0 w1 w2 w3 w4 w5 w6 w7 : Half F}
    (hk : ∀ (w1 w3 w5 w6 w7 : Half F) (v2 v5 v7 v1502 : BitVec 32), St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ Q ⟨c, v2, v5, v7, v1502⟩) :
    St m K c [.run 0 0, .run 0 0, .run 0 0, .run 0 0] [.idle, .idle] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (k0_part83 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8) Q := by
  rw [k0_part83_eq_skeleton]
  unfold k0_part83_skel
  refine run_1  (fun v2 v5 v7 => ?_)
  refine run_2  ?_
  refine run_3  ?_
  refine run_4  ?_
  refine run_5  ?_
  refine run_6  ?_
  refine run_7  ?_
  refine run_8  ?_
  refine run_9  ?_
  refine run_10  ?_
  refine run_11  ?_
  refine run_12  ?_
  refine run_13  ?_
  refine run_14  ?_
  refine run_15  ?_
  refine run_16  ?_
  refine run_17  ?_
  refine run_18  ?_
  refine run_19  ?_
  refine run_20 _ _ ?_
  refine run_21 _ (fun v412 => ?_)
  refine run_22  ?_
  refine run_23  ?_
  refine run_24  ?_
  refine run_25  ?_
  refine run_26 _ ?_
  refine run_27  ?_
  refine run_28  ?_
  refine run_29  ?_
  refine run_30  ?_
  refine run_31 _ ?_
  refine run_32 _ _ _ ?_
  refine run_33  ?_
  refine run_34  ?_
  refine run_35  ?_
  refine run_36  ?_
  refine run_37 _ ?_
  refine run_38  ?_
  refine run_39  ?_
  refine run_40  ?_
  refine run_41  ?_
  refine run_42 _ ?_
  refine run_43 _ _ _ _ _ _ _ rfl (by exact car0 m c) ?_
  refine run_44 _ _ _ (fun v933 => ?_)
  refine run_45 _ _ _ ?_
  refine run_46 _ _ ?_
  refine run_47 _ _ _ _ _ _ _ _ _ (by exact half_24 (xR m c 1 0) (wqB m c) (woB m c) (grp (kB m c)) (grp (vB m c))) (by exact car3 m c) ?_
  refine run_48 _ (fun v1068 => ?_)
  refine run_49 _ _ _ _ ?_
  refine run_50 _ _ _ ?_
  refine run_51 _ _ _ _ _ _ _ _ (by exact half_37 (xR m c 0 1) (wqB m c) (woB m c) (grp (kB m c)) (grp (vB m c))) (fun v1181 => ?_)
  refine run_52 _ _ _ ?_
  refine run_53 _ _ ?_
  refine run_54 _ _ _ _ _ _ _ _ (by exact half_48 (xR m c 1 1) (wqB m c) (woB m c) (grp (kB m c)) (grp (vB m c))) ?_
  refine run_55 _ _ (fun v1332 => ?_)
  refine run_56 _ _ _ _ (by exact car1 m c) (by exact car4 m c) ?_
  refine run_57 _ _ _ (fun v1389 => ?_)
  refine run_58 _ _ ?_
  refine run_59 _ _ _ _ ?_
  refine run_60 _ _ _ _ _ _ (by exact half_63 (xR m c 0 2) (wqB m c) (woB m c) (grp (kB m c)) (grp (vB m c))) (fun v1502 => ?_)
  exact ret_wp (hk _ _ _ _ _ _ _ _ _)

/-- Parts 61 to 82 and what follows them. -/
theorem run_84 {Q : _ → sProp (MT nD τ sig Unit (Elt F) ℕ UU ℕ)} {w1 w3 w5 w6 w7 : Half F} (v2 v5 v7 v1502 : BitVec 32)
    (hk : ∀ (w2 w6 : Half F) (v2201 : BitVec 32) (u : Half F), St m K c [.got, .got, .got, .got] [.done, .done] [outV m c 0 0, outV m c 0 1, w2, outV m c 0 3, outV m c 1 0, outV m c 1 1, w6, outV m c 1 3] 0 [] [3, 3, 3, 3, 3, 3, 3, 3, 3, 3, 3, 3] [.full (carry m 2 c), .full (carry m 5 c), .full (carry m 6 c), .full (carry m 9 c)] [.full (carry m 7 c), .full (carry m 8 c), .full (carry m 8 (fromD 0 c)), .full (carry m 10 c), .full (carry m 11 c), .full (carry m 11 (fromD 1 c))] [false, false, false, false, false, false] ⊢ Q ⟨v2201, k0_pay113 (carry m 8 (fromD 0 c)), u⟩) :
    St m K c [.got, .got, .got, .got] [.done, .done] [half m c 0 0, w1, half m c 0 2, w3, half m c 1 0, w5, w6, w7] 0 [2, 5, 6, 9, 7, 10, 8, 11] [3, 1, 0, 3, 1, 0, 0, 0, 0, 0, 0, 0] [.gone, .gone, .any, .any] [.full (carry m 0 (fromD 0 c)), .gone, .gone, .full (carry m 3 (fromD 1 c)), .gone, .gone] [false, false, true, false, false, true] ⊢ WP c (k0_part84 xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8 c v2 v5 v7 v1502) Q := by
  rw [k0_part84_eq_skeleton]
  unfold k0_part84_skel
  refine run_61 _ ?_
  refine run_62 _ _ _ ?_
  refine run_63 _ _ _ _ _ _ (by exact half_71 (xR m c 1 2) (wqB m c) (woB m c) (grp (kB m c)) (grp (vB m c))) ?_
  refine run_64 _ _ ?_
  refine run_65 _ (by exact car2 m c) ?_
  refine run_66 _ _ _ _ (by exact car5 m c) ?_
  refine run_67 _ _ _ _ (fun v1710 => ?_)
  refine run_68 _ _ _ ?_
  refine run_69 _ _ ?_
  refine run_70 _ _ _ _ _ _ _ (by exact half_88 (xR m c 0 3) (wqB m c) (woB m c) (grp (kB m c)) (grp (vB m c))) (fun v1823 => ?_)
  refine run_71 _ _ _ ?_
  refine run_72 _ _ _ _ ?_
  refine run_73 _ _ _ _ _ _ _ (by exact half_100 (xR m c 1 3) (wqB m c) (woB m c) (grp (kB m c)) (grp (vB m c))) ?_
  refine run_74 _ _ ?_
  refine run_75 _ _ (by exact car6 m c) (by exact car9 m c) (by exact out03 m c) (fun v1999 => ?_)
  refine run_76 _ _ _ _ _ (by exact out13 m c) ?_
  refine run_77 _ _ ?_
  refine run_78 _ _ _ (fun v2077 v2080 => ?_)
  refine run_79 _ _ _ (by exact out00 m c) (by exact out10 m c) ?_
  refine run_80 _ _ ?_
  refine run_81 _ _ (by exact out01 m c) (fun v2164 => ?_)
  refine run_82 _ _ _ (by exact out11 m c) ?_
  simp only [Prog.lift, Prog.bind_op, Prog.bind_ret, Prog.pure_eq_ret]
  refine st_rw 11 5 rfl (carry m 11 (fromD 1 c)) rfl (Nat.le_of_ble_eq_true rfl) rfl (by decide) rfl rfl (Nat.le_of_ble_eq_true rfl) (by rfl) ?_
  refine st_comm 2 (carry m 8 (fromD 0 c)) rfl (Nat.le_of_ble_eq_true rfl) ?_
  refine st_o 0 2 (off4_cw c 2) ?_
  exact ret_wp (hk _ _ _ _)

/-- The body: from the start to the end. -/
theorem run_body {w0 w1 w2 w3 w4 w5 w6 w7 : Half F} :
    St m K c [.run 0 0, .run 0 0, .run 0 0, .run 0 0] [.idle, .idle] [w0, w1, w2, w3, w4, w5, w6, w7] 3 [0, 3, 1, 4, 2, 5, 6, 9, 7, 10, 8, 11] [0, 0, 0, 0, 0, 0, 0, 0, 0, 0, 0, 0] [.any, .any, .any, .any] [.any, .any, .any, .any, .any, .any] [false, false, false, false, false, false] ⊢ WP c (cc0_body xM (Memref.isWhole_whole _) a1M (Memref.isWhole_whole _) kA (Memref.isWhole_whole _) vA (Memref.isWhole_whole _) a4M (Memref.isWhole_whole _) oM (Memref.isWhole_whole _) wqM (Memref.isWhole_whole _) woM (Memref.isWhole_whole _) kM (Memref.isWhole_whole _) vM (Memref.isWhole_whole _) cM (Memref.isWhole_whole _) sM (Memref.isWhole_whole _) cc0_scratch6 cc0_scratch7 cc0_scratch8) (fun _ => St m K c [.got, .got, .got, .got] [.done, .done] [outV m c 0 0, outV m c 0 1, outV m c 0 2, outV m c 0 3, outV m c 1 0, outV m c 1 1, outV m c 1 2, outV m c 1 3] 0 [] [3, 3, 3, 3, 3, 3, 3, 3, 3, 3, 3, 3] [.full (carry m 2 c), .full (carry m 5 c), .full (carry m 6 c), .full (carry m 9 c)] [.full (carry m 7 c), .full (carry m 8 c), .full (carry m 8 (fromD 0 c)), .full (carry m 10 c), .full (carry m 11 c), .full (carry m 11 (fromD 1 c))] [false, false, false, false, false, false]) := by
  rw [cc0_body_eq_skeleton]
  unfold cc0_body_skel
  unfold WP
  rw [wp_bind]
  refine run_83 (fun w1 w3 w5 w6 w7 v2 v5 v7 v1502 => ?_)
  dsimp only
  rw [wp_bind]
  refine run_84 v2 v5 v7 v1502 (fun w2 w6 v2201 u => ?_)
  simp only [Prog.lift, Prog.bind_op, Prog.bind_ret, Prog.pure_eq_ret]
  refine st_so 0 2 (outV m c 0 2) rfl (off4_cw c 2) (by exact out02 m c) ?_
  refine st_comm 5 (carry m 11 (fromD 1 c)) rfl (Nat.le_of_ble_eq_true rfl) ?_
  refine st_o 1 2 (off5_ccw c 2) ?_
  refine st_so 1 2 (outV m c 1 2) rfl (off5_ccw c 2) (by exact out12 m c) ?_
  exact ret_wp (BI.Entails.refl _)

end Cert.Run
-- ==== Proof.Pieces.lean ====
/-
# The buffers cut into the pieces the body works on, and put together again

The launch hands over whole buffers. The body works on pieces: the heads and residue groups of the key and value caches, the slots of the
landing and staging buffers, and the slices of the two weight arrays that are this device's. Here the whole buffers are cut into those
pieces before the body, and joined again after it.
-/
module

public import proofs.«01_k».proof.Proof.Body

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## Cutting along a partition -/

omit [FloatOps F] in
/-- A whole buffer is its pieces along a partition. -/
theorem cut {ℓ : Loc nD τ sig} {T : Type} [Fintype T] [DecidableEq T] {q : PosShare TreeShare} (J : T → Finset (Idx ℓ)) (p : Idx ℓ → T)
    (hp : ∀ t i, i ∈ J t ↔ p i = t) (f : Buf (Elt F) ℓ) : ((ℓ ↦{q} f) : sProp 𝕄) = bigSep Finset.univ fun t => ℓ ↦[J t]{q} f := by
  have h := pointsTo_biUnion (nD := nD) (τ := τ) (sig := sig) (Ix := Unit) (Val := Elt F) (Name := ℕ) (U := UU) (Lvl := ℕ) (ℓ := ℓ) (q := q) (f := f) Finset.univ J
    (fun t _ t' _ hne => Finset.disjoint_left.mpr fun i h1 h2 => hne (((hp t i).mp h1).symm.trans ((hp t' i).mp h2)))
  rw [← h]
  congr 1
  exact (Finset.eq_univ_iff_forall.mpr fun i => Finset.mem_biUnion.mpr ⟨p i, Finset.mem_univ _, (hp _ i).mpr rfl⟩).symm

omit [FloatOps F] in
/-- Pieces along a partition, each holding anything, are the whole buffer holding something. -/
theorem glue {ℓ : Loc nD τ sig} {T : Type} [Fintype T] [DecidableEq T] {q : PosShare TreeShare} (J : T → Finset (Idx ℓ)) (p : Idx ℓ → T)
    (hp : ∀ t i, i ∈ J t ↔ p i = t) (f₀ : Buf (Elt F) ℓ) :
    (bigSep Finset.univ fun t => iprop(∃ f, ℓ ↦[J t]{q} f) : sProp 𝕄) ⊢ iprop(∃ f, ℓ ↦{q} f) := by
  have hx := @BI.bigSep_exists_pi _ _ _ _ (fun _ : T => Buf (Elt F) ℓ) (fun _ => ⟨f₀⟩) Finset.univ (fun (t : T) (f : Buf (Elt F) ℓ) => (ℓ ↦[J t]{q} f : sProp 𝕄))
  iintro H
  ihave H := hx $$ H
  icases H with ⟨%fs, H⟩
  ihave H := (pointsTo_biUnion_join (nD := nD) (τ := τ) (sig := sig) (Ix := Unit) (Val := Elt F) (Name := ℕ) (U := UU) (Lvl := ℕ) (ℓ := ℓ) (q := q) Finset.univ J fs f₀
    (fun t _ t' _ hne => Finset.disjoint_left.mpr fun i h1 h2 => hne (((hp t i).mp h1).symm.trans ((hp t' i).mp h2)))) $$ H
  icases H with ⟨%g, -, H⟩
  rw [(Finset.eq_univ_iff_forall.mpr fun i => Finset.mem_biUnion.mpr ⟨p i, Finset.mem_univ _, (hp _ i).mpr rfl⟩ : Finset.univ.biUnion J = Finset.univ)]
  iexists g
  iexact H

/-! ## The partitions -/

def tKV (i : S4x8x8x64x128.Idx) : Fin 4 × Fin 8 := (i 0, i 1)
def tA (i : S8x4x64x8x128.Idx) : Fin 4 × Fin 8 := (i 1, i 3)
def tG (i : S4x8x8x64x128.Idx) : Fin 4 := i 0
def tC (i : S6x256x1024.Idx) : Fin 6 := i 0
def tS (i : S4x256x1024.Idx) : Fin 4 := i 0

theorem pair_iff {a : ℕ} {b : ℕ} {x : Fin a} {y : Fin b} (t : Fin a × Fin b) : (x.val = t.1.val ∧ y.val = t.2.val) ↔ (x, y) = t :=
  ⟨fun h => Prod.ext (Fin.ext h.1) (Fin.ext h.2), fun h => by subst h; exact ⟨rfl, rfl⟩⟩
theorem hKM (t : Fin 4 × Fin 8) (i : S4x8x8x64x128.Idx) : i ∈ (kvV kM t.1 t.2).view.set ↔ tKV i = t := (mem_kV t.1 t.2 i).trans (pair_iff t)
theorem hVM (t : Fin 4 × Fin 8) (i : S4x8x8x64x128.Idx) : i ∈ (kvV vM t.1 t.2).view.set ↔ tKV i = t := (mem_vV t.1 t.2 i).trans (pair_iff t)
theorem hKA (t : Fin 4 × Fin 8) (i : S8x4x64x8x128.Idx) : i ∈ (arrV kA t.1 t.2).view.set ↔ tA i = t := (mem_kA t.1 t.2 i).trans (pair_iff t)
theorem hVA (t : Fin 4 × Fin 8) (i : S8x4x64x8x128.Idx) : i ∈ (arrV vA t.1 t.2).view.set ↔ tA i = t := (mem_vA t.1 t.2 i).trans (pair_iff t)
theorem hC (k : Fin 6) (i : S6x256x1024.Idx) : i ∈ (commV k).view.set ↔ tC i = k := (mem_commV k i).trans ⟨fun h => Fin.ext h, fun h => congrArg Fin.val h⟩
theorem hS (k : Fin 4) (i : S4x256x1024.Idx) : i ∈ (stageV k).view.set ↔ tS i = k := (mem_stageV k i).trans ⟨fun h => Fin.ext h, fun h => congrArg Fin.val h⟩
theorem hkG (r : Fin 4) (i : S4x8x8x64x128.Idx) : i ∈ kG r ↔ tG i = r :=
  ⟨fun h => by obtain ⟨x, -, hx⟩ := Finset.mem_biUnion.mp h; exact Fin.ext ((mem_kV r x i).mp hx).1,
    fun h => Finset.mem_biUnion.mpr ⟨i 1, Finset.mem_univ _, (mem_kV r (i 1) i).mpr ⟨congrArg Fin.val h, rfl⟩⟩⟩
theorem hvG (r : Fin 4) (i : S4x8x8x64x128.Idx) : i ∈ vG r ↔ tG i = r :=
  ⟨fun h => by obtain ⟨x, -, hx⟩ := Finset.mem_biUnion.mp h; exact Fin.ext ((mem_vV r x i).mp hx).1,
    fun h => Finset.mem_biUnion.mpr ⟨i 1, Finset.mem_univ _, (mem_vV r (i 1) i).mpr ⟨congrArg Fin.val h, rfl⟩⟩⟩

/-! ## What the launch hands over, and the pieces -/

/-- The arrays that stay in main memory: the weights and this device's caches, as they were. -/
def Hbm : sProp 𝕄 :=
  iprop(((c : Thread nD τ).loc main_arg1 ↦{fullShare} m ((c : Thread nD τ).loc main_arg1)) ∗ ((c : Thread nD τ).loc main_arg2 ↦{fullShare} m ((c : Thread nD τ).loc main_arg2))
    ∗ ((c : Thread nD τ).loc main_arg3 ↦{fullShare} m ((c : Thread nD τ).loc main_arg3)) ∗ ((c : Thread nD τ).loc main_arg4 ↦{fullShare} m ((c : Thread nD τ).loc main_arg4)))
/-- The scratch buffers, holding anything. -/
def Scr : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f))
/-- What the body does not touch: the weights outside this device's slices. -/
def Rest : sProp 𝕄 :=
  iprop(((c : Thread nD τ).loc main_arg1 ↦[Finset.univ \ (wqV c).view.set]{fullShare} m ((c : Thread nD τ).loc main_arg1))
    ∗ ((c : Thread nD τ).loc main_arg4 ↦[Finset.univ \ (woV c).view.set]{fullShare} m ((c : Thread nD τ).loc main_arg4)))

theorem arg1_eq : ((c : Thread nD τ).loc main_arg1 ↦{fullShare} m ((c : Thread nD τ).loc main_arg1) : sProp 𝕄)
    ⊣⊢ iprop(wqSrc m c ∗ ((c : Thread nD τ).loc main_arg1 ↦[Finset.univ \ (wqV c).view.set]{fullShare} m ((c : Thread nD τ).loc main_arg1))) :=
  pointsTo_split_subset (Finset.subset_univ _)
theorem arg4_eq : ((c : Thread nD τ).loc main_arg4 ↦{fullShare} m ((c : Thread nD τ).loc main_arg4) : sProp 𝕄)
    ⊣⊢ iprop(woSrc m c ∗ ((c : Thread nD τ).loc main_arg4 ↦[Finset.univ \ (woV c).view.set]{fullShare} m ((c : Thread nD τ).loc main_arg4))) :=
  pointsTo_split_subset (Finset.subset_univ _)
theorem arg2_eq : ((c : Thread nD τ).loc main_arg2 ↦{fullShare} m ((c : Thread nD τ).loc main_arg2) : sProp 𝕄)
    = bigSep Finset.univ fun r : Fin 4 => bigSep Finset.univ fun h : Fin 8 => kSrc m c r h :=
  (cut (ℓ := (c : Thread nD τ).loc main_arg2) (fun t : Fin 4 × Fin 8 => (arrV kA t.1 t.2).view.set) tA hKA _).trans (bigSep_univ_prod _)
theorem arg3_eq : ((c : Thread nD τ).loc main_arg3 ↦{fullShare} m ((c : Thread nD τ).loc main_arg3) : sProp 𝕄)
    = bigSep Finset.univ fun r : Fin 4 => bigSep Finset.univ fun h : Fin 8 => vSrc m c r h :=
  (cut (ℓ := (c : Thread nD τ).loc main_arg3) (fun t : Fin 4 × Fin 8 => (arrV vA t.1 t.2).view.set) tA hVA _).trans (bigSep_univ_prod _)
theorem scr2_cut (f : Buf (Elt F) ((c : Thread nD τ).loc cc0_scratch2)) : ((c : Thread nD τ).loc cc0_scratch2 ↦{fullShare} f : sProp 𝕄)
    ⊢ bigSep Finset.univ fun r : Fin 4 => bigSep Finset.univ fun h : Fin 8 => iprop(∃ f, kTile c r h f) :=
  (Entails.of_eq ((cut (ℓ := (c : Thread nD τ).loc cc0_scratch2) (fun t : Fin 4 × Fin 8 => (kvV kM t.1 t.2).view.set) tKV hKM f).trans (bigSep_univ_prod _))).trans
    (bigSep_mono fun r _ => bigSep_mono fun h _ => by
      show kTile c r h f ⊢ iprop(∃ f, kTile c r h f)
      iintro H
      iexists f
      iexact H)
theorem scr3_cut (f : Buf (Elt F) ((c : Thread nD τ).loc cc0_scratch3)) : ((c : Thread nD τ).loc cc0_scratch3 ↦{fullShare} f : sProp 𝕄)
    ⊢ bigSep Finset.univ fun r : Fin 4 => bigSep Finset.univ fun h : Fin 8 => iprop(∃ f, vTile c r h f) :=
  (Entails.of_eq ((cut (ℓ := (c : Thread nD τ).loc cc0_scratch3) (fun t : Fin 4 × Fin 8 => (kvV vM t.1 t.2).view.set) tKV hVM f).trans (bigSep_univ_prod _))).trans
    (bigSep_mono fun r _ => bigSep_mono fun h _ => by
      show vTile c r h f ⊢ iprop(∃ f, vTile c r h f)
      iintro H
      iexists f
      iexact H)
theorem scr4_cut (f : Buf (Elt F) ((c : Thread nD τ).loc cc0_scratch4)) : ((c : Thread nD τ).loc cc0_scratch4 ↦{fullShare} f : sProp 𝕄)
    ⊢ bigSep Finset.univ fun k : Fin 6 => slotAny c k :=
  (Entails.of_eq (cut (ℓ := (c : Thread nD τ).loc cc0_scratch4) (fun k : Fin 6 => (commV k).view.set) tC hC f)).trans
    (bigSep_mono fun k _ => by
      unfold slotAny
      show ((commV k).view.loc (c : Thread nD τ) ↦[(commV k).view.set]{fullShare} f : sProp 𝕄) ⊢ iprop(∃ f, (commV k).view.loc (c : Thread nD τ) ↦[(commV k).view.set]{fullShare} f)
      iintro H
      iexists f
      iexact H)
theorem scr5_cut (f : Buf (Elt F) ((c : Thread nD τ).loc cc0_scratch5)) : ((c : Thread nD τ).loc cc0_scratch5 ↦{fullShare} f : sProp 𝕄)
    ⊢ bigSep Finset.univ fun k : Fin 4 => stgAny c k :=
  (Entails.of_eq (cut (ℓ := (c : Thread nD τ).loc cc0_scratch5) (fun k : Fin 4 => (stageV k).view.set) tS hS f)).trans
    (bigSep_mono fun k _ => by
      unfold stgAny
      show ((stageV k).view.loc (c : Thread nD τ) ↦[(stageV k).view.set]{fullShare} f : sProp 𝕄) ⊢ iprop(∃ f, (stageV k).view.loc (c : Thread nD τ) ↦[(stageV k).view.set]{fullShare} f)
      iintro H
      iexists f
      iexact H)
theorem scr2_glue : (bigSep Finset.univ fun r : Fin 4 => kGrp m c r : sProp 𝕄)
    ⊢ iprop(∃ f : Buf (Elt F) ((c : Thread nD τ).loc cc0_scratch2), (c : Thread nD τ).loc cc0_scratch2 ↦{fullShare} f) := by
  rw [show (bigSep Finset.univ fun r : Fin 4 => kGrp m c r : sProp 𝕄)
    = ((c : Thread nD τ).loc cc0_scratch2 ↦{fullShare} (gath (F := F) (kB m c) : (cc0_scratch2 : Ref sig .tc).ty.Contents (Elt F)))
    from (cut (ℓ := (c : Thread nD τ).loc cc0_scratch2) kG tG hkG _).symm]
  iintro H
  iexists _
  iexact H
theorem scr3_glue : (bigSep Finset.univ fun r : Fin 4 => vGrp m c r : sProp 𝕄)
    ⊢ iprop(∃ f : Buf (Elt F) ((c : Thread nD τ).loc cc0_scratch3), (c : Thread nD τ).loc cc0_scratch3 ↦{fullShare} f) := by
  rw [show (bigSep Finset.univ fun r : Fin 4 => vGrp m c r : sProp 𝕄)
    = ((c : Thread nD τ).loc cc0_scratch3 ↦{fullShare} (gath (F := F) (vB m c) : (cc0_scratch3 : Ref sig .tc).ty.Contents (Elt F)))
    from (cut (ℓ := (c : Thread nD τ).loc cc0_scratch3) vG tG hvG _).symm]
  iintro H
  iexists _
  iexact H
theorem scr4_glue (f₀ : Buf (Elt F) ((c : Thread nD τ).loc cc0_scratch4)) : (bigSep Finset.univ fun k : Fin 6 => slotAny c k : sProp 𝕄)
    ⊢ iprop(∃ f : Buf (Elt F) ((c : Thread nD τ).loc cc0_scratch4), (c : Thread nD τ).loc cc0_scratch4 ↦{fullShare} f) :=
  glue (ℓ := (c : Thread nD τ).loc cc0_scratch4) (fun k : Fin 6 => (commV k).view.set) tC hC f₀
theorem scr5_glue (f₀ : Buf (Elt F) ((c : Thread nD τ).loc cc0_scratch5)) : (bigSep Finset.univ fun k : Fin 4 => stgAny c k : sProp 𝕄)
    ⊢ iprop(∃ f : Buf (Elt F) ((c : Thread nD τ).loc cc0_scratch5), (c : Thread nD τ).loc cc0_scratch5 ↦{fullShare} f) :=
  glue (ℓ := (c : Thread nD τ).loc cc0_scratch5) (fun k : Fin 4 => (stageV k).view.set) tS hS f₀

/-- A group's sources and destinations, head by head, are what its sixteen copies need. -/
theorem kv_deal (r : Fin 4) :
    iprop((bigSep Finset.univ fun h : Fin 8 => kSrc m c r h) ∗ (bigSep Finset.univ fun h : Fin 8 => vSrc m c r h)
        ∗ (bigSep Finset.univ fun h : Fin 8 => iprop(∃ f, kTile c r h f)) ∗ (bigSep Finset.univ fun h : Fin 8 => iprop(∃ f, vTile c r h f)))
      ⊢ (bigSep Finset.univ (kvPre m c r) : sProp 𝕄) := by
  have e1 : bigSep Finset.univ (fun h : Fin 8 => kvPre m c r ⟨2 * h.val, by omega⟩) = bigSep Finset.univ (fun h : Fin 8 => iprop(kSrc m c r h ∗ ∃ f, kTile c r h f)) :=
    bigSep_congr fun h _ => (kAt r h (by omega)).1
  have e2 : bigSep Finset.univ (fun h : Fin 8 => kvPre m c r ⟨2 * h.val + 1, by omega⟩) = bigSep Finset.univ (fun h : Fin 8 => iprop(vSrc m c r h ∗ ∃ f, vTile c r h f)) :=
    bigSep_congr fun h _ => (vAt r h (by omega)).1
  rw [sep16, e1, e2, bigSep_sep', bigSep_sep']
  iintro ⟨H1, H2, H3, H4⟩
  iframe

/-- The whole buffers cut into the body's pieces. -/
theorem mem_cut : iprop(Hbm m c ∗ Scr c) ⊢ (iprop((bigSep Finset.univ fun r : Fin 4 => bigSep Finset.univ (kvPre m c r))
    ∗ wqSrc m c ∗ (∃ f, wqDst c f) ∗ woSrc m c ∗ (∃ f, woDst c f) ∗ (bigSep Finset.univ fun k : Fin 4 => stgAny c k) ∗ (bigSep Finset.univ fun k : Fin 6 => slotAny c k)
    ∗ Rest m c) : sProp 𝕄) := by
  unfold Hbm Scr Rest wqDst woDst
  iintro ⟨⟨H1, H2, H3, H4⟩, H5, H6, ⟨%f2, H7⟩, ⟨%f3, H8⟩, ⟨%f4, H9⟩, %f5, H10⟩
  ihave H1 := (arg1_eq m c).1 $$ H1
  icases H1 with ⟨H1, H1r⟩
  ihave H4 := (arg4_eq m c).1 $$ H4
  icases H4 with ⟨H4, H4r⟩
  ihave H2 := (Entails.of_eq (arg2_eq m c)) $$ H2
  ihave H3 := (Entails.of_eq (arg3_eq m c)) $$ H3
  ihave H7 := (scr2_cut c f2) $$ H7
  ihave H8 := (scr3_cut c f3) $$ H8
  ihave H9 := (scr4_cut c f4) $$ H9
  ihave H10 := (scr5_cut c f5) $$ H10
  isplitl [H2 H3 H7 H8]
  · iapply ((Entails.of_eq (by rw [bigSep_sep', bigSep_sep', bigSep_sep'])).trans (bigSep_mono fun r (_ : r ∈ Finset.univ) => kv_deal m c r))
    iframe
  iframe

/-- The body's pieces after it, joined into whole buffers. -/
theorem mem_glue : (iprop((bigSep Finset.univ fun r : Fin 4 => iprop(kGrp m c r ∗ vGrp m c r ∗ bigSep Finset.univ (fun h => kSrc m c r h) ∗ bigSep Finset.univ (fun h => vSrc m c r h)))
    ∗ wqSrc m c ∗ wqDst c (wqB m c) ∗ woSrc m c ∗ woDst c (woB m c) ∗ (bigSep Finset.univ fun k : Fin 4 => stgAny c k) ∗ (bigSep Finset.univ fun k : Fin 6 => slotAny c k)
    ∗ Rest m c) : sProp 𝕄) ⊢ iprop(Hbm m c ∗ Scr c) := by
  rw [bigSep_sep', bigSep_sep', bigSep_sep']
  unfold Hbm Scr Rest wqDst woDst
  iintro ⟨⟨H7, H8, H2, H3⟩, H1, H5, H4, H6, H10, H9, H1r, H4r⟩
  isplitl [H1 H1r H2 H3 H4 H4r]
  · isplitl [H1 H1r]
    · iapply (arg1_eq m c).2
      iframe
    isplitl [H2]
    · iapply (Entails.of_eq (arg2_eq m c).symm)
      iexact H2
    isplitl [H3]
    · iapply (Entails.of_eq (arg3_eq m c).symm)
      iexact H3
    iapply (arg4_eq m c).2
    iframe
  isplitl [H5]
  · iexists _
    iexact H5
  isplitl [H6]
  · iexists _
    iexact H6
  isplitl [H7]
  · iapply (scr2_glue m c)
    iexact H7
  isplitl [H8]
  · iapply (scr3_glue m c)
    iexact H8
  isplitl [H9]
  · iapply (scr4_glue c (commB (carry m 0 c)))
    iexact H9
  · iapply (scr5_glue c (stageB (carry m 0 c)))
    iexact H10

end Cert.Run
-- ==== Proof.Launch.lean ====
/-
# What a device starts from and ends with, and the body between

The pipeline library runs the body once per device, between staging `x` in and the result out. Here are its proof data and the
obligation it leaves: from what the launch hands a device, the body runs and leaves the result block holding `outV`, every buffer whole
again and every counter at zero.
-/
module

public import proofs.«01_k».proof.Proof.Pieces

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The pipeline's proof data -/

/-- What the ghost set-up and the launch credit give device `c`. -/
def ghost : sProp 𝕄 := iprop(∃ K, Pers m K ∗ (bigSep Finset.univ fun j : Fin 12 => Lane c j 0) ∗ Bar c 3)
/-- The counters of the local copies. -/
def copies : sProp 𝕄 := bigSep Finset.univ fun i : Fin 6 => semVal ((c : Thread nD τ), .dma (copyS i)) 0
/-- What device `c` starts from, its scratch buffers aside. -/
def start : sProp 𝕄 := iprop(ghost m c ∗ copies c ∗ Hbm m c)
def Φ₀ : sProp 𝕄 := iprop(start m c ∗ Scr c)
/-- What it ends with. -/
def Φ₁ : sProp 𝕄 :=
  iprop(semVal (cellB c) 0 ∗ copies c ∗ (bigSep Finset.univ fun j : Fin 12 => iprop(semVal (cellS c j) 0 ∗ semVal (cellR c j) 0)) ∗ Hbm m c ∗ Scr c)

/-- What device `c` owes at the start: both signals and the twelve messages. -/
abbrev O₀ (c : Dev nD) : CellTallies nD τ sig Unit := owed c 2 order

/-- The result block on device `c`. -/
def outAt : (cc0_stg1_0 : Ref sig .tc).ty.Contents (Elt F) := asm c (outV m c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Into the body's state and out of it -/

omit [FloatOps F] in
theorem fam_const {n : ℕ} {β : Type} (P : Fin n → β → sProp 𝕄) (l : List β) (d a : β) (h : ∀ j : Fin n, l.getD j.val d = a) :
    fam P l d = bigSep Finset.univ fun j => P j a := by
  unfold fam
  exact bigSep_congr fun j _ => by rw [h j]

omit [FloatOps F] in
theorem bs4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bs6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ
theorem copies_eq : (copies c : sProp 𝕄) ⊢ iprop(semVal ((c : Thread nD τ), .dma (copyS 0)) 0 ∗ semVal ((c : Thread nD τ), .dma (copyS 1)) 0
    ∗ bigSep Finset.univ fun r : Fin 4 => semVal ((c : Thread nD τ), .dma (copyG r)) 0) := by
  unfold copies
  rw [bs6, bs4]
  exact BI.Entails.refl _
theorem copies_back : iprop(semVal ((c : Thread nD τ), .dma (copyS 0)) 0 ∗ semVal ((c : Thread nD τ), .dma (copyS 1)) 0
    ∗ bigSep Finset.univ fun r : Fin 4 => semVal ((c : Thread nD τ), .dma (copyG r)) 0) ⊢ (copies c : sProp 𝕄) := by
  unfold copies
  rw [bs6, bs4]
  exact BI.Entails.refl _

/-- The caches' copies, none issued. -/
theorem kv_open : iprop((bigSep Finset.univ fun r : Fin 4 => semVal ((c : Thread nD τ), .dma (copyG r)) 0) ∗ bigSep Finset.univ fun r : Fin 4 => bigSep Finset.univ (kvPre m c r))
    ⊢ (|={Set.univ}=> fam (KVs m c) [.run 0 0, .run 0 0, .run 0 0, .run 0 0] .got : sProp 𝕄) := by
  rw [fam_const _ _ _ (.run 0 0) (fun j => by fin_cases j <;> rfl), ← bigSep_sep']
  refine (bigSep_mono fun r _ => ?_).trans (bigSep_fupd _ _)
  show iprop(semVal ((c : Thread nD τ), .dma (copyG r)) 0 ∗ bigSep Finset.univ (kvPre m c r))
    ⊢ iprop(|={Set.univ}=> iprop(Batch EC (c : Thread nD τ) (.dma (copyG r)) () Nkv (kvPost m c r) 0 (0 * Nkv) ∗ bigSep (pending 0) (kvPre m c r)))
  rw [Nat.zero_mul, pending_zero]
  iintro ⟨H1, H2⟩
  imod (batch_alloc' EC (c : Thread nD τ) () Nkv (kvPost m c r) (E := Set.univ)) $$ H1 with H1
  imodintro
  isplitl [H1]; · iexact H1
  iexact H2

/-- The eight half chunks of a block, read off it. -/
def offL (c : Dev nD) (f : (cc0_stg1_0 : Ref sig .tc).ty.Contents (Elt F)) (d : Fin 2) (k : Fin 4) : Half F := oM.view.readAt (Elt F) (rR c d k).toLoadRect f
omit [FloatOps F] in
theorem ofL_eight [FloatOps F] (v : Fin 2 → Fin 4 → Half F) : ofL [v 0 0, v 0 1, v 0 2, v 0 3, v 1 0, v 1 1, v 1 2, v 1 3] = v := by
  funext d k
  fin_cases d <;> fin_cases k <;> rfl
theorem oPts_off (f : (cc0_stg1_0 : Ref sig .tc).ty.Contents (Elt F)) :
    ((c : Thread nD τ).loc cc0_stg1_0 ↦{fullShare} f : sProp 𝕄)
      ⊢ oPts c [offL c f 0 0, offL c f 0 1, offL c f 0 2, offL c f 0 3, offL c f 1 0, offL c f 1 1, offL c f 1 2, offL c f 1 3] := by
  unfold oPts
  rw [ofL_eight (offL c f), show asm c (offL c f) = f from asm_read c f]
theorem oPts_out : (oPts c [outV m c 0 0, outV m c 0 1, outV m c 0 2, outV m c 0 3, outV m c 1 0, outV m c 1 1, outV m c 1 2, outV m c 1 3] : sProp 𝕄)
      ⊢ ((c : Thread nD τ).loc cc0_stg1_0 ↦{fullShare} outAt m c) := by
  unfold oPts outAt
  rw [ofL_eight (outV m c)]

theorem sig_any {σ : List (Slot F)} (h : ∀ j : Fin 4, ∃ w, σ.getD j.val .gone = .full w) : (fam (Sig c) σ .gone : sProp 𝕄) ⊢ bigSep Finset.univ fun k : Fin 4 => stgAny c k := by
  unfold fam
  refine bigSep_mono fun k _ => ?_
  obtain ⟨w, hw⟩ := h k
  rw [hw]
  show stgHas c k w ⊢ stgAny c k
  unfold stgHas stgAny
  iintro H
  iexists _
  iexact H
theorem kap_any {κ : List (Slot F)} (h : ∀ j : Fin 6, ∃ w, κ.getD j.val .gone = .full w) : (fam (Kap c) κ .gone : sProp 𝕄) ⊢ bigSep Finset.univ fun k : Fin 6 => slotAny c k := by
  unfold fam
  refine bigSep_mono fun k _ => ?_
  obtain ⟨w, hw⟩ := h k
  rw [hw]
  show slotHas c k fullShare w ⊢ slotAny c k
  unfold slotHas slotAny
  iintro H
  iexists _
  iexact H

theorem kv_close : (fam (KVs m c) [.got, .got, .got, .got] .got : sProp 𝕄)
    ⊢ iprop((bigSep Finset.univ fun r : Fin 4 => iprop(kGrp m c r ∗ vGrp m c r ∗ bigSep Finset.univ (fun h => kSrc m c r h) ∗ bigSep Finset.univ (fun h => vSrc m c r h)))
      ∗ bigSep Finset.univ fun r : Fin 4 => semVal ((c : Thread nD τ), .dma (copyG r)) 0) := by
  rw [fam_const _ _ _ .got (fun j => by fin_cases j <;> rfl), ← bigSep_sep']
  refine bigSep_mono fun r _ => ?_
  show KVs m c r .got ⊢ iprop((kGrp m c r ∗ vGrp m c r ∗ bigSep Finset.univ (fun h => kSrc m c r h) ∗ bigSep Finset.univ (fun h => vSrc m c r h))
    ∗ semVal ((c : Thread nD τ), .dma (copyG r)) 0)
  rw [KVs_got]
  iintro ⟨H1, H2, H3, H4, H5⟩
  iframe

/-! ## The body -/

def bodyPre : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost : sProp 𝕄 :=
  iprop(Φ₁ m c ∗ (dats m ρ 0 c).owesAt () t₀.succ ∗ stg c cc0_stg0_0 (xB m c) ∗ stg c cc0_stg1_0 (outAt m c))

/-- From what a device starts with to the body's first state. -/
theorem body_enter : (bodyPre m ρ c : sProp 𝕄) ⊢ |={Set.univ}=> iprop(∃ (K : Dev nD × CK → ℕ) (v : Fin 2 → Fin 4 → Half F),
    St m K c [.run 0 0, .run 0 0, .run 0 0, .run 0 0] [.idle, .idle] [v 0 0, v 0 1, v 0 2, v 0 3, v 1 0, v 1 1, v 1 2, v 1 3] 3 [0, 3, 1, 4, 2, 5, 6, 9, 7, 10, 8, 11]
      [0, 0, 0, 0, 0, 0, 0, 0, 0, 0, 0, 0] [.any, .any, .any, .any] [.any, .any, .any, .any, .any, .any] [false, false, false, false, false, false] ∗ Rest m c) := by
  unfold bodyPre Φ₀ start ghost
  iintro ⟨⟨⟨⟨%K, HP, HL, HB⟩, Hc, Hh⟩, Hs⟩, Ho, ⟨%d0, %g0, %hg0, Hx⟩, ⟨%d1, %g1, %hg1, Hout⟩⟩
  have hx : g0 = xB m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c 2 order from rfl]
  ihave Hc := (copies_eq c) $$ Hc
  icases Hc with ⟨Hc0, Hc1, Hc⟩
  ihave Hm := (mem_cut m c) $$ [Hh Hs]
  · isplitl [Hh] <;> iassumption
  icases Hm with ⟨Hkv, Hq, Hqd, Hw, Hwd, Hsg, Hkp, HR⟩
  imod (kv_open m c) $$ [Hc Hkv] with Hkv
  · isplitl [Hc] <;> iassumption
  ihave Hout := (oPts_off c g1) $$ Hout
  imodintro
  iexists K, offL c g1
  isplitr [HR]
  · unfold St Ow
    isplitl [HP]; · iexact HP
    isplitl [Hkv]; · iexact Hkv
    isplitl [Hq Hqd Hc0]
    · iapply (show iprop(wqSrc m c ∗ (∃ f, wqDst c f) ∗ semVal ((c : Thread nD τ), .dma (copyS 0)) 0) ⊢ LCq m c .idle from BI.Entails.refl _)
      iframe
    isplitl [Hw Hwd Hc1]
    · iapply (show iprop(woSrc m c ∗ (∃ f, woDst c f) ∗ semVal ((c : Thread nD τ), .dma (copyS 1)) 0) ⊢ LCo m c .idle from BI.Entails.refl _)
      iframe
    isplitl [Hx]; · unfold xPts; iexact Hx
    isplitl [Hout]; · iexact Hout
    isplitl [HO]; · iexists W; iexact HO
    isplitl [HB]; · iexact HB
    rw [fam_const (Lane c) _ _ 0 (by decide), fam_const (Sig c) _ _ .any (fun j => by fin_cases j <;> rfl), fam_const (Kap c) _ _ .any (fun j => by fin_cases j <;> rfl),
      fam_const (Rho c) _ _ false (by decide)]
    isplitl [HL]; · iexact HL
    isplitl [Hsg]; · iexact Hsg
    isplitl [Hkp]; · iexact Hkp
    iapply (show (iprop(emp) : sProp 𝕄) ⊢ bigSep Finset.univ (fun j : Fin 6 => Rho c j false) from
      Entails.of_eq (BI.bigSep_emp_const (Finset.univ : Finset (Fin 6))).symm)
    iempintro
  · iexact HR

/-- From the body's last state to what a device ends with. -/
theorem body_leave (K : Dev nD × CK → ℕ) :
    iprop(St m K c [.got, .got, .got, .got] [.done, .done] [outV m c 0 0, outV m c 0 1, outV m c 0 2, outV m c 0 3, outV m c 1 0, outV m c 1 1, outV m c 1 2, outV m c 1 3] 0 []
      [3, 3, 3, 3, 3, 3, 3, 3, 3, 3, 3, 3] [.full (carry m 2 c), .full (carry m 5 c), .full (carry m 6 c), .full (carry m 9 c)]
      [.full (carry m 7 c), .full (carry m 8 c), .full (carry m 8 (fromD 0 c)), .full (carry m 10 c), .full (carry m 11 c), .full (carry m 11 (fromD 1 c))]
      [false, false, false, false, false, false] ∗ Rest m c) ⊢ (bodyPost m ρ c : sProp 𝕄) := by
  unfold St Ow bodyPost Φ₁
  rw [fam_const (Lane c) _ _ 3 (by decide)]
  iintro ⟨⟨-, Hkv, Hq, Hw, Hx, Hout, ⟨%W, HO⟩, HB, HL, Hsg, Hkp, -⟩, HR⟩
  ihave Hkv := (kv_close m c) $$ Hkv
  icases Hkv with ⟨Hkv, Hc⟩
  ihave Hq := (show LCq m c (([.done, .done] : List LC).getD 0 .idle) ⊢ iprop(wqSrc m c ∗ wqDst c (wqB m c) ∗ semVal ((c : Thread nD τ), .dma (copyS 0)) 0) from BI.Entails.refl _) $$ Hq
  icases Hq with ⟨Hq, Hqd, Hc0⟩
  ihave Hw := (show LCo m c (([.done, .done] : List LC).getD 1 .idle) ⊢ iprop(woSrc m c ∗ woDst c (woB m c) ∗ semVal ((c : Thread nD τ), .dma (copyS 1)) 0) from BI.Entails.refl _) $$ Hw
  icases Hw with ⟨Hw, Hwd, Hc1⟩
  ihave Hsg := (sig_any c (σ := [.full (carry m 2 c), .full (carry m 5 c), .full (carry m 6 c), .full (carry m 9 c)]) (fun j => by fin_cases j <;> exact ⟨_, rfl⟩)) $$ Hsg
  ihave Hkp := (kap_any c (κ := [.full (carry m 7 c), .full (carry m 8 c), .full (carry m 8 (fromD 0 c)), .full (carry m 10 c), .full (carry m 11 c), .full (carry m 11 (fromD 1 c))])
    (fun j => by fin_cases j <;> exact ⟨_, rfl⟩)) $$ Hkp
  ihave Hm := (mem_glue m c) $$ [Hkv Hq Hqd Hw Hwd Hsg Hkp HR]
  · iframe
  icases Hm with ⟨Hh, Hs⟩
  ihave Hc := (copies_back c) $$ [Hc0 Hc1 Hc]
  · iframe
  ihave Hout := (oPts_out m c) $$ Hout
  isplitl [HB Hc HL Hh Hs]
  · isplitl [HB]; · iapply (show Bar c 0 ⊢ (semVal (cellB c) 0 : sProp 𝕄) from BI.Entails.refl _); iexact HB
    isplitl [Hc]; · iexact Hc
    isplitl [HL]
    · iapply (show (bigSep Finset.univ fun j : Fin 12 => Lane c j 3 : sProp 𝕄) ⊢ bigSep Finset.univ fun j : Fin 12 => iprop(semVal (cellS c j) 0 ∗ semVal (cellR c j) 0) from BI.Entails.refl _)
      iexact HL
    isplitl [Hh]; · iexact Hh
    iexact Hs
  isplitl [HO]
  · unfold Dat.owesAt Pipeline.owesWithin
    rw [show (dats m ρ 0 c).owed t₀.succ = 0 from rfl]
    iexists W
    isplitr; · ipureintro; exact fun _ _ => Or.inl trivial
    iexact HO
  isplitl [Hx]
  · iexists _; isplitr; · (ipureintro; rfl)
    unfold xPts; iexact Hx
  iexists _; isplitr; · (ipureintro; rfl)
  iexact Hout

/-- The body from the one to the other. -/
theorem body_all : bodyPre m ρ c ⊢ WP c
    (cc0_body xM (Memref.isWhole_whole _) a1M (Memref.isWhole_whole _) kA (Memref.isWhole_whole _) vA (Memref.isWhole_whole _) a4M (Memref.isWhole_whole _) oM (Memref.isWhole_whole _)
      wqM (Memref.isWhole_whole _) woM (Memref.isWhole_whole _) kM (Memref.isWhole_whole _) vM (Memref.isWhole_whole _) cM (Memref.isWhole_whole _) sM (Memref.isWhole_whole _)
      cc0_scratch6 cc0_scratch7 cc0_scratch8) (fun _ => bodyPost m ρ c) := by
  generalize hp : cc0_body (F := F) xM (Memref.isWhole_whole _) a1M (Memref.isWhole_whole _) kA (Memref.isWhole_whole _) vA (Memref.isWhole_whole _) a4M (Memref.isWhole_whole _) oM (Memref.isWhole_whole _)
      wqM (Memref.isWhole_whole _) woM (Memref.isWhole_whole _) kM (Memref.isWhole_whole _) vM (Memref.isWhole_whole _) cM (Memref.isWhole_whole _) sM (Memref.isWhole_whole _)
      cc0_scratch6 cc0_scratch7 cc0_scratch8 = p
  have hr (K : Dev nD × CK → ℕ) (v : Fin 2 → Fin 4 → Half F) := run_body (m := m) (K := K) (c := c) (w0 := v 0 0) (w1 := v 0 1) (w2 := v 0 2) (w3 := v 0 3) (w4 := v 1 0) (w5 := v 1 1) (w6 := v 1 2) (w7 := v 1 3)
  rw [hp] at hr
  unfold WP at *
  refine (body_enter m ρ c).trans ?_
  iintro H
  imod H with ⟨%K, %v, H, HR⟩
  ihave H := (hr K v) $$ H
  iapply (wp_wand frame (wpE (defs₀ (F := F)) 𝒱₀ (c : Thread nD τ) none) Set.univ) $$ H
  iintro %u H
  iapply (body_leave m ρ c K)
  isplitl [H] <;> iassumption

set_option maxRecDepth 40000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_stg]
  show bodyPre m ρ c ⊢ wp frame (wpE (defs₀ (F := F)) 𝒱₀ (c : Thread nD τ) none) Set.univ
    (cc0_body xM (Memref.isWhole_whole _) a1M (Memref.isWhole_whole _) kA (Memref.isWhole_whole _) vA (Memref.isWhole_whole _) a4M (Memref.isWhole_whole _) oM (Memref.isWhole_whole _)
      wqM (Memref.isWhole_whole _) woM (Memref.isWhole_whole _) kM (Memref.isWhole_whole _) vM (Memref.isWhole_whole _) cM (Memref.isWhole_whole _) sM (Memref.isWhole_whole _)
      cc0_scratch6 cc0_scratch7 cc0_scratch8) (fun _ => bodyPost m ρ c)
  exact body_all m ρ c

end Cert.Run
-- ==== Proof.Ghost.lean ====
/-
# The set-up: invariants, tokens, credit

At launch every counter is at zero. The barrier cell and the twenty-four send and receive cells of each device get their invariants, all
devices' at once, and each device gets the tokens of the duties it pays: on its neighbours' barrier cells, on the receive cells of the
devices it sends to, and on its own send cells. What the devices owe each other at the start gives each the credit for its own cells.
-/
module

public import proofs.«01_k».proof.Proof.Launch

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Families -/

omit [FloatOps F] in
theorem sep_opt {X : Type} [Fintype X] [DecidableEq X] (Φ : Option X → sProp 𝕄) :
    bigSep Finset.univ Φ = iprop(Φ none ∗ bigSep Finset.univ fun x : X => Φ (some x)) := by
  rw [BI.bigSep_univ_equiv (Equiv.optionEquivSumPUnit.{0} X).symm Φ, BI.bigSep_univ_sum]
  have h : (bigSep Finset.univ fun b : PUnit.{1} => Φ ((Equiv.optionEquivSumPUnit.{0} X).symm (.inr b))) = Φ none := by
    rw [show (Finset.univ : Finset PUnit.{1}) = {PUnit.unit} from rfl, bigSep_singleton]
    rfl
  rw [h]
  exact BI.Entails.antisymm BI.sep_comm BI.sep_comm
omit [FloatOps F] in
theorem sep_bool (Φ : Bool → sProp 𝕄) : bigSep Finset.univ Φ = iprop(Φ false ∗ Φ true) := bigSep_univ_eq_bigSepL [false, true] (by decide) (by decide) Φ
omit [FloatOps F] in
/-- A device's cells: the barrier, the sends, the receives. -/
theorem sep_CK (Φ : CK → sProp 𝕄) :
    bigSep Finset.univ Φ = iprop(Φ none ∗ (bigSep Finset.univ fun j : Fin 12 => Φ (some (false, j))) ∗ bigSep Finset.univ fun j : Fin 12 => Φ (some (true, j))) := by
  rw [sep_opt, bigSep_univ_prod, sep_bool]

/-- Device to device around the ring, one direction or the other. -/
def ringE (d : Fin 2) : Dev nD ≃ Dev nD := ⟨toD d, fromD d, fromD_toD d, toD_fromD d⟩

/-! ## The cells and the tokens minted -/

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]
def msgCells : Finset (GSem nD τ sig) := Finset.univ.map ⟨kcell, kcell_injective⟩

/-- The duties of a device's own cells: the barrier's two, and one for each send and receive cell. -/
abbrev TK : Type := Bool ⊕ (Bool × Fin 12)
def tokOf (ct : Dev nD × TK) : GSem nD τ sig × ℕ × Bool :=
  match ct.2 with
  | .inl b => (kcell (ct.1, none), 0, b)
  | .inr x => (kcell (ct.1, some x), 0, false)
theorem tokOf_injective : Function.Injective tokOf := by
  rintro ⟨c, t⟩ ⟨c', t'⟩ h
  have hk := congrArg (fun x : GSem nD τ sig × ℕ × Bool => x.1) h
  have hb := congrArg (fun x : GSem nD τ sig × ℕ × Bool => x.2.2) h
  rcases t with b | x <;> rcases t' with b' | x'
  · have h1 := kcell_injective hk
    have h2 : b = b' := hb
    have h3 : c = c' := congrArg Prod.fst h1
    rw [h2, h3]
  · have h1 := congrArg Prod.snd (kcell_injective hk)
    exact absurd h1 (by simp)
  · have h1 := congrArg Prod.snd (kcell_injective hk)
    exact absurd h1 (by simp)
  · have h1 := kcell_injective hk
    have h2 : x = x' := Option.some.inj (congrArg Prod.snd h1)
    have h3 : c = c' := congrArg Prod.fst h1
    rw [h2, h3]
def msgToks : Finset (GSem nD τ sig × ℕ × Bool) := Finset.univ.map ⟨tokOf, tokOf_injective⟩

def u₀ : UU := (initOf (Pipeline.cells cfgs cellOf_inj) (Pipeline.launchToks cfgs cellOf_inj), (initOf msgCells msgToks, 1))

/-- The tokens of device `c`'s own cells; -/
def toks (c : Dev nD) : sProp 𝕄 :=
  iprop((dutyTok ER (cellB c) 0 false ∗ dutyTok ER (cellB c) 0 true)
    ∗ (bigSep Finset.univ fun j : Fin 12 => dutyTok ER (cellS c j) 0 false) ∗ bigSep Finset.univ fun j : Fin 12 => dutyTok ER (cellR c j) 0 false)
/-- the tokens of the duties it pays. -/
def payToks (c : Dev nD) : sProp 𝕄 :=
  iprop((dutyTok ER (cellB (toD 1 c)) 0 false ∗ dutyTok ER (cellB (toD 0 c)) 0 true)
    ∗ (bigSep Finset.univ fun j : Fin 12 => dutyTok ER (cellS c j) 0 false) ∗ bigSep Finset.univ fun j : Fin 12 => dutyTok ER (cellR (toD (dir j) c) j) 0 false)

/-- What the launch's element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund : BI.own (ER (F := F) (initOf msgCells msgToks)) ⊢ (|==> bigSep Finset.univ (G m) : sProp 𝕄) := by
  have hX (Φ : GSem nD τ sig → sProp 𝕄) : bigSep msgCells Φ = bigSep Finset.univ fun c : Dev nD => bigSep Finset.univ fun k : CK => Φ (kcell (c, k)) := by
    unfold msgCells; rw [bigSep_map, bigSep_univ_prod]; rfl
  have hT : bigSep msgToks (fun x => (dutyTok ER x.1 x.2.1 x.2.2 : sProp 𝕄)) = bigSep Finset.univ fun c : Dev nD => toks c := by
    unfold msgToks; rw [bigSep_map, bigSep_univ_prod]
    refine bigSep_congr fun c _ => ?_
    rw [BI.bigSep_univ_sum, sep_bool, bigSep_univ_prod, sep_bool]
    rfl
  iintro HX
  imod (Rounds.fund ER (Rd m) msgCells msgToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The kernel's own counters: the local copies', the sends' and the receives'. -/
def osem : Fin 6 ⊕ (Bool × Fin 12) → SemLoc sig
  | .inl i => .dma (copyS i)
  | .inr x => csem (some x)
theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

theorem ownSems0_eq (c : Dev nD) : (own0 c : sProp 𝕄)
    = iprop(copies c ∗ (bigSep Finset.univ fun j : Fin 12 => semVal (cellS c j) 0) ∗ bigSep Finset.univ fun j : Fin 12 => semVal (cellR c j) 0) := by
  unfold own0 Pipeline.ownSems0
  rw [BI.bigSep_univ_sum, bigSep_univ_prod, sep_bool]
  rfl
theorem unscopedSems0_eq (c : Dev nD) : (unscopedSems0 c : sProp 𝕄) = semVal (cellB c) 0 := by
  unfold unscopedSems0; rw [bigSep_eq_bigSepL_of_eq [SemLoc.reg barS] (by decide) (by decide)]; rfl

theorem sems0_eq (c : Dev nD) : iprop(own0 c ∗ unscopedSems0 c) ⊢ (iprop(copies c ∗ bigSep Finset.univ fun k : CK => semVal (kcell (c, k)) 0) : sProp 𝕄) := by
  rw [ownSems0_eq, unscopedSems0_eq, sep_CK]
  iintro ⟨⟨HC, HS, HR⟩, HB⟩
  isplitl [HC]; · iexact HC
  isplitl [HB]; · iexact HB
  isplitl [HS] <;> iassumption

/-! ## The invariants, and what each device goes off with -/

def recs (K : Dev nD × CK → ℕ) : sProp 𝕄 :=
  bigSep (Finset.univ : Finset (Dev nD × CK)) (fun ck => iprop(cellInv ER (Rd m) (K ck) (kcell ck) ∗ reached ER (kcell ck) 0))
instance recs_persistent (K : Dev nD × CK → ℕ) : BI.Persistent (recs m K) := by unfold recs; infer_instance

/-- A device's positions on its own cells. -/
def poss (c : Dev nD) : sProp 𝕄 := bigSep Finset.univ fun k : CK => atPos ER (kcell (c, k)) 0 ∅ 0
def G' (c : Dev nD) : sProp 𝕄 := iprop(∃ K, recs m K ∗ poss c ∗ payToks c ∗ copies c)

theorem core_alloc (c : Dev nD) : iprop(own0 c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ copies c) := by
  unfold G
  iintro ⟨Hos, Hus, Hst, Hat, Htok⟩
  ihave Hv := (sems0_eq (F := F) c) $$ [Hos Hus]
  · isplitl [Hos] <;> iassumption
  icases Hv with ⟨Hc, Hv⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem toks_around : (bigSep Finset.univ fun c : Dev nD => (toks c : sProp 𝕄)) ⊢ bigSep Finset.univ fun c : Dev nD => payToks c := by
  have hr : (bigSep Finset.univ fun c : Dev nD => bigSep Finset.univ fun j : Fin 12 => (dutyTok ER (cellR c j) 0 false : sProp 𝕄))
      = bigSep Finset.univ fun c : Dev nD => bigSep Finset.univ fun j : Fin 12 => (dutyTok ER (cellR (toD (dir j) c) j) 0 false : sProp 𝕄) := by
    rw [BI.bigSep_univ_comm (fun (c : Dev nD) (j : Fin 12) => (dutyTok ER (cellR c j) 0 false : sProp 𝕄)),
      BI.bigSep_univ_comm (fun (c : Dev nD) (j : Fin 12) => (dutyTok ER (cellR (toD (dir j) c) j) 0 false : sProp 𝕄))]
    exact bigSep_congr fun j _ => BI.bigSep_univ_equiv (ringE (dir j)) (fun c : Dev nD => (dutyTok ER (cellR c j) 0 false : sProp 𝕄))
  unfold toks payToks
  rw [bigSep_sep', bigSep_sep', bigSep_sep', bigSep_sep', bigSep_sep', bigSep_sep', hr,
    BI.bigSep_univ_equiv (ringE 1) (fun c : Dev nD => (dutyTok ER (cellB c) 0 false : sProp 𝕄)),
    BI.bigSep_univ_equiv (ringE 0) (fun c : Dev nD => (dutyTok ER (cellB c) 0 true : sProp 𝕄))]
  exact BI.Entails.refl _

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ copies c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hc⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  have hg (c : Dev nD) (_ : c ∈ Finset.univ) : iprop(recs m K ∗ (poss c ∗ payToks c ∗ copies c)) ⊢ G' m c := by
    unfold G'
    iintro ⟨H1, H2⟩
    iexists K
    isplitl [H1] <;> iassumption
  iapply (BI.bigSep_with_persistent (R := recs m K) hg)
  isplitr
  · unfold recs
    rw [bigSep_sep']
    isplitl; · iexact HI
    iexact HR
  · rw [bigSep_sep', bigSep_sep']
    unfold poss
    isplitl [Hat]; · iexact Hat
    isplitl [Htk]; · iexact Htk
    iexact Hc

theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Cert.Run
-- ==== Proof.Credit.lean ====
/-
# The credit at launch, and the order of the waits

What the devices owe at the start, cell by cell: each barrier cell is owed its two units, each receive cell a message's credit. That is
the credit each device starts with. The pipeline's own waits are on cells below everything owed.
-/
module

public import proofs.«01_k».proof.Proof.Ghost

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

theorem kcell_iff {a b : Dev nD} {k k' : CK} : kcell (a, k) = kcell (b, k') ↔ a = b ∧ k = k' :=
  ⟨fun h => ⟨congrArg Prod.fst (kcell_injective h), congrArg Prod.snd (kcell_injective h)⟩, fun h => by rw [h.1, h.2]⟩

/-- A barrier cell is owed no message. -/
theorem owe_bar (d c : Dev nD) (l : List (Fin 12)) : owe d l (cellB c) () = 0 := by
  by_contra h
  obtain ⟨j, -, e⟩ := owe_pos (Nat.pos_of_ne_zero h)
  exact absurd (kcell_iff.mp e).2 (by simp)
/-- A receive cell is owed its message's credit by the device that sends it. -/
theorem owe_recv (d c : Dev nD) (j : Fin 12) (l : List (Fin 12)) : owe d l (cellR c j) () = l.count j * (if d = fromD (dir j) c then N else 0) := by
  induction l with
  | nil => rw [List.count_nil, Nat.zero_mul]; rfl
  | cons i l ih =>
    unfold owe
    rw [Pi.add_apply, Finsupp.add_apply, ih, tallyAt_apply, List.count_cons]
    by_cases hij : i = j
    · subst hij
      by_cases hd : d = fromD (dir i) c
      · subst hd
        rw [if_pos rfl, if_pos (kcell_iff.mpr ⟨(toD_fromD _ _).symm, rfl⟩ |> fun h => ⟨h, rfl⟩), beq_self_eq_true, if_pos rfl, Nat.add_mul, Nat.one_mul]
      · rw [if_neg hd, if_neg (fun h => hd (by rw [(kcell_iff.mp h.1).1, fromD_toD])), Nat.mul_zero, Nat.mul_zero]
    · have hne : ¬(cellR c j = cellR (toD (dir i) d) i ∧ () = ()) := fun h => hij (by
        have := (kcell_iff.mp h.1).2
        simp only [Option.some.injEq, Prod.mk.injEq, true_and] at this
        exact this.symm)
      have hb : ¬((i == j) = true) := fun h => hij (beq_iff_eq.mp h)
      rw [if_neg hne, if_neg hb, Nat.add_zero, Nat.add_zero]

theorem owed_bar (d c : Dev nD) : O₀ d (cellB c) () = (if c = toD 0 d then 1 else 0) + (if c = toD 1 d then 1 else 0) := by
  show (owe d order + tallyAt (cellB (toD 0 d)) () 1 + tallyAt (cellB (toD 1 d)) () 1) (cellB c) () = _
  rw [Pi.add_apply, Finsupp.add_apply, Pi.add_apply, Finsupp.add_apply, owe_bar, tallyAt_apply, tallyAt_apply, Nat.zero_add]
  congr 1
  · exact if_congr (by rw [kcell_iff]; simp) rfl rfl
  · exact if_congr (by rw [kcell_iff]; simp) rfl rfl
theorem owed_recv (d c : Dev nD) (j : Fin 12) : O₀ d (cellR c j) () = if d = fromD (dir j) c then N else 0 := by
  have hne (e : Fin 2) : ¬(cellR c j = cellB (toD e d) ∧ () = ()) := fun h => absurd (kcell_iff.mp h.1).2 (by simp)
  show (owe d order + tallyAt (cellB (toD 0 d)) () 1 + tallyAt (cellB (toD 1 d)) () 1) (cellR c j) () = _
  rw [Pi.add_apply, Finsupp.add_apply, Pi.add_apply, Finsupp.add_apply, owe_recv, tallyAt_apply, tallyAt_apply,
    if_neg (hne 0), if_neg (hne 1), Nat.add_zero,
    show order.count j = 1 from (by decide : ∀ j, order.count j = 1) j, Nat.one_mul]

theorem sum_bar (c : Dev nD) : (∑ d : Dev nD, ((if c = toD 0 d then 1 else 0) + (if c = toD 1 d then 1 else 0))) = 2 := by revert c; decide

theorem launch_bar (c : Dev nD) : tallyOn (cellB c) (launchCredit (Pipeline.owing O₀) 0 (cellB c)) = (tallyAt (cellB c) () 2 : CellTallies nD τ sig Unit) := by
  unfold tallyAt; refine congrArg _ (Finsupp.ext fun u => ?_); cases u
  rw [Pipeline.launchCredit_owing, Finsupp.single_eq_same, Finset.sum_congr rfl fun d _ => owed_bar d c, sum_bar]
theorem launch_recv (c : Dev nD) (j : Fin 12) : tallyOn (cellR c j) (launchCredit (Pipeline.owing O₀) 0 (cellR c j)) = (tallyAt (cellR c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (fromD (dir j) c) fun _ => N,
    if_pos (Finset.mem_univ _)]

/-- The barrier and the receive cells among a device's semaphores. -/
def credSem : Option (Fin 12) ↪ SemLoc sig :=
  ⟨fun x => csem (x.map fun j => (true, j)), fun a b h => by
    have := csem_inj h
    rcases a with _ | a <;> rcases b with _ | b <;> simp_all⟩

theorem creds (c : Dev nD) : (Pipeline.launchCred O₀ c : sProp 𝕄)
    ⊢ iprop(cred (tallyAt (cellB c) () 2) ∗ bigSep Finset.univ fun j : Fin 12 => cred (tallyAt (cellR c j) () N)) := by
  unfold Pipeline.launchCred
  refine (BI.bigSep_subset (Finset.subset_univ (Finset.univ.map credSem))).trans ?_
  rw [bigSep_map, sep_opt]
  refine BI.sep_mono ?_ (bigSep_mono fun j _ => ?_)
  · exact Entails.of_eq (congrArg cred (launch_bar c))
  · exact Entails.of_eq (congrArg cred (launch_recv c j))

/-! ## The waits of the pipeline -/

theorem owed_pos {c : Dev nD} {g : GSem nD τ sig} {u : Unit} (h : 0 < O₀ c g u) : ∃ (d : Dev nD) (k : CK), g = kcell (d, k) ∧ 0 < lvK (some k) := by
  change 0 < (owe c order + tallyAt (cellB (toD 0 c)) () 1 + tallyAt (cellB (toD 1 c)) () 1) g u at h
  rw [Pi.add_apply, Finsupp.add_apply, Pi.add_apply, Finsupp.add_apply, tallyAt_apply, tallyAt_apply] at h
  by_cases h1 : g = cellB (toD 1 c) ∧ u = ()
  · exact ⟨_, _, h1.1, Nat.one_pos⟩
  by_cases h0 : g = cellB (toD 0 c) ∧ u = ()
  · exact ⟨_, _, h0.1, Nat.one_pos⟩
  rw [if_neg h1, if_neg h0, Nat.add_zero] at h
  obtain ⟨j, -, e⟩ := owe_pos h
  exact ⟨_, _, e, by show 0 < 2 + ph j; omega⟩

theorem mayWait_low (c : Dev nD) (sm : SemLoc sig) (hs : lvK (kindOf sm) = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by obtain ⟨d, k, rfl, -⟩ := owed_pos hg; exact Finset.mem_singleton_self _)
      (fun p hp => by rw [Finset.mem_singleton.mp hp]; exact Nat.le_of_eq hs)
      (fun g u hg => by obtain ⟨d, k, rfl, hk⟩ := owed_pos hg; rw [lv_at]; exact hk)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

end Cert.Run
-- ==== Proof.Final.lean ====
/-
# The whole run

From any memory with every counter at zero the program terminates, and every final state has the result array at the values computed on
each device, the arguments as they were, and every counter at zero.
-/
module

public import proofs.«01_k».proof.Proof.Credit
public import Idealize.ShloMosaic.Lib.Pipeline.CollectiveSegs
public import Idealize.ShloMosaic.Lib.Pipeline.ValueKit

@[expose] public section

noncomputable section

namespace Cert.Run

open Cert.KernelIdeal Cert.KernelIdeal.Gen
open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- A device goes off with the invariants, its positions, its tokens and its credit. -/
theorem ghost_intro (c : Dev nD) (K : Dev nD × CK → ℕ) :
    iprop(recs m K ∗ levAts L lv ∗ poss c ∗ payToks c ∗ cred (tallyAt (cellB c) () 2) ∗ bigSep Finset.univ fun j : Fin 12 => cred (tallyAt (cellR c j) () N))
      ⊢ (ghost m c : sProp 𝕄) := by
  unfold poss payToks ghost
  rw [sep_CK]
  iintro ⟨HR, HL, ⟨HpB, HpS, HpR⟩, ⟨⟨Ht0, Ht1⟩, HtS, HtR⟩, HcB, HcR⟩
  iexists K
  isplitl [HR HL]
  · unfold Pers recs
    isplitl [HR] <;> iassumption
  isplitl [HpS HpR HtS HtR HcR]
  · iapply (show (bigSep Finset.univ fun j : Fin 12 => iprop(dutyTok ER (cellS c j) 0 false ∗ dutyTok ER (cellR (toD (dir j) c) j) 0 false ∗ atPos ER (cellS c j) 0 ∅ 0
        ∗ atPos ER (cellR c j) 0 ∅ 0 ∗ cred (tallyAt (cellR c j) () N))) ⊢ (bigSep Finset.univ fun j : Fin 12 => Lane c j 0 : sProp 𝕄) from BI.Entails.refl _)
    rw [bigSep_sep', bigSep_sep', bigSep_sep', bigSep_sep']
    isplitl [HtS]; · iexact HtS
    isplitl [HtR]; · iexact HtR
    isplitl [HpS]; · iexact HpS
    isplitl [HpR]; · iexact HpR
    iexact HcR
  · iapply (show iprop(dutyTok ER (cellB (toD 1 c)) 0 false ∗ dutyTok ER (cellB (toD 0 c)) 0 true ∗ atPos ER (cellB c) 0 ∅ 0 ∗ cred (tallyAt (cellB c) () 2))
      ⊢ (Bar c 3 : sProp 𝕄) from BI.Entails.refl _)
    isplitl [Ht0]; · iexact Ht0
    isplitl [Ht1]; · iexact Ht1
    isplitl [HpB]; · iexact HpB
    iexact HcB

theorem rest_eq (c : Dev nD) : (Pipeline.unscopedRestP Pipeline.Prefetch.none cfg0.spec c (fun b => m ((c : Thread nD τ).loc b)) : sProp 𝕄) = Hbm m c := by
  rw [Pipeline.unscopedRestP_eq_of_list cfg0.spec c Pipeline.Prefetch.none (fun b => m ((c : Thread nD τ).loc b)) [main_arg1, main_arg2, main_arg3, main_arg4] (by decide) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  unfold start G'
  iintro ⟨HH, Hlev, Hcr, -, ⟨%K, HR, Hp, Ht, Hc⟩⟩
  ihave Hcr := (creds (F := F) c) $$ Hcr
  icases Hcr with ⟨H2, HN⟩
  imodintro
  isplitl
  · isplitl [Hlev H2 HN HR Hp Ht]
    · iapply (ghost_intro m c K)
      isplitl [HR]; · iexact HR
      isplitl [Hlev]; · iexact Hlev
      isplitl [Hp]; · iexact Hp
      isplitl [Ht]; · iexact Ht
      isplitl [H2]; · iexact H2
      iexact HN
    · isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop((unscopedSems0 c ∗ Hbm m c) ∗ own0 c ∗ Pipeline.scopedRest cfg0.spec c) := by
  rw [show (dats m ρ 0 c).Φ (Fin.last cfg0.N) = Φ₁ m c from rfl, scopedRest0_eq, ownSems0_eq, unscopedSems0_eq]
  unfold Φ₁ Scr
  rw [bigSep_sep']
  iintro ⟨HB, HC, ⟨HS, HR⟩, HH, Hr⟩
  isplitl [HB HH]
  · isplitl [HB] <;> iassumption
  isplitl [HC HS HR]
  · isplitl [HC]; · iexact HC
    isplitl [HS] <;> iassumption
  iexact Hr

/-- What is read off the final memory besides the result: the arguments in main memory. -/
def Kept (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)

theorem hbm_read (c : Dev nD) (s' : Phys nD τ sig (Elt F)) : iprop(Hbm m c ∗ SI s') ⊢ (iprop(⌜Kept m c s'.mem⌝ ∗ SI s') : sProp 𝕄) := by
  unfold Hbm
  iintro ⟨⟨H1, H2, H3, H4⟩, HSI⟩
  icombine HSI H1 gives %h1
  icombine HSI H2 gives %h2
  icombine HSI H3 gives %h3
  icombine HSI H4 gives %h4
  isplitr
  · ipureintro
    exact ⟨Buf.eq_of_forall_mem_univ h1, Buf.eq_of_forall_mem_univ h2, Buf.eq_of_forall_mem_univ h3, Buf.eq_of_forall_mem_univ h4⟩
  iexact HSI

theorem end_read (c : Dev nD) (s' : Phys nD τ sig (Elt F)) : iprop((unscopedSems0 c ∗ Hbm m c) ∗ emp ∗ SI s')
    ⊢ |={Set.univ}=> (iprop(⌜Kept m c s'.mem ∧ ∀ sm : SemLoc sig, sm.isScoped .tc = false → s'.mem.sem ((c.tc : Thread nD τ), sm) = 0⌝ ∗ SI s') : sProp 𝕄) := by
  iintro ⟨⟨Hu, HH⟩, -, HSI⟩
  ihave H := (hbm_read m c s') $$ [HH HSI]
  · isplitl [HH] <;> iassumption
  icases H with ⟨%hk, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hk, hs⟩
  iexact HSI

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ Kept m c r.2

set_option maxRecDepth 40000 in
/-- The run: it terminates, each device's arrays end at the computed contents, and every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ Hbm m c)) (Z := fun _ => iprop(emp))
    (hX := start_intro m ρ) (hin := phi0_intro m ρ) (hout := phi1_exit m ρ)
    (QY := fun c s => Kept m c s ∧ ∀ sm : SemLoc sig, sm.isScoped .tc = false → s.sem ((c.tc : Thread nD τ), sm) = 0)
    (hY := end_read m)
    (hQ := fun _ h hs => ⟨fun c => ⟨(h c).1, (h c).2.2.1⟩, sem_eq_zero hs fun c => (h c).2.2.2⟩)

/-- The `x` array ends as it began; -/
theorem finalA_x (c : Dev nD) : finalA m ρ c (0 : Fin 2) = m ((c : Thread nD τ).loc main_arg0) :=
  (dats (F := F) m ρ 0 c).arrAt_in (0 : Fin 2) rfl _
/-- the result array ends at the block the body wrote. -/
theorem finalA_out (c : Dev nD) : finalA m ρ c (1 : Fin 2) = outAt m c :=
  (dats (F := F) m ρ 0 c).arrAt_eq_of_after_last (1 : Fin 2) t₀ (by decide +kernel) (outAt m c) (fun _ => rfl)

/-- What the run leaves on each device. -/
theorem run_ends : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0) ∧ Kept m c r.2) ∧ r.2.sem = fun _ => 0) :=
  (θ_run (defs (F := F)) _ _).mono (fun r hr => ⟨fun c => ⟨((hr.1 c).1 1).trans (finalA_out m ρ c), ((hr.1 c).1 0).trans (finalA_x m ρ c), (hr.1 c).2⟩, hr.2⟩) (run_main m ρ)

end Cert.Run
-- ==== Proof.Same.lean ====
/-
# One program, printed twice

The kernel and its idealisation are the same program: nothing was rewritten. So what holds of the one at bits holds of the other.
-/
module

public import proofs.«01_k».proof.Defs
public import proofs.«01_k».proof.Proof.Gen.Kernel
public import proofs.«01_k».proof.Proof.Gen.KernelIdeal

@[expose] public section

noncomputable section

namespace Cert.Run

open Idealize.ShloMosaic Idealize.SL.Sem Idealize.ShloMosaic.TcCoe

variable {F : FTy → Type} [FloatOps F]

set_option maxRecDepth 100000 in
theorem main_same : Cert.Kernel.main (F := F) = Cert.KernelIdeal.main (F := F) := rfl

set_option maxRecDepth 100000 in
theorem body_same : @Cert.Kernel.cc0_body F _ Cert.Kernel.Gen.facts = @Cert.KernelIdeal.cc0_body F _ Cert.KernelIdeal.Gen.facts := rfl

theorem defs_same : Cert.Kernel.defs (F := F) = Cert.KernelIdeal.defs (F := F) := by
  have h : Cert.Kernel.defs₀ (F := F) = Cert.KernelIdeal.defs₀ (F := F) := by
    refine congrArg Defs.onTc (funext fun ℓ => funext fun a => ?_)
    match ℓ, a with
    | 0, (t, s) =>
      dsimp only
      rw [body_same]
  unfold Cert.Kernel.defs Cert.KernelIdeal.defs
  rw [h]
  rfl

end Cert.Run

end
-- ==== Proof.Softmax.lean ====
/-
# Softmax with a mask, over extended reals

What both programs compute for one query and one head: the values mixed by the softmax of the scores (`mix`). The kernel
takes it over the 512 keys the query attends to; the reference over all 2048, the scores of the others minus infinity.
`mix_masked` says that these agree when the scores the query attends to are real numbers.
-/
module

public import Idealize.ShloMosaic.PureOps.Ideal
public import Idealize.ShloMosaic.PureOps.Ideal.Laws

@[expose] public section

noncomputable section

namespace Cert.Softmax

open Idealize.ShloMosaic

variable {ι κ : Type} [Fintype ι] [Fintype κ]

/-- The greatest score. -/
def top (s : ι → EReal) : EReal := Finset.univ.fold max ⊥ s

/-- A score's exponential, the greatest score subtracted first. -/
def expo (s : ι → EReal) (j : ι) : EReal := Ideal.exp (s j - top s)

/-- A score's softmax weight. -/
def weight (s : ι → EReal) (j : ι) : EReal := Ideal.div (expo s j) (∑ j', expo s j')

/-- The values mixed by the softmax of the scores. -/
def mix (s v : ι → EReal) : EReal := ∑ j, weight s j * v j

theorem top_eq_sup (s : ι → EReal) : top s = Finset.univ.sup s := rfl

/-- The greatest of finitely many real scores is one of them. -/
theorem top_mem [Nonempty ι] (s : ι → EReal) : ∃ i, top s = s i := by
  obtain ⟨i, _, h⟩ := Finset.exists_mem_eq_sup Finset.univ Finset.univ_nonempty s
  exact ⟨i, h⟩

/-- Scores of minus infinity do not change the greatest. -/
theorem top_masked (f : ι → κ) (s : κ → EReal) (hn : ∀ k, k ∉ Set.range f → s k = ⊥) : top s = top (s ∘ f) := by
  simp only [top_eq_sup]
  refine le_antisymm (Finset.sup_le fun k _ => ?_) (Finset.sup_le fun i _ => Finset.le_sup (f := s) (Finset.mem_univ (f i)))
  by_cases h : k ∈ Set.range f
  · obtain ⟨i, rfl⟩ := h
    exact Finset.le_sup (f := s ∘ f) (Finset.mem_univ i)
  · rw [hn k h]; exact bot_le

theorem exp_bot : Ideal.exp ⊥ = 0 := rfl
theorem exp_coe (r : ℝ) : Ideal.exp (r : EReal) = (Real.exp r : ℝ) := rfl

theorem exp_nonneg (x : EReal) : 0 ≤ Ideal.exp x := by
  induction x with
  | bot => exact le_refl _
  | coe r => rw [exp_coe]; exact_mod_cast (Real.exp_pos r).le
  | top => exact le_top

/-- The sum of the exponentials of real scores is positive. -/
theorem sum_expo_pos [Nonempty ι] (s : ι → EReal) (hs : ∀ i, ∃ r : ℝ, s i = r) : 0 < ∑ i, expo s i := by
  obtain ⟨i, hi⟩ := top_mem s
  obtain ⟨r, hr⟩ := hs i
  have h1 : 0 < expo s i := by
    unfold expo
    rw [hi, hr, ← EReal.coe_sub, exp_coe]
    exact_mod_cast Real.exp_pos _
  exact lt_of_lt_of_le h1 (Finset.single_le_sum (f := expo s) (fun j _ => exp_nonneg _) (Finset.mem_univ i))

/-- Over keys `κ` of which only those named by `f` have a real score and the others minus infinity, the mix is the mix
    over the keys `f` names. -/
theorem mix_masked [Nonempty ι] (f : ι → κ) (hf : Function.Injective f) (s v : κ → EReal)
    (hs : ∀ i, ∃ r : ℝ, s (f i) = r) (hn : ∀ k, k ∉ Set.range f → s k = ⊥) : mix s v = mix (s ∘ f) (v ∘ f) := by
  have htop := top_masked f s hn
  have hreal : ∃ r : ℝ, top (s ∘ f) = r := by
    obtain ⟨i, hi⟩ := top_mem (s ∘ f)
    obtain ⟨r, hr⟩ := hs i
    exact ⟨r, hi.trans hr⟩
  have hexpo : ∀ i, expo s (f i) = expo (s ∘ f) i := fun i => by unfold expo; rw [htop]; rfl
  have hzero : ∀ k, k ∉ Set.range f → expo s k = 0 := fun k hk => by
    obtain ⟨r, hr⟩ := hreal
    unfold expo
    rw [htop, hn k hk, hr, EReal.bot_sub, exp_bot]
  have hsum : ∑ k, expo s k = ∑ i, expo (s ∘ f) i :=
    (Fintype.sum_of_injective f hf _ _ (fun k hk => hzero k hk) (fun i => (hexpo i).symm)).symm
  have hpos : (∑ i, expo (s ∘ f) i) ≠ 0 := (sum_expo_pos (s ∘ f) hs).ne'
  unfold mix
  refine (Fintype.sum_of_injective f hf _ _ (fun k hk => ?_) (fun i => ?_)).symm
  · unfold weight
    rw [hzero k hk, hsum, Ideal.div, if_neg hpos, zero_mul, zero_mul]
  · unfold weight
    rw [hexpo i, hsum]; rfl

end Cert.Softmax
-- ==== Proof.HalfVal.lean ====
/-
# The kernel's half chunk at an element

What one device computes for 256 rows, read at a row and a column: the projection of the row, the softmax-weighted mix
of the values of the row's residue group in each head, and the product with the device's slice of the output weights.
-/
module

public import proofs.«01_k».proof.Proof.Vals
public import proofs.«01_k».proof.Proof.Softmax
public import Idealize.ShloMosaic.Lib.Pointwise

@[expose] public section

noncomputable section

namespace Cert.HalfVal

open Cert.KernelIdeal Cert.KernelIdeal.Gen
open Idealize.ShloMosaic Cert.Softmax

/-- The factor the scores are scaled by. -/
abbrev scale : EReal := Ideal.ofBits .f32 0x3DB504F3#32

/-- The word that stands for minus infinity. -/
theorem word_bot : Ideal.ofBits .f32 0xFF800000#32 = ⊥ := by
  simp [Ideal.ofBits, Ideal.ieee]

/-- The score of row `a` of residue group `r` with key `t`, in head `h`. -/
def score (q : FVec Ideal S4x64x8x128 .f32) (k : Vec Ideal S1x8x8x64x128 .f32) (r : Fin 4) (a : Fin 64) (h : Fin 8) (t : Fin 512) : EReal :=
  (∑ e : Fin 128, q (ix4 r a h e) * k (ix5 0 h ⟨t.val / 64, by omega⟩ ⟨t.val % 64, by omega⟩ e)) * scale

/-- What the heads give for it, at column `b` of the eight laid side by side. -/
def att (q : FVec Ideal S4x64x8x128 .f32) (k v : Vec Ideal S1x8x8x64x128 .f32) (r : Fin 4) (a : Fin 64) (b : Fin 1024) : EReal :=
  mix (score q k r a ⟨b.val / 128, by omega⟩)
    (fun t => v (ix5 0 ⟨b.val / 128, by omega⟩ ⟨t.val / 64, by omega⟩ ⟨t.val % 64, by omega⟩ ⟨b.val % 128, by omega⟩))

theorem pay4_apply (q : FVec Ideal S4x64x8x128 .f32) (k v : Vec Ideal S1x8x8x64x128 .f32) (a : Fin 64) (b : Fin 1024) :
    k0_pay4 q k v (ix2 a b) = att q k v 0 a b := by
  unfold k0_pay4 att mix weight expo top score
  pointwise
  simp only [word_bot]

theorem pay8_apply (q : FVec Ideal S4x64x8x128 .f32) (k v : Vec Ideal S1x8x8x64x128 .f32) (a : Fin 64) (b : Fin 1024) :
    k0_pay8 (k0_pay5 q) (k0_pay6 k) (k0_pay7 v) (ix2 a b) = att q k v 1 a b := by
  unfold k0_pay8 k0_pay5 k0_pay6 k0_pay7 att mix weight expo top score
  pointwise
  simp only [word_bot]

theorem pay9_apply (q : FVec Ideal S4x64x8x128 .f32) (k v : Vec Ideal S1x8x8x64x128 .f32) (a : Fin 64) (b : Fin 1024) :
    k0_pay9 q k v (ix2 a b) = att q k v 2 a b := by
  unfold k0_pay9 att mix weight expo top score
  pointwise
  simp only [word_bot]

theorem pay3_apply (x : Vec Ideal S1x256x1024 .f32) (w : Vec Ideal S1024x1024 .f32) (r : Fin 4) (a : Fin 64) (h : Fin 8) (e : Fin 128) :
    k0_pay3 x w (ix4 r a h e) = ∑ c : Fin 1024, x (ix3 0 ⟨r.val * 64 + a.val, by omega⟩ c) * w (ix2 c ⟨h.val * 128 + e.val, by omega⟩) := by
  unfold k0_pay3
  pointwise

theorem pay11_apply (q : FVec Ideal S4x64x8x128 .f32) (k : Vec Ideal S1x8x8x64x128 .f32) (a : Fin 64) (h : Fin 8) (t : Fin 512) :
    k0_pay11 q k (ix3 h a t) = score q k 3 a h t := by
  unfold k0_pay11 score
  pointwise

theorem pay10_apply (v : Vec Ideal S1x8x8x64x128 .f32) (h : Fin 8) (t : Fin 512) (e : Fin 128) :
    k0_pay10 v (ix3 h t e) = v (ix5 0 h ⟨t.val / 64, by omega⟩ ⟨t.val % 64, by omega⟩ e) := by
  unfold k0_pay10
  pointwise

/-- One of four functions of a row, by the group of 64 the row lies in. -/
theorem pick (A : Fin 4 → Fin 64 → EReal) (a b c d : Fin 64 → EReal) (h0 : a = A 0) (h1 : b = A 1) (h2 : c = A 2) (h3 : d = A 3) (i : Fin 256) :
    (if h : i.val < 64 then a ⟨i.val, h⟩ else
      if h' : i.val - 64 < 64 then b ⟨i.val - 64, h'⟩ else
        if h'' : i.val - 64 - 64 < 64 then c ⟨i.val - 64 - 64, h''⟩ else d ⟨i.val - 64 - 64 - 64, by omega⟩)
      = A ⟨i.val / 64, by omega⟩ ⟨i.val % 64, by omega⟩ := by
  subst h0 h1 h2 h3
  by_cases e0 : i.val < 64
  · rw [dif_pos e0]
    exact congrArg₂ A (Fin.ext (show 0 = i.val / 64 by omega)) (Fin.ext (show i.val = i.val % 64 by omega))
  rw [dif_neg e0]
  by_cases e1 : i.val - 64 < 64
  · rw [dif_pos e1]
    exact congrArg₂ A (Fin.ext (show 1 = i.val / 64 by omega)) (Fin.ext (show i.val - 64 = i.val % 64 by omega))
  rw [dif_neg e1]
  by_cases e2 : i.val - 64 - 64 < 64
  · rw [dif_pos e2]
    exact congrArg₂ A (Fin.ext (show 2 = i.val / 64 by omega)) (Fin.ext (show i.val - 64 - 64 = i.val % 64 by omega))
  rw [dif_neg e2]
  exact congrArg₂ A (Fin.ext (show 3 = i.val / 64 by omega)) (Fin.ext (show i.val - 64 - 64 - 64 = i.val % 64 by omega))

/-- The last group's mix, as the kernel's closing step takes it: from the scores and the values. -/
def last (v : FVec Ideal S8x512x128 .f32) (s : FVec Ideal S8x64x512 .f32) (a : Fin 64) (l : Fin 1024) : EReal :=
  mix (fun t => s (ix3 ⟨l.val / 128, by omega⟩ a t)) (fun t => v (ix3 ⟨l.val / 128, by omega⟩ t ⟨l.val % 128, by omega⟩))

set_option maxHeartbeats 1000000 in
theorem pay12_raw (a b c : FVec Ideal S64x1024 .f32) (v : FVec Ideal S8x512x128 .f32) (s : FVec Ideal S8x64x512 .f32) (w : Vec Ideal S1024x1024 .f32)
    (i : Fin 256) (n : Fin 1024) :
    k0_pay12 a b c v s w (ix3 0 i n) = ∑ l : Fin 1024, (if h : i.val < 64 then a (ix2 ⟨i.val, h⟩ l) else
      if h' : i.val - 64 < 64 then b (ix2 ⟨i.val - 64, h'⟩ l) else
        if h'' : i.val - 64 - 64 < 64 then c (ix2 ⟨i.val - 64 - 64, h''⟩ l) else last v s ⟨i.val - 64 - 64 - 64, by omega⟩ l) * w (ix2 l n) := by
  unfold k0_pay12 last mix weight expo top
  pointwise
  simp only [word_bot]

theorem pay12_apply (A : Fin 4 → Fin 64 → Fin 1024 → EReal) (a b c : FVec Ideal S64x1024 .f32) (v : FVec Ideal S8x512x128 .f32) (s : FVec Ideal S8x64x512 .f32) (w : Vec Ideal S1024x1024 .f32)
    (h0 : ∀ i l, a (ix2 i l) = A 0 i l) (h1 : ∀ i l, b (ix2 i l) = A 1 i l) (h2 : ∀ i l, c (ix2 i l) = A 2 i l)
    (h3 : ∀ i (l : Fin 1024), last v s i l = A 3 i l) (i : Fin 256) (n : Fin 1024) :
    k0_pay12 a b c v s w (ix3 0 i n) = ∑ l : Fin 1024, A ⟨i.val / 64, by omega⟩ ⟨i.val % 64, by omega⟩ l * w (ix2 l n) := by
  rw [pay12_raw]
  exact Finset.sum_congr rfl fun l _ => congrArg (· * _) (pick (fun r a => A r a l) (fun i => a (ix2 i l)) (fun i => b (ix2 i l)) (fun i => c (ix2 i l))
    (fun i => last v s i l) (funext fun i => h0 i l) (funext fun i => h1 i l) (funext fun i => h2 i l) (funext fun i => h3 i l) i)

/-- The half chunk at row `i`, column `n`. -/
theorem half_apply (x : Vec Ideal S1x256x1024 .f32) (wq wo : Vec Ideal S1024x1024 .f32) (k v : Fin 4 → Vec Ideal S1x8x8x64x128 .f32) (i : Fin 256) (n : Fin 1024) :
    Run.halfOf x wq wo k v (ix3 0 i n)
      = ∑ l : Fin 1024, att (k0_pay3 x wq) (k ⟨i.val / 64, by omega⟩) (v ⟨i.val / 64, by omega⟩) ⟨i.val / 64, by omega⟩ ⟨i.val % 64, by omega⟩ l * wo (ix2 l n) := by
  unfold Run.halfOf
  refine pay12_apply (fun r a l => att (k0_pay3 x wq) (k r) (v r) r a l) _ _ _ _ _ _ (fun a l => pay4_apply ..) (fun a l => pay8_apply ..)
    (fun a l => pay9_apply ..) (fun a l => ?_) i n
  unfold last
  simp only [pay11_apply, pay10_apply]
  rfl

end Cert.HalfVal
-- ==== Proof.RefVal.lean ====
/-
# The reference's result, piece by piece

The reference is one term of host operations. It is cut here into named pieces — the block of 64 rows a position lies
in, the residue of that block modulo 4, the attention mask, the scores, the masked exponentials, the result — and each
piece is read at an index.
-/
module

public import proofs.«01_k».proof.Proof.Gen.ReferenceIdeal.Run
public import Idealize.ShloMosaic.Lib.Pointwise
public import proofs.«01_k».proof.Proof.Softmax

@[expose] public section

noncomputable section

namespace Cert.RefVal

open Cert.ReferenceIdeal Cert.ReferenceIdeal.Gen Cert.ReferenceIdeal.Value
open Idealize.ShloMosaic Idealize.ShloMosaic.TcCoe
open Cert.ReferenceIdeal.Facts

/-! ## The mask -/

/-- The block of 64 positions each position lies in. -/
def blk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The divisor of the residues: 4, guarded against zero. -/
def four : IVec S_ 32 := select (cmpi .eq (id (constantI S_ 32 4#32)) (constantI S_ 32 0#32)) (constantI S_ 32 1#32) (id (constantI S_ 32 4#32))

/-- The residue class of each key's block; -/
def resK : IVec S1x2048 32 :=
  select (andi (cmpi .ne (cmpi .slt (Host.remsi (broadcastInDim S1x2048 ![1] bcast_S2048_S1x2048_1 blk) (broadcastInDim S1x2048 ![] bcast_S_S1x2048 four)) (broadcastInDim S1x2048 ![] bcast_S_S1x2048 (constantI S_ 32 0#32))) (broadcastInDim S1x2048 ![] bcast_S_S1x2048 (cmpi .slt four (constantI S_ 32 0#32)))) (cmpi .ne (Host.remsi (broadcastInDim S1x2048 ![1] bcast_S2048_S1x2048_1 blk) (broadcastInDim S1x2048 ![] bcast_S_S1x2048 four)) (broadcastInDim S1x2048 ![] bcast_S_S1x2048 (constantI S_ 32 0#32)))) (addi (Host.remsi (broadcastInDim S1x2048 ![1] bcast_S2048_S1x2048_1 blk) (broadcastInDim S1x2048 ![] bcast_S_S1x2048 four)) (broadcastInDim S1x2048 ![] bcast_S_S1x2048 four)) (Host.remsi (broadcastInDim S1x2048 ![1] bcast_S2048_S1x2048_1 blk) (broadcastInDim S1x2048 ![] bcast_S_S1x2048 four))
/-- and of each query's. -/
def resQ : IVec S2048x1 32 :=
  select (andi (cmpi .ne (cmpi .slt (Host.remsi (broadcastInDim S2048x1 ![0] bcast_S2048_S2048x1_0 blk) (broadcastInDim S2048x1 ![] bcast_S_S2048x1 four)) (broadcastInDim S2048x1 ![] bcast_S_S2048x1 (constantI S_ 32 0#32))) (broadcastInDim S2048x1 ![] bcast_S_S2048x1 (cmpi .slt four (constantI S_ 32 0#32)))) (cmpi .ne (Host.remsi (broadcastInDim S2048x1 ![0] bcast_S2048_S2048x1_0 blk) (broadcastInDim S2048x1 ![] bcast_S_S2048x1 four)) (broadcastInDim S2048x1 ![] bcast_S_S2048x1 (constantI S_ 32 0#32)))) (addi (Host.remsi (broadcastInDim S2048x1 ![0] bcast_S2048_S2048x1_0 blk) (broadcastInDim S2048x1 ![] bcast_S_S2048x1 four)) (broadcastInDim S2048x1 ![] bcast_S_S2048x1 four)) (Host.remsi (broadcastInDim S2048x1 ![0] bcast_S2048_S2048x1_0 blk) (broadcastInDim S2048x1 ![] bcast_S_S2048x1 four))

/-- Which key each query attends to. -/
def mask : IVec S2048x2048 1 :=
  ori (cmpi .eq (broadcastInDim S2048x2048 ![0, 1] bcast_S2048x1_S2048x2048_0_1 (broadcastInDim S2048x1 ![0] bcast_S2048_S2048x1_0 blk)) (broadcastInDim S2048x2048 ![0, 1] bcast_S1x2048_S2048x2048_0_1 (broadcastInDim S1x2048 ![1] bcast_S2048_S1x2048_1 blk))) (cmpi .eq (broadcastInDim S2048x2048 ![0, 1] bcast_S1x2048_S2048x2048_0_1 resK) (broadcastInDim S2048x2048 ![0, 1] bcast_S2048x1_S2048x2048_0_1 resQ))

/-- Which queries attend to any key. -/
def keep : IVec S2048 1 := Host.reduce IntOp.ori mask (constantI S_ 1 0#1) reducesTo_S2048x2048_S2048_d1 h_S_

theorem blk_apply (i : Fin 2048) : blk (ix1 i) = BitVec.ofNat 32 (i.val / 64) := by
  unfold blk
  pointwise
  revert i
  decide +kernel

theorem four_apply : four ix0 = 4#32 := by decide +kernel

theorem resK_apply (j : Fin 2048) : resK (ix2 0 j) = BitVec.ofNat 32 (j.val / 64 % 4) := by
  unfold resK
  pointwise
  simp only [blk_apply, four_apply]
  generalize hb : j.val / 64 = b
  have : b < 32 := by omega
  clear hb
  interval_cases b <;> decide +kernel

theorem resQ_apply (j : Fin 2048) : resQ (ix2 j 0) = BitVec.ofNat 32 (j.val / 64 % 4) := by
  unfold resQ
  pointwise
  simp only [blk_apply, four_apply]
  generalize hb : j.val / 64 = b
  have : b < 32 := by omega
  clear hb
  interval_cases b <;> decide +kernel

theorem mask_words : ∀ p q : Fin 32, IntOp.ori (IntOp.cmpi CmpIPredicate.eq (BitVec.ofNat 32 p.val) (BitVec.ofNat 32 q.val))
    (IntOp.cmpi CmpIPredicate.eq (BitVec.ofNat 32 (q.val % 4)) (BitVec.ofNat 32 (p.val % 4)))
    = BitVec.ofBool (decide (q.val % 4 = p.val % 4)) := by decide +kernel

/-- A query attends to the keys whose block has the residue of its own. -/
theorem mask_apply (i j : Fin 2048) : mask (ix2 i j) = BitVec.ofBool (decide (j.val / 64 % 4 = i.val / 64 % 4)) := by
  unfold mask
  pointwise
  simp only [blk_apply, resK_apply, resQ_apply]
  exact mask_words ⟨i.val / 64, by omega⟩ ⟨j.val / 64, by omega⟩

/-- Or-ing truth values of which one is true gives true. -/
theorem fold_ori {ι : Type} [Fintype ι] [DecidableEq ι] (f : ι → BitVec 1) (i : ι) (h : f i = 1#1) :
    Finset.fold IntOp.ori (0#1) f Finset.univ = 1#1 := by
  rw [← Finset.insert_erase (Finset.mem_univ i), Finset.fold_insert (Finset.notMem_erase _ _), h]
  generalize Finset.fold IntOp.ori (0#1) f _ = w
  revert w
  decide

/-- Every query attends to itself, so to some key. -/
theorem keep_apply (i : Fin 2048) : keep (ix1 i) = 1#1 := by
  unfold keep
  pointwise
  exact fold_ori _ i (by rw [mask_apply, decide_eq_true rfl]; rfl)

/-! ## The scores and the result -/

variable (x : FVec Ideal S1x2048x1024 .f32) (wq : FVec Ideal S1024x4096 .f32) (k v : FVec Ideal S8x4x64x32x128 .f32) (wo : FVec Ideal S4096x1024 .f32)

/-- The scaled scores of every query with every key. -/
def sc : FVec Ideal S1x32x2048x2048 .f32 :=
  mulf (Host.dotGeneral dot_S1x2048x32x128_S1x2048x32x128_S1x32x2048x2048_3_3_1_1_02_02 none (shapeCast _ (Host.dotGeneral dot_S1x2048x1024_S1024x4096_S1x2048x4096_2_0_01_1_n_n none x wq) shapeCasts_S1x2048x4096_S1x2048x32x128) (shapeCast _ k shapeCasts_S8x4x64x32x128_S1x2048x32x128)) (broadcastInDim S1x32x2048x2048 ![] bcast_S_S1x32x2048x2048 (constant S_ .f32 0x3DB504F3#32))

/-- The scores, those of the keys a query does not attend to replaced by minus infinity. -/
def lg (s : FVec Ideal S1x32x2048x2048 .f32) : FVec Ideal S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 mask)) s (broadcastInDim S1x32x2048x2048 ![] bcast_S_S1x32x2048x2048 (id (constant S_ .f32 0xFF800000#32)))

/-- Their exponentials, each row's maximum subtracted first. -/
def ex (l : FVec Ideal S1x32x2048x2048 .f32) : FVec Ideal S1x32x2048x2048 .f32 :=
  Host.exp (subf l (broadcastInDim S1x32x2048x2048 ![0, 1, 2, 3] bcast_S1x32x2048x1_S1x32x2048x2048_0_1_2_3 (broadcastInDim S1x32x2048x1 ![0, 1, 2] bcast_S1x32x2048_S1x32x2048x1_0_1_2 (Host.reduce FloatOps.maximumf l (constant S_ .f32 0xFF800000#32) reducesTo_S1x32x2048x2048_S1x32x2048_d3 h_S_))))

/-- Each row's sum of them, or one where the query attends to nothing. -/
def den (e : FVec Ideal S1x32x2048x2048 .f32) : FVec Ideal S1x32x2048x1 .f32 :=
  select (broadcastInDim S1x32x2048x1 ![0, 1, 2, 3] bcast_S1x1x2048x1_S1x32x2048x1_0_1_2_3 (broadcastInDim S1x1x2048x1 ![2] bcast_S2048_S1x1x2048x1_2 keep)) (broadcastInDim S1x32x2048x1 ![0, 1, 2] bcast_S1x32x2048_S1x32x2048x1_0_1_2 (Host.reduceAdd e (constant S_ .f32 0x00000000#32) reducesTo_S1x32x2048x2048_S1x32x2048_d3 h_S_)) (broadcastInDim S1x32x2048x1 ![] bcast_S_S1x32x2048x1 (id (constant S_ .f32 0x3F800000#32)))

/-- The weights: each exponential divided by its row's sum. -/
def wt (e : FVec Ideal S1x32x2048x2048 .f32) (d : FVec Ideal S1x32x2048x1 .f32) : FVec Ideal S1x32x2048x2048 .f32 :=
  select (broadcastInDim S1x32x2048x2048 ![0, 1, 2, 3] bcast_S1x1x2048x1_S1x32x2048x2048_0_1_2_3 (broadcastInDim S1x1x2048x1 ![2] bcast_S2048_S1x1x2048x1_2 keep)) (Host.divf e (broadcastInDim S1x32x2048x2048 ![0, 1, 2, 3] bcast_S1x32x2048x1_S1x32x2048x2048_0_1_2_3 d)) (broadcastInDim S1x32x2048x2048 ![] bcast_S_S1x32x2048x2048 (id (constant S_ .f32 0x00000000#32)))

/-- The result: the values mixed by the weights, the heads laid side by side, times the output weights. -/
def out (w : FVec Ideal S1x32x2048x2048 .f32) : FVec Ideal S1x2048x1024 .f32 :=
  Host.dotGeneral dot_S1x2048x4096_S4096x1024_S1x2048x1024_2_0_01_1_n_n none (shapeCast _ (transpose S1x2048x32x128 [0, 3, 1, 2] (Host.dotGeneral dot_S1x2048x32x128_S1x32x2048x2048_S1x32x128x2048_1_3_3_2_02_01 none (shapeCast _ v shapeCasts_S8x4x64x32x128_S1x2048x32x128) w) transposes_S1x32x128x2048_S1x2048x32x128_0_3_1_2) shapeCasts_S1x2048x32x128_S1x2048x4096) wo

theorem res_eq (m : (ℓ : Loc nD τ sig) → Buf (Elt Ideal) ℓ) (c : Dev nD) : res_main_v41 m c =
    out (m ((c.tc : Thread nD τ).loc main_arg3)) (m ((c.tc : Thread nD τ).loc main_arg4))
      (wt (ex (lg (sc (m ((c.tc : Thread nD τ).loc main_arg0)) (m ((c.tc : Thread nD τ).loc main_arg1)) (m ((c.tc : Thread nD τ).loc main_arg2)))))
        (den (ex (lg (sc (m ((c.tc : Thread nD τ).loc main_arg0)) (m ((c.tc : Thread nD τ).loc main_arg1)) (m ((c.tc : Thread nD τ).loc main_arg2))))))) := rfl

/-- The factor the scores are scaled by. -/
abbrev scale : EReal := Ideal.ofBits .f32 0x3DB504F3#32

/-- The query of row `i`, column `l` of the projection. -/
def qry (i : Fin 2048) (l : Fin 4096) : EReal := ∑ a : Fin 1024, x (ix3 0 i a) * wq (ix2 a l)

theorem sc_apply (h : Fin 32) (i j : Fin 2048) : sc x wq k (ix4 0 h i j)
    = (∑ e : Fin 128, qry x wq i ⟨h.val * 128 + e.val, by omega⟩
        * k (ix5 ⟨j.val / 256, by omega⟩ ⟨j.val / 64 % 4, by omega⟩ ⟨j.val % 64, by omega⟩ h e)) * scale := by
  unfold sc qry
  pointwise

/-- The word that stands for minus infinity. -/
theorem word_bot : Ideal.ofBits .f32 0xFF800000#32 = ⊥ := by
  simp [Ideal.ofBits, Ideal.ieee]

theorem lg_apply (s : FVec Ideal S1x32x2048x2048 .f32) (h : Fin 32) (i j : Fin 2048) :
    lg s (ix4 0 h i j) = if j.val / 64 % 4 = i.val / 64 % 4 then s (ix4 0 h i j) else ⊥ := by
  unfold lg
  pointwise
  rw [mask_apply, ← word_bot]
  by_cases e : j.val / 64 % 4 = i.val / 64 % 4
  · rw [if_pos e, decide_eq_true e]; rfl
  · rw [if_neg e, decide_eq_false e]; rfl

theorem ex_apply (s : FVec Ideal S1x32x2048x2048 .f32) (h : Fin 32) (i j : Fin 2048) :
    ex s (ix4 0 h i j) = Softmax.expo (fun j => s (ix4 0 h i j)) j := by
  unfold ex Softmax.expo Softmax.top
  pointwise
  rw [word_bot]

theorem den_apply (s : FVec Ideal S1x32x2048x2048 .f32) (h : Fin 32) (i : Fin 2048) :
    den s (ix4 0 h i 0) = ∑ j : Fin 2048, s (ix4 0 h i j) := by
  unfold den
  pointwise
  rw [keep_apply]
  rfl

theorem wt_apply (s : FVec Ideal S1x32x2048x2048 .f32) (d : FVec Ideal S1x32x2048x1 .f32) (h : Fin 32) (i j : Fin 2048) :
    wt s d (ix4 0 h i j) = Ideal.div (s (ix4 0 h i j)) (d (ix4 0 h i 0)) := by
  unfold wt
  pointwise
  rw [keep_apply]
  rfl

theorem out_apply (w : FVec Ideal S1x32x2048x2048 .f32) (i : Fin 2048) (n : Fin 1024) : out v wo w (ix3 0 i n)
    = ∑ l : Fin 4096, (∑ j : Fin 2048, v (ix5 ⟨j.val / 256, by omega⟩ ⟨j.val / 64 % 4, by omega⟩ ⟨j.val % 64, by omega⟩ ⟨l.val / 128, by omega⟩ ⟨l.val % 128, by omega⟩)
        * w (ix4 0 ⟨l.val / 128, by omega⟩ i j)) * wo (ix2 l n) := by
  unfold out
  pointwise

/-! ## The result, over the keys a query attends to -/

/-- The `t`-th key of the residue class `r`. -/
def key (r : Fin 4) (t : Fin 512) : Fin 2048 := ⟨t.val / 64 * 256 + r.val * 64 + t.val % 64, by omega⟩

theorem key_injective (r : Fin 4) : Function.Injective (key r) := fun t t' h => by
  have := congrArg Fin.val h
  simp only [key] at this
  exact Fin.ext (by omega)

/-- A key in the class `r` is one of those named. -/
theorem mem_range_key (r : Fin 4) (j : Fin 2048) (h : j.val / 64 % 4 = r.val) : j ∈ Set.range (key r) :=
  ⟨⟨j.val / 256 * 64 + j.val % 64, by omega⟩, Fin.ext (by simp only [key]; omega)⟩

/-- The residue class of row `i`. -/
def cls (i : Fin 2048) : Fin 4 := ⟨i.val / 64 % 4, by omega⟩

/-- The score of row `i` with the `t`-th key of its class, in head `h`; -/
def score (i : Fin 2048) (h : Fin 32) (t : Fin 512) : EReal :=
  (∑ e : Fin 128, qry x wq i ⟨h.val * 128 + e.val, by omega⟩ * k (ix5 ⟨t.val / 64, by omega⟩ (cls i) ⟨t.val % 64, by omega⟩ h e)) * scale

/-- and what the head gives for the row, at column `l` of all heads laid side by side. -/
def ctx (i : Fin 2048) (l : Fin 4096) : EReal :=
  Softmax.mix (score x wq k i ⟨l.val / 128, by omega⟩)
    (fun t => v (ix5 ⟨t.val / 64, by omega⟩ (cls i) ⟨t.val % 64, by omega⟩ ⟨l.val / 128, by omega⟩ ⟨l.val % 128, by omega⟩))

/-- The result at row `i`, column `n`. -/
def res (i : Fin 2048) (n : Fin 1024) : EReal := ∑ l : Fin 4096, ctx x wq k v i l * wo (ix2 l n)

/-- The reference computes it, when every score is a real number. -/
theorem ref_apply (hs : ∀ (i : Fin 2048) (h : Fin 32) (t : Fin 512), ∃ r : ℝ, score x wq k i h t = r) (i : Fin 2048) (n : Fin 1024) :
    out v wo (wt (ex (lg (sc x wq k))) (den (ex (lg (sc x wq k))))) (ix3 0 i n) = res x wq k v wo i n := by
  rw [out_apply]
  unfold res
  refine Finset.sum_congr rfl fun l _ => congrArg (· * _) ?_
  have hmix : (∑ j : Fin 2048, v (ix5 ⟨j.val / 256, by omega⟩ ⟨j.val / 64 % 4, by omega⟩ ⟨j.val % 64, by omega⟩ ⟨l.val / 128, by omega⟩ ⟨l.val % 128, by omega⟩)
        * wt (ex (lg (sc x wq k))) (den (ex (lg (sc x wq k)))) (ix4 0 ⟨l.val / 128, by omega⟩ i j))
      = Softmax.mix (fun j : Fin 2048 => lg (sc x wq k) (ix4 0 ⟨l.val / 128, by omega⟩ i j))
          (fun j => v (ix5 ⟨j.val / 256, by omega⟩ ⟨j.val / 64 % 4, by omega⟩ ⟨j.val % 64, by omega⟩ ⟨l.val / 128, by omega⟩ ⟨l.val % 128, by omega⟩)) := by
    unfold Softmax.mix Softmax.weight
    refine Finset.sum_congr rfl fun j _ => ?_
    rw [wt_apply, den_apply, mul_comm]
    simp only [ex_apply]
  have hsc : ∀ t : Fin 512, lg (sc x wq k) (ix4 0 ⟨l.val / 128, by omega⟩ i (key (cls i) t)) = score x wq k i ⟨l.val / 128, by omega⟩ t := fun t => by
    have e0 : (key (cls i) t).val = t.val / 64 * 256 + (cls i).val * 64 + t.val % 64 := rfl
    have e1 : (key (cls i) t).val / 64 % 4 = i.val / 64 % 4 := by
      have : (cls i).val = i.val / 64 % 4 := rfl
      omega
    rw [lg_apply, if_pos e1, sc_apply]
    unfold score
    have h1 : (key (cls i) t).val / 256 = t.val / 64 := by omega
    have h2 : (key (cls i) t).val % 64 = t.val % 64 := by omega
    simp only [h1, h2, e1]
    rfl
  rw [hmix, Softmax.mix_masked (key (cls i)) (key_injective _)]
  · unfold ctx
    refine congrArg₂ Softmax.mix (funext hsc) (funext fun t => ?_)
    have e0 : (key (cls i) t).val = t.val / 64 * 256 + (cls i).val * 64 + t.val % 64 := rfl
    have h1 : (key (cls i) t).val / 256 = t.val / 64 := by omega
    have h2 : (key (cls i) t).val % 64 = t.val % 64 := by omega
    have e1 : (key (cls i) t).val / 64 % 4 = (cls i).val := by omega
    simp only [Function.comp, h1, h2, e1]
  · intro t
    obtain ⟨r, hr⟩ := hs i ⟨l.val / 128, by omega⟩ t
    exact ⟨r, (hsc t).trans hr⟩
  · intro j hj
    rw [lg_apply, if_neg]
    exact fun e => hj (mem_range_key (cls i) j e)

end Cert.RefVal
-- ==== Proof.RingVal.lean ====
/-
# What the run leaves in the result

At extended reals rounding changes nothing, so the partial sums that go round the ring are sums of the devices' own half
chunks, all of the same rows; with the heads' columns cut over the devices, the sum over the devices is the sum over all
columns. So the result of every device is, at each element, `RefVal.res` of the whole arrays (`out_apply`).
-/
module

public import proofs.«01_k».proof.Proof.HalfVal
public import proofs.«01_k».proof.Proof.RefVal
public import proofs.«01_k».proof.Proof.Sums
public import proofs.«01_k».proof.Proof.Final
public import Idealize.ShloMosaic.Lib.Layout

@[expose] public section

noncomputable section

namespace Cert.RingVal

open Cert.KernelIdeal Cert.KernelIdeal.Gen
open Idealize.ShloMosaic Idealize.ShloMosaic.TcCoe Cert.Run Cert.RefVal

/-! ## The rounded sums -/

theorem pay13_apply (a : Vec Ideal S1x256x1024 .f32) (p : Fin 256) (n : Fin 1024) : k0_pay13 a (ix3 0 p n) = a (ix3 0 p n) := by
  unfold k0_pay13
  pointwise
theorem pay49_apply (a : Vec Ideal S1x256x1024 .f32) (b : Vec Ideal S1x256x1024 .bf16) (p : Fin 256) (n : Fin 1024) :
    k0_pay49 a b (ix2 p n) = (a (ix3 0 p n) + b (ix3 0 p n) : EReal) := by
  unfold k0_pay49
  pointwise
theorem pay51_apply (a : FVec Ideal S256x1024 .f32) (p : Fin 256) (n : Fin 1024) : k0_pay51 a (ix3 0 p n) = a (ix2 p n) := by
  unfold k0_pay51
  pointwise
theorem pay53_apply (a : FVec Ideal S256x1024 .f32) (p : Fin 256) (n : Fin 1024) : k0_pay53 a (ix3 0 p n) = a (ix2 p n) := by
  unfold k0_pay53
  pointwise
theorem pay108_apply (a : Vec Ideal S1x256x1024 .bf16) (p : Fin 256) (n : Fin 1024) : k0_pay108 a (ix3 0 p n) = a (ix3 0 p n) := by
  unfold k0_pay108
  pointwise

/-! ## The whole arrays -/

variable (m : (ℓ : Loc nD τ sig) → Buf (Elt Ideal) ℓ)
variable (x : FVec Ideal S1x2048x1024 .f32) (wq : FVec Ideal S1024x4096 .f32) (k v : FVec Ideal ⟨5, ![8, 4, 64, 32, 128]⟩ .f32) (wo : FVec Ideal S4096x1024 .f32)

/-- Each device's arguments are its part of the whole arrays. -/
structure Agree : Prop where
  x : ∀ c : Dev nD, m ((c : Thread nD τ).loc main_arg0) = x
  wq : ∀ c : Dev nD, m ((c : Thread nD τ).loc main_arg1) = wq
  k : ∀ c : Dev nD, m ((c : Thread nD τ).loc main_arg2) = Layout.block ⟨5, ![8, 4, 64, 8, 128]⟩ ⟨5, ![8, 4, 64, 32, 128]⟩ 3 4 c k
  v : ∀ c : Dev nD, m ((c : Thread nD τ).loc main_arg3) = Layout.block ⟨5, ![8, 4, 64, 8, 128]⟩ ⟨5, ![8, 4, 64, 32, 128]⟩ 3 4 c v
  wo : ∀ c : Dev nD, m ((c : Thread nD τ).loc main_arg4) = wo

/-- Column `l` of device `c`'s slice, among all columns. -/
def col (c : Dev nD) (l : Fin 1024) : Fin 4096 := ⟨l.val + 1024 * c.val, by have : c.val < 4 := c.isLt; omega⟩

/-- Row `p` of the half chunk, among all rows. -/
def rw' (c : Dev nD) (d : Fin 2) (s : Fin 4) (p : Fin 256) : Fin 2048 := ⟨row c d s + p.val, by
  have := row_inb c d s 1
  have e : (![0, row c d s, 0] : Fin 3 → Nat) 1 = row c d s := rfl
  have e1 : S1x256x1024.size 1 = 256 := rfl
  have e2 : S1x2048x1024.size 1 = 2048 := rfl
  omega⟩

theorem row_dvd : ∀ (c : Dev nD) (d : Fin 2) (s : Fin 4), row c d s % 256 = 0 := by decide

variable {m x wq k v wo}

theorem xR_apply (H : Agree m x wq k v wo) (c : Dev nD) (d : Fin 2) (s : Fin 4) (p : Fin 256) (a : Fin 1024) :
    xR m c d s (ix3 0 p a) = x (ix3 0 (rw' c d s p) a) := by
  rw [← H.x c]
  unfold xR xB
  show m _ _ = m _ _
  refine congrArg _ (funext fun b => ?_)
  fin_cases b
  · rfl
  · have h0 : win0_0.index (0 : Fin 1) 1 = 0 := rfl
    exact Fin.ext (by simp [rw', h0])
  · have h0 : win0_0.index (0 : Fin 1) 2 = 0 := rfl
    exact Fin.ext (by simp [h0])

theorem off1 (c : Dev nD) : k0_off1 c = ![0, 1024 * c.val] := by revert c; decide +kernel
theorem off2 (c : Dev nD) : k0_off2 c = ![1024 * c.val, 0] := by revert c; decide +kernel

theorem wqB_apply (H : Agree m x wq k v wo) (c : Dev nD) (a l : Fin 1024) : wqB m c (ix2 a l) = wq (ix2 a (col c l)) := by
  rw [← H.wq c]
  unfold wqB
  show m _ _ = m _ _
  refine congrArg _ (funext fun b => ?_)
  fin_cases b
  · exact Fin.ext (show k0_off1 c 0 + 1 * a.val = a.val by rw [off1]; show 0 + 1 * a.val = a.val; omega)
  · exact Fin.ext (show k0_off1 c 1 + 1 * l.val = l.val + 1024 * c.val by rw [off1]; show 1024 * c.val + 1 * l.val = _; omega)

theorem woB_apply (H : Agree m x wq k v wo) (c : Dev nD) (l n : Fin 1024) : woB m c (ix2 l n) = wo (ix2 (col c l) n) := by
  rw [← H.wo c]
  unfold woB
  show m _ _ = m _ _
  refine congrArg _ (funext fun b => ?_)
  fin_cases b
  · exact Fin.ext (show k0_off2 c 0 + 1 * l.val = l.val + 1024 * c.val by rw [off2]; show 1024 * c.val + 1 * l.val = _; omega)
  · exact Fin.ext (show k0_off2 c 1 + 1 * n.val = n.val by rw [off2]; show 0 + 1 * n.val = n.val; omega)

/-- Head `h` of device `c`'s eight, among all heads. -/
def head (c : Dev nD) (h : Fin 8) : Fin 32 := ⟨c.val * 8 + h.val, by have : c.val < 4 := c.isLt; omega⟩

theorem grp_block (c : Dev nD) (f : FVec Ideal ⟨5, ![8, 4, 64, 32, 128]⟩ .f32) (g : Vec Ideal S8x4x64x8x128 .f32)
    (hg : g = Layout.block ⟨5, ![8, 4, 64, 8, 128]⟩ ⟨5, ![8, 4, 64, 32, 128]⟩ 3 4 c f) (r : Fin 4) (h b : Fin 8) (t : Fin 64) (e : Fin 128) :
    (grp g r (ix5 0 h b t e) : EReal) = f (ix5 b r t (head c h) e) := by
  rw [hg]
  unfold grp Layout.block
  show f _ = f _
  refine congrArg f (funext fun a => ?_)
  fin_cases a <;> rfl

/-! ## One half chunk -/

/-- Device `c`'s part of the result at row `i`, column `n`. -/
def part (x : FVec Ideal S1x2048x1024 .f32) (wq : FVec Ideal S1024x4096 .f32) (k v : FVec Ideal ⟨5, ![8, 4, 64, 32, 128]⟩ .f32) (wo : FVec Ideal S4096x1024 .f32)
    (i : Fin 2048) (n : Fin 1024) (c : Dev nD) : EReal := ∑ l : Fin 1024, ctx x wq k v i (col c l) * wo (ix2 (col c l) n)

theorem half_part (H : Agree m x wq k v wo) (c : Dev nD) (d : Fin 2) (s : Fin 4) (p : Fin 256) (n : Fin 1024) :
    half m c d s (ix3 0 p n) = part x wq k v wo (rw' c d s p) n c := by
  have hrow := row_dvd c d s
  have hc : c.val < 4 := c.isLt
  have hcls : cls (rw' c d s p) = ⟨p.val / 64, by omega⟩ := Fin.ext (show (row c d s + p.val) / 64 % 4 = p.val / 64 by omega)
  unfold half part
  rw [HalfVal.half_apply]
  refine Finset.sum_congr rfl fun l _ => ?_
  rw [woB_apply H]
  refine congrArg (· * _) ?_
  have hl : (⟨(col c l).val / 128, by omega⟩ : Fin 32) = head c ⟨l.val / 128, by omega⟩ :=
    Fin.ext (show (l.val + 1024 * c.val) / 128 = c.val * 8 + l.val / 128 by omega)
  have hl' : (⟨(col c l).val % 128, by omega⟩ : Fin 128) = ⟨l.val % 128, by omega⟩ :=
    Fin.ext (show (l.val + 1024 * c.val) % 128 = l.val % 128 by omega)
  unfold HalfVal.att ctx
  rw [hl, hl', hcls]
  refine congrArg₂ Softmax.mix (funext fun t => ?_) (funext fun t => ?_)
  · unfold HalfVal.score score
    refine congrArg (· * _) (Finset.sum_congr rfl fun e _ => ?_)
    rw [hcls, grp_block c k (kB m c) (H.k c), HalfVal.pay3_apply]
    refine congrArg (· * _) ?_
    unfold qry
    refine Finset.sum_congr rfl fun a _ => ?_
    rw [xR_apply H, wqB_apply H]
    refine congrArg₂ (· * ·) (congrArg (fun i => x (ix3 0 (rw' c d s i) a)) (Fin.ext ?_)) (congrArg (fun l => wq (ix2 a l)) (Fin.ext ?_))
    · show p.val / 64 * 64 + p.val % 64 = p.val
      omega
    · show l.val / 128 * 128 + e.val + 1024 * c.val = (c.val * 8 + l.val / 128) * 128 + e.val
      omega
  · exact grp_block c v (vB m c) (H.v c) _ _ _ _ _

/-! ## The sum over the ring -/

theorem msg0_apply (H : Agree m x wq k v wo) (c : Dev nD) (d : Fin 2) (p : Fin 256) (n : Fin 1024) :
    msg m d c 0 (ix3 0 p n) = part x wq k v wo (rw' c d 0 p) n c := by
  rw [msg_zero, pay13_apply, half_part H]

theorem msgS_apply (H : Agree m x wq k v wo) (c : Dev nD) (d : Fin 2) (s : ℕ) (p : Fin 256) (n : Fin 1024) :
    msg m d c (s + 1) (ix3 0 p n) = (part x wq k v wo (rw' c d (Fin.ofNat 4 (s + 1)) p) n c + msg m d (fromD d c) s (ix3 0 p n) : EReal) := by
  rw [msg_succ, pay51_apply, pay49_apply, half_part H]

/-- The four devices a sum has been through. -/
theorem four (f : Dev nD → EReal) (d : Fin 2) (c : Dev nD) :
    f c + (f (fromD d c) + (f (fromD d (fromD d c)) + f (fromD d (fromD d (fromD d c))))) = ∑ c : Dev nD, f c := by
  have h : ∀ (d : Fin 2) (c : Dev nD), (d = 0 ∧ c = 0 ∨ d = 0 ∧ c = 1 ∨ d = 0 ∧ c = 2 ∨ d = 0 ∧ c = 3) ∨ (d = 1 ∧ c = 0 ∨ d = 1 ∧ c = 1 ∨ d = 1 ∧ c = 2 ∨ d = 1 ∧ c = 3) := by decide
  have hs : ∑ c : Dev nD, f c = f 0 + f 1 + f 2 + f 3 := Fin.sum_univ_four f
  rw [hs]
  rcases h d c with (⟨rfl, rfl⟩ | ⟨rfl, rfl⟩ | ⟨rfl, rfl⟩ | ⟨rfl, rfl⟩) | (⟨rfl, rfl⟩ | ⟨rfl, rfl⟩ | ⟨rfl, rfl⟩ | ⟨rfl, rfl⟩) <;>
    simp only [show ∀ d c, fromD d c = (⟨(c.val + if d = 0 then 3 else 1) % 4, Nat.mod_lt _ (by decide)⟩ : Dev nD) from fun _ _ => rfl] <;>
    first
      | exact (show f 0 + (f 3 + (f 2 + f 1)) = _ by ac_rfl)
      | exact (show f 1 + (f 0 + (f 3 + f 2)) = _ by ac_rfl)
      | exact (show f 2 + (f 1 + (f 0 + f 3)) = _ by ac_rfl)
      | exact (show f 3 + (f 2 + (f 1 + f 0)) = _ by ac_rfl)
      | exact (show f 0 + (f 1 + (f 2 + f 3)) = _ by ac_rfl)
      | exact (show f 1 + (f 2 + (f 3 + f 0)) = _ by ac_rfl)
      | exact (show f 2 + (f 3 + (f 0 + f 1)) = _ by ac_rfl)
      | exact (show f 3 + (f 0 + (f 1 + f 2)) = _ by ac_rfl)

theorem row_from : ∀ (c : Dev nD) (d : Fin 2), row (fromD d c) d 2 = row c d 3 ∧ row (fromD d (fromD d c)) d 1 = row c d 3
    ∧ row (fromD d (fromD d (fromD d c))) d 0 = row c d 3 := by decide

theorem rw_congr {c c' : Dev nD} {d d' : Fin 2} {s s' : Fin 4} (p : Fin 256) (h : row c d s = row c' d' s') : rw' c d s p = rw' c' d' s' p :=
  Fin.ext (show row c d s + p.val = row c' d' s' + p.val by rw [h])

/-- A finished partial sum is the sum of every device's part. -/
theorem last_apply (H : Agree m x wq k v wo) (c : Dev nD) (d : Fin 2) (p : Fin 256) (n : Fin 1024) :
    (part x wq k v wo (rw' c d 3 p) n c + msg m d (fromD d c) 2 (ix3 0 p n) : EReal) = ∑ c' : Dev nD, part x wq k v wo (rw' c d 3 p) n c' := by
  obtain ⟨h2, h1, h0⟩ := row_from c d
  rw [msgS_apply H, msgS_apply H, msg0_apply H, rw_congr p (show row (fromD d c) d (Fin.ofNat 4 (1 + 1)) = row c d 3 from h2),
    rw_congr p (show row (fromD d (fromD d c)) d (Fin.ofNat 4 (0 + 1)) = row c d 3 from h1), rw_congr p h0]
  exact four _ d c

theorem msg3_apply (H : Agree m x wq k v wo) (c : Dev nD) (d : Fin 2) (p : Fin 256) (n : Fin 1024) :
    msg m d c 3 (ix3 0 p n) = ∑ c' : Dev nD, part x wq k v wo (rw' c d 3 p) n c' := by
  rw [msgS_apply H]
  exact last_apply H c d p n

theorem row_iter : ∀ (c : Dev nD) (d : Fin 2) (s : Fin 4), s ≠ 3 → row ((fromD d)^[s.val + 1] c) d 3 = row c d s := by decide

theorem outV_apply (H : Agree m x wq k v wo) (c : Dev nD) (d : Fin 2) (s : Fin 4) (p : Fin 256) (n : Fin 1024) :
    outV m c d s (ix3 0 p n) = ∑ c' : Dev nD, part x wq k v wo (rw' c d s p) n c' := by
  unfold outV
  by_cases e : s = 3
  · rw [if_pos e, pay53_apply, pay49_apply, half_part H, e]
    exact last_apply H c d p n
  · rw [if_neg e, pay108_apply, msg3_apply H, rw_congr p (row_iter c d s e)]

/-- The devices' parts add up to the whole. -/
theorem sum_part (i : Fin 2048) (n : Fin 1024) : ∑ c : Dev nD, part x wq k v wo i n c = res x wq k v wo i n := by
  unfold part res
  rw [← Fintype.sum_prod_type' (f := fun (c : Fin 4) (l : Fin 1024) => ctx x wq k v i (col c l) * wo (ix2 (col c l) n))]
  exact Fintype.sum_equiv (finProdFinEquiv (m := 4) (n := 1024)) _ (fun l : Fin 4096 => ctx x wq k v i l * wo (ix2 l n)) fun q => rfl

/-- The result of device `c` at row `i`, column `n`. -/
theorem out_apply (H : Agree m x wq k v wo) (c : Dev nD) (i : Fin 2048) (n : Fin 1024) : outAt m c (ix3 0 i n) = res x wq k v wo i n := by
  have e : rw' c (dirOf i.val) (stepOf c i.val) ⟨i.val % 256, by omega⟩ = i := Fin.ext (by
    show row c (dirOf i.val) (stepOf c i.val) + i.val % 256 = i.val
    rw [row_of c i.val i.isLt]; omega)
  have h : outAt m c (ix3 0 i n) = outV m c (dirOf i.val) (stepOf c i.val) (ix3 0 ⟨i.val % 256, by omega⟩ n) := rfl
  rw [h, outV_apply H, e, sum_part]

end Cert.RingVal
-- ==== Proof.Finite.lean ====
/-
# What the precondition says

`finite_scores` is printed as one truth value: every element of the activations, of the query weights and of the keys is
below infinity in absolute value. Read at extended reals: each of them is a real number, so every score is.
-/
module

public import proofs.«01_k».proof.Defs

public import proofs.«01_k».proof.Proof.RefVal
public import Idealize.ShloMosaic.Lib.Pointwise

@[expose] public section

noncomputable section

namespace Cert.Finite

open Idealize.ShloMosaic

/-- And-ing truth values gives true only if each is true. -/
theorem fold_andi {ι : Type} [DecidableEq ι] (f : ι → BitVec 1) (s : Finset ι) (h : Finset.fold IntOp.andi (1#1) f s = 1#1) :
    ∀ i ∈ s, f i = 1#1 := by
  intro i hi
  rw [← Finset.insert_erase hi, Finset.fold_insert (Finset.notMem_erase _ _)] at h
  generalize Finset.fold IntOp.andi (1#1) f _ = w at h
  generalize f i = v at h ⊢
  revert v w
  decide

theorem andi_one : ∀ a b : BitVec 1, IntOp.andi a b = 1#1 → a = 1#1 ∧ b = 1#1 := by decide

/-- An and-reduction to a single truth value gives true only if every element is true. -/
theorem reduce_andi {s t u : Shape} {axes : List (Fin s.rank)} (ht : t.rank = 0) (f : s.Idx → BitVec 1) (init : u.Idx → BitVec 1) (h' : s.ReducesTo axes t) (hu : 0 < u.numel)
    (hi : ∀ j, init j = 1#1) (j : t.Idx) (h : Host.reduce IntOp.andi f init h' hu j = 1#1) (i : s.Idx) : f i = 1#1 := by
  rw [Host.reduce_eq_fold, hi] at h
  exact fold_andi f _ h i (Finset.mem_filter.2 ⟨Finset.mem_univ i, funext fun b => absurd b.isLt (by omega)⟩)

/-- The word that stands for infinity. -/
theorem word_top : Ideal.ofBits .f32 0x7F800000#32 = ⊤ := by
  simp [Ideal.ofBits, Ideal.ieee]

theorem real_of_max (y : EReal) (h : max y (-y) < ⊤) : ∃ r : ℝ, y = r := by
  induction y with
  | bot => simp at h
  | coe r => exact ⟨r, rfl⟩
  | top => simp at h

/-- Below infinity in absolute value: a real number. -/
theorem real_of_lt {s : Shape} (x : FVec Ideal s .f32) (h' : (⟨0, ![]⟩ : Shape).BroadcastsInDim s (![] : Fin 0 → Fin s.rank)) (i : s.Idx)
    (h : cmpf .olt (Host.absf x) (broadcastInDim s ![] h' (constant (⟨0, ![]⟩ : Shape) .f32 0x7F800000#32)) i = 1#1) : ∃ r : ℝ, x i = r := by
  have h1 : BitVec.ofBool (decide (max (x i) (-(x i)) < Ideal.ofBits .f32 0x7F800000#32)) = 1#1 := h
  rw [word_top] at h1
  have h2 : max (x i : EReal) (-(x i : EReal)) < ⊤ := by
    by_contra hn
    rw [decide_eq_false hn] at h1
    exact absurd h1 (by decide)
  exact real_of_max _ h2

/-- The shape relations the printed predicate states. -/
theorem factsK : Cert.Pre_finite_scores_KernelIdeal.Facts := by constructor <;> decide
theorem factsR : Cert.Pre_finite_scores_ReferenceIdeal.Facts := by constructor <;> decide

open Cert.Pre_finite_scores_KernelIdeal Cert.Pre_finite_scores_KernelIdeal.Facts in
theorem finite [Cert.Pre_finite_scores_KernelIdeal.Facts] (x : FVec Ideal S1x2048x1024 .f32) (wq : FVec Ideal S1024x4096 .f32) (k v : FVec Ideal S8x4x64x8x128 .f32) (wo : FVec Ideal S4096x1024 .f32)
    (h : fn (F := Ideal) x wq k v wo = fun _ => 1#1) :
    (∀ i, ∃ r : ℝ, x i = r) ∧ (∀ i, ∃ r : ℝ, wq i = r) ∧ (∀ i, ∃ r : ℝ, k i = r) := by
  have h0 := congrFun h ix0
  unfold fn at h0
  obtain ⟨h1, hk⟩ := andi_one _ _ h0
  obtain ⟨hx, hq⟩ := andi_one _ _ h1
  exact ⟨fun i => real_of_lt x _ i (reduce_andi rfl _ _ _ _ (fun _ => rfl) _ hx i),
    fun i => real_of_lt wq _ i (reduce_andi rfl _ _ _ _ (fun _ => rfl) _ hq i),
    fun i => real_of_lt k _ i (reduce_andi rfl _ _ _ _ (fun _ => rfl) _ hk i)⟩

/-! ## Real scores -/

/-- Sums and products of real numbers are real numbers. -/
theorem real_sum {ι : Type} [Fintype ι] (f : ι → EReal) (h : ∀ i, ∃ r : ℝ, f i = r) : ∃ r : ℝ, ∑ i, f i = r := by
  refine Finset.sum_induction f (fun a => ∃ r : ℝ, a = r) ?_ ⟨0, rfl⟩ fun i _ => h i
  rintro a b ⟨r, rfl⟩ ⟨t, rfl⟩
  exact ⟨r + t, (EReal.coe_add r t).symm⟩

theorem real_mul (a b : EReal) (ha : ∃ r : ℝ, a = r) (hb : ∃ r : ℝ, b = r) : ∃ r : ℝ, a * b = r := by
  obtain ⟨r, rfl⟩ := ha
  obtain ⟨t, rfl⟩ := hb
  exact ⟨r * t, (EReal.coe_mul r t).symm⟩

theorem real_scale : ∃ r : ℝ, RefVal.scale = r := by
  unfold RefVal.scale
  simp [Ideal.ofBits, Ideal.ieee]
  exact ⟨_, (EReal.coe_mul _ _).symm⟩

/-- Real activations, query weights and keys give real scores. -/
theorem real_score (x : FVec Ideal ⟨3, ![1, 2048, 1024]⟩ .f32) (wq : FVec Ideal ⟨2, ![1024, 4096]⟩ .f32) (k : FVec Ideal ⟨5, ![8, 4, 64, 32, 128]⟩ .f32)
    (hx : ∀ i, ∃ r : ℝ, x i = r) (hq : ∀ i, ∃ r : ℝ, wq i = r) (hk : ∀ i, ∃ r : ℝ, k i = r) (i : Fin 2048) (h : Fin 32) (t : Fin 512) :
    ∃ r : ℝ, RefVal.score x wq k i h t = r :=
  real_mul _ _ (real_sum _ fun e => real_mul _ _ (real_sum _ fun a => real_mul _ _ (hx _) (hq _)) (hk _)) real_scale

end Cert.Finite
-- ==== Proof.lean ====
/-
# The certificate

The frames of the kernel come from its run (`Proof/Final.lean`); the printed program computes the same at bits and at ideal values.
The value claim puts together what the run leaves in the result (`Proof/RingVal.lean`), what the reference computes
(`Proof/RefVal.lean`) and what the precondition says (`Proof/Finite.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.RingVal
public import proofs.«01_k».proof.Proof.Finite

@[expose] public section

noncomputable section

namespace Cert.Proof

open Idealize.ShloMosaic Idealize.SL.Sem Idealize.ShloMosaic.TcCoe

/-- The kernel's frame, at any float values. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono (fun r hr => ⟨fun c => ⟨(hr.1 c).2.1, (hr.1 c).2.2⟩, hr.2⟩) (Cert.Run.run_ends m g)

/-- The printed kernel is the same program. -/
theorem frame_kernel : Cert.quiescent_Kernel := by
  intro m g _
  rw [Cert.Run.main_same, Cert.Run.defs_same]
  exact kernel_frame m g

/-- The reference runs no kernel and declares no semaphore. -/
theorem frame_reference : Cert.quiescent_ReferenceIdeal := fun m g _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m g)

/-! ## The value claim -/

/-- Every element of the whole key array lies in some device's block. -/
theorem real_whole (k : FVec Ideal ⟨5, ![8, 4, 64, 32, 128]⟩ .f32)
    (h : ∀ (c : Fin 4) (i : (⟨5, ![8, 4, 64, 8, 128]⟩ : Shape).Idx), ∃ r : ℝ, (Layout.block ⟨5, ![8, 4, 64, 8, 128]⟩ ⟨5, ![8, 4, 64, 32, 128]⟩ 3 4 c k) i = r)
    (j : (⟨5, ![8, 4, 64, 32, 128]⟩ : Shape).Idx) : ∃ r : ℝ, k j = r := by
  have h3 : (j 3).val < 32 := (j 3).isLt
  obtain ⟨r, hr⟩ := h ⟨(j 3).val / 8, by omega⟩ (ix5 (j 0 : Fin 8) (j 1 : Fin 4) (j 2 : Fin 64) (⟨(j 3).val % 8, by omega⟩ : Fin 8) (j 4 : Fin 128))
  refine ⟨r, Eq.trans ?_ hr⟩
  show k _ = k _
  refine congrArg k (funext fun b => ?_)
  fin_cases b
  · rfl
  · rfl
  · rfl
  · exact Fin.ext (show (j 3).val = (j 3).val / 8 * 8 + (j 3).val % 8 by omega)
  · rfl

/-- The kernel's result is the reference's, element by element. -/
theorem value : Cert.algebraic_KernelIdeal_ReferenceIdeal_pre_finite_scores_KernelIdeal (hPre_finite_scores_KernelIdeal := Cert.Finite.factsK) := by
  intro m g m' g' hpre hag
  have H : Cert.RingVal.Agree m _ _ _ _ _ :=
    ⟨fun c => (hag c).1, fun c => (hag c).2.1, fun c => (hag c).2.2.1, fun c => (hag c).2.2.2.1, fun c => (hag c).2.2.2.2⟩
  have hfin := fun c => @Cert.Finite.finite Cert.Finite.factsK _ _ _ _ _ (hpre c)
  have hs := Cert.Finite.real_score (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))
    (fun i => by rw [← (hag 0).1]; exact (hfin 0).1 i) (fun i => by rw [← (hag 0).2.1]; exact (hfin 0).2.1 i)
    (real_whole _ fun c i => by rw [← (hag c).2.2.1]; exact (hfin c).2.2 i)
  have hout : ∀ c : Dev Cert.KernelIdeal.nD, Cert.Run.outAt m c = Cert.ReferenceIdeal.Value.res_main_v41 m' 0 := fun c => by
    rw [Cert.RefVal.res_eq]
    refine funext fun i => ?_
    have hi : i = ix3 (0 : Fin 1) (i 1) (i 2) := funext fun b => by
      fin_cases b
      · exact Subsingleton.elim (α := Fin 1) _ _
      · rfl
      · rfl
    rw [hi]
    exact (Cert.RingVal.out_apply H c (i 1) (i 2)).trans (Cert.RefVal.ref_apply _ _ _ _ _ hs (i 1) (i 2)).symm
  refine ⟨Cert.ReferenceIdeal.Value.res_main_v41 m' 0, ?_, ?_⟩
  · exact (θ_run (Cert.KernelIdeal.defs (F := Ideal)) _ _).mono (fun r hr c => ⟨(hr.1 c).1.trans (hout c), (hr.1 c).2.1, (hr.1 c).2.2⟩) (Cert.Run.run_ends m g)
  · exact (θ_run (Cert.ReferenceIdeal.defs (F := Ideal)) _ _).mono (fun r h => h 0) (Cert.ReferenceIdeal.Value.run (F := Ideal) m' g')

theorem claim : Cert.Claim := ⟨Cert.Kernel.Gen.facts, Cert.KernelIdeal.Gen.facts, Cert.ReferenceIdeal.Gen.facts, Cert.Finite.factsK, Cert.Finite.factsR,
  frame_kernel, fun m g _ => kernel_frame m g, fun m g _ => kernel_frame m g, frame_reference, fun m g _ => frame_reference m g trivial, trivial, value⟩

end Cert.Proof

end
